-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergedIdeal (m : (ℓ : Loc Cert.MergedIdeal.nD Cert.MergedIdeal.τ Cert.MergedIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PreparedIdeal (m : (ℓ : Loc Cert.PreparedIdeal.nD Cert.PreparedIdeal.τ Cert.PreparedIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_real_tokens [hPre_real_tokens : Cert.Pre_real_tokens.Facts] (m : (ℓ : Loc Cert.RouteIdeal.nD Cert.RouteIdeal.τ Cert.RouteIdeal.sig) → Buf (Elt Ideal) ℓ) : Prop :=
  ∀ c : Dev Cert.RouteIdeal.nD,
    (Cert.Pre_real_tokens.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RoutedIdeal (m : (ℓ : Loc Cert.RoutedIdeal.nD Cert.RoutedIdeal.τ Cert.RoutedIdeal.sig) → Buf (Elt Ideal) ℓ) : Prop :=
  True

def Pre_RoutedIdeal_real_tokens [hPre_real_tokens : Cert.Pre_real_tokens.Facts] (m : (ℓ : Loc Cert.RoutedIdeal.nD Cert.RoutedIdeal.τ Cert.RoutedIdeal.sig) → Buf (Elt Ideal) ℓ) : Prop :=
  ∀ c : Dev Cert.RoutedIdeal.nD,
    (Cert.Pre_real_tokens.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3)
      ∧ r.2.mem ((c.tc : Thread Cert.MixedIdeal.nD Cert.MixedIdeal.τ).loc Cert.MixedIdeal.main_arg4) = m ((c.tc : Thread Cert.MixedIdeal.nD Cert.MixedIdeal.τ).loc Cert.MixedIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PreparedIdeal [hPreparedIdeal : Cert.PreparedIdeal.Facts] : Prop :=
  ∀ (m : (ℓ : Loc Cert.PreparedIdeal.nD Cert.PreparedIdeal.τ Cert.PreparedIdeal.sig) → Buf (Elt Ideal) ℓ) (g : Dev Cert.PreparedIdeal.nD → PrngReg), Pre_PreparedIdeal m →
    θ_run (Cert.PreparedIdeal.defs (F := Ideal)) (onTc (τ := Cert.PreparedIdeal.τ) (Cert.PreparedIdeal.main (F := Ideal))) ⟨m, fun _ => 0, g⟩ (fun r => (∀ c : Dev Cert.PreparedIdeal.nD,
      r.2.mem ((c.tc : Thread Cert.PreparedIdeal.nD Cert.PreparedIdeal.τ).loc Cert.PreparedIdeal.main_arg0) = m ((c.tc : Thread Cert.PreparedIdeal.nD Cert.PreparedIdeal.τ).loc Cert.PreparedIdeal.main_arg0)
      ∧ r.2.mem ((c.tc : Thread Cert.PreparedIdeal.nD Cert.PreparedIdeal.τ).loc Cert.PreparedIdeal.main_arg1) = m ((c.tc : Thread Cert.PreparedIdeal.nD Cert.PreparedIdeal.τ).loc Cert.PreparedIdeal.main_arg1)
      ∧ r.2.mem ((c.tc : Thread Cert.PreparedIdeal.nD Cert.PreparedIdeal.τ).loc Cert.PreparedIdeal.main_arg2) = m ((c.tc : Thread Cert.PreparedIdeal.nD Cert.PreparedIdeal.τ).loc Cert.PreparedIdeal.main_arg2)
      ∧ r.2.mem ((c.tc : Thread Cert.PreparedIdeal.nD Cert.PreparedIdeal.τ).loc Cert.PreparedIdeal.main_arg3) = m ((c.tc : Thread Cert.PreparedIdeal.nD Cert.PreparedIdeal.τ).loc Cert.PreparedIdeal.main_arg3)
      ∧ r.2.mem ((c.tc : Thread Cert.PreparedIdeal.nD Cert.PreparedIdeal.τ).loc Cert.PreparedIdeal.main_arg4) = m ((c.tc : Thread Cert.PreparedIdeal.nD Cert.PreparedIdeal.τ).loc Cert.PreparedIdeal.main_arg4)
      ∧ r.2.mem ((c.tc : Thread Cert.PreparedIdeal.nD Cert.PreparedIdeal.τ).loc Cert.PreparedIdeal.main_arg5) = m ((c.tc : Thread Cert.PreparedIdeal.nD Cert.PreparedIdeal.τ).loc Cert.PreparedIdeal.main_arg5)
      ∧ r.2.mem ((c.tc : Thread Cert.PreparedIdeal.nD Cert.PreparedIdeal.τ).loc Cert.PreparedIdeal.main_arg6) = m ((c.tc : Thread Cert.PreparedIdeal.nD Cert.PreparedIdeal.τ).loc Cert.PreparedIdeal.main_arg6)
      ∧ r.2.mem ((c.tc : Thread Cert.PreparedIdeal.nD Cert.PreparedIdeal.τ).loc Cert.PreparedIdeal.main_arg7) = m ((c.tc : Thread Cert.PreparedIdeal.nD Cert.PreparedIdeal.τ).loc Cert.PreparedIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_real_tokens [hRouteIdeal : Cert.RouteIdeal.Facts] [hPre_real_tokens : Cert.Pre_real_tokens.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_real_tokens m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RoutedIdeal [hRoutedIdeal : Cert.RoutedIdeal.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2))
      ∧ r.2.sem = fun _ => 0)

def quiescent_RoutedIdeal_pre_real_tokens [hRoutedIdeal : Cert.RoutedIdeal.Facts] [hPre_real_tokens : Cert.Pre_real_tokens.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal_real_tokens m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Project_ProjectIdeal : Prop :=
  True

def algebraic_ProjectIdeal_ProjectedIdeal [hProjectIdeal : Cert.ProjectIdeal.Facts] [hProjectedIdeal : Cert.ProjectedIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectIdeal m →
    (∀ c : Dev Cert.ProjectIdeal.nD,
      m' ((c.tc : Thread Cert.ProjectedIdeal.nD Cert.ProjectedIdeal.τ).loc Cert.ProjectedIdeal.main_arg0) = m ((c.tc : Thread Cert.ProjectIdeal.nD Cert.ProjectIdeal.τ).loc Cert.ProjectIdeal.main_arg0)
      ∧ m' ((c.tc : Thread Cert.ProjectedIdeal.nD Cert.ProjectedIdeal.τ).loc Cert.ProjectedIdeal.main_arg1) = m ((c.tc : Thread Cert.ProjectIdeal.nD Cert.ProjectIdeal.τ).loc Cert.ProjectIdeal.main_arg1)
      ∧ m' ((c.tc : Thread Cert.ProjectedIdeal.nD Cert.ProjectedIdeal.τ).loc Cert.ProjectedIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v23)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v23) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v26) = v0 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2))

def preserves_Dense_DenseIdeal : Prop :=
  True

def algebraic_DenseIdeal_MixedIdeal [hDenseIdeal : Cert.DenseIdeal.Facts] [hMixedIdeal : Cert.MixedIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.MixedIdeal.nD Cert.MixedIdeal.τ Cert.MixedIdeal.sig) → Buf (Elt Ideal) ℓ) (g' : Dev Cert.MixedIdeal.nD → PrngReg), Pre_DenseIdeal m →
    (∀ c : Dev Cert.DenseIdeal.nD,
      m' ((c.tc : Thread Cert.MixedIdeal.nD Cert.MixedIdeal.τ).loc Cert.MixedIdeal.main_arg0) = m ((c.tc : Thread Cert.DenseIdeal.nD Cert.DenseIdeal.τ).loc Cert.DenseIdeal.main_arg0)
      ∧ m' ((c.tc : Thread Cert.MixedIdeal.nD Cert.MixedIdeal.τ).loc Cert.MixedIdeal.main_arg1) = m ((c.tc : Thread Cert.DenseIdeal.nD Cert.DenseIdeal.τ).loc Cert.DenseIdeal.main_arg1)
      ∧ m' ((c.tc : Thread Cert.MixedIdeal.nD Cert.MixedIdeal.τ).loc Cert.MixedIdeal.main_arg2) = m ((c.tc : Thread Cert.DenseIdeal.nD Cert.DenseIdeal.τ).loc Cert.DenseIdeal.main_arg2)
      ∧ m' ((c.tc : Thread Cert.MixedIdeal.nD Cert.MixedIdeal.τ).loc Cert.MixedIdeal.main_arg3) = m ((c.tc : Thread Cert.DenseIdeal.nD Cert.DenseIdeal.τ).loc Cert.DenseIdeal.main_arg3)
      ∧ m' ((c.tc : Thread Cert.MixedIdeal.nD Cert.MixedIdeal.τ).loc Cert.MixedIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v18) = v0 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3)
          ∧ r.2.mem ((c.tc : Thread Cert.MixedIdeal.nD Cert.MixedIdeal.τ).loc Cert.MixedIdeal.main_arg4) = m' ((c.tc : Thread Cert.MixedIdeal.nD Cert.MixedIdeal.τ).loc Cert.MixedIdeal.main_arg4))

def preserves_Merge_MergeIdeal : Prop :=
  True

def algebraic_MergeIdeal_MergedIdeal [hMergeIdeal : Cert.MergeIdeal.Facts] [hMergedIdeal : Cert.MergedIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergedIdeal.nD Cert.MergedIdeal.τ Cert.MergedIdeal.sig) → Buf (Elt Ideal) ℓ) (g' : Dev Cert.MergedIdeal.nD → PrngReg), Pre_MergeIdeal m →
    (∀ c : Dev Cert.MergeIdeal.nD,
      m' ((c.tc : Thread Cert.MergedIdeal.nD Cert.MergedIdeal.τ).loc Cert.MergedIdeal.main_arg0) = m ((c.tc : Thread Cert.MergeIdeal.nD Cert.MergeIdeal.τ).loc Cert.MergeIdeal.main_arg0)
      ∧ m' ((c.tc : Thread Cert.MergedIdeal.nD Cert.MergedIdeal.τ).loc Cert.MergedIdeal.main_arg1) = m ((c.tc : Thread Cert.MergeIdeal.nD Cert.MergeIdeal.τ).loc Cert.MergeIdeal.main_arg1)
      ∧ m' ((c.tc : Thread Cert.MergedIdeal.nD Cert.MergedIdeal.τ).loc Cert.MergedIdeal.main_arg2) = m ((c.tc : Thread Cert.MergeIdeal.nD Cert.MergeIdeal.τ).loc Cert.MergeIdeal.main_arg2)
      ∧ m' ((c.tc : Thread Cert.MergedIdeal.nD Cert.MergedIdeal.τ).loc Cert.MergedIdeal.main_arg3) = m ((c.tc : Thread Cert.MergeIdeal.nD Cert.MergeIdeal.τ).loc Cert.MergeIdeal.main_arg3)
      ∧ m' ((c.tc : Thread Cert.MergedIdeal.nD Cert.MergedIdeal.τ).loc Cert.MergedIdeal.main_arg4) = m ((c.tc : Thread Cert.MergeIdeal.nD Cert.MergeIdeal.τ).loc Cert.MergeIdeal.main_arg4)
      ∧ m' ((c.tc : Thread Cert.MergedIdeal.nD Cert.MergedIdeal.τ).loc Cert.MergedIdeal.main_arg5) = m ((c.tc : Thread Cert.MergeIdeal.nD Cert.MergeIdeal.τ).loc Cert.MergeIdeal.main_arg5)
      ∧ m' ((c.tc : Thread Cert.MergedIdeal.nD Cert.MergedIdeal.τ).loc Cert.MergedIdeal.main_arg6) = m ((c.tc : Thread Cert.MergeIdeal.nD Cert.MergeIdeal.τ).loc Cert.MergeIdeal.main_arg6)
      ∧ m' ((c.tc : Thread Cert.MergedIdeal.nD Cert.MergedIdeal.τ).loc Cert.MergedIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergedIdeal.defs (F := Ideal)) (onTc (τ := Cert.MergedIdeal.τ) (Cert.MergedIdeal.main (F := Ideal))) ⟨m', fun _ => 0, g'⟩ (fun r => ∀ c : Dev Cert.MergedIdeal.nD,
          r.2.mem ((c.tc : Thread Cert.MergedIdeal.nD Cert.MergedIdeal.τ).loc Cert.MergedIdeal.main_v56) = v0 c
          ∧ r.2.mem ((c.tc : Thread Cert.MergedIdeal.nD Cert.MergedIdeal.τ).loc Cert.MergedIdeal.main_arg0) = m' ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m' ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m' ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m' ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m' ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m' ((c.tc : Thread Cert.MergedIdeal.nD Cert.MergedIdeal.τ).loc Cert.MergedIdeal.main_arg5)
          ∧ r.2.mem ((c.tc : Thread Cert.MergedIdeal.nD Cert.MergedIdeal.τ).loc Cert.MergedIdeal.main_arg6) = m' ((c.tc : Thread Cert.MergedIdeal.nD Cert.MergedIdeal.τ).loc Cert.MergedIdeal.main_arg6)
          ∧ r.2.mem ((c.tc : Thread Cert.MergedIdeal.nD Cert.MergedIdeal.τ).loc Cert.MergedIdeal.main_arg7) = m' ((c.tc : Thread Cert.MergedIdeal.nD Cert.MergedIdeal.τ).loc Cert.MergedIdeal.main_arg7))

def preserves_Prep_PrepIdeal : Prop :=
  IdealRules.named_const.Statement Cert.PrepIdeal.κ "scale" .f32 0x3E16C740#32 (((Real.sqrt 96)⁻¹ * (Real.log 2)⁻¹ : ℝ) : EReal)
  ∧ IdealRules.named_const.Statement Cert.PrepIdeal.κ "inv_features" .f32 0x3C2AAAAB#32 ((1 / 96 : ℝ) : EReal)

def algebraic_PrepIdeal_PreparedIdeal [hPrepIdeal : Cert.PrepIdeal.Facts] [hPreparedIdeal : Cert.PreparedIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PreparedIdeal.nD Cert.PreparedIdeal.τ Cert.PreparedIdeal.sig) → Buf (Elt Ideal) ℓ) (g' : Dev Cert.PreparedIdeal.nD → PrngReg), Pre_PrepIdeal m →
    (∀ c : Dev Cert.PrepIdeal.nD,
      m' ((c.tc : Thread Cert.PreparedIdeal.nD Cert.PreparedIdeal.τ).loc Cert.PreparedIdeal.main_arg0) = m ((c.tc : Thread Cert.PrepIdeal.nD Cert.PrepIdeal.τ).loc Cert.PrepIdeal.main_arg0)
      ∧ m' ((c.tc : Thread Cert.PreparedIdeal.nD Cert.PreparedIdeal.τ).loc Cert.PreparedIdeal.main_arg1) = m ((c.tc : Thread Cert.PrepIdeal.nD Cert.PrepIdeal.τ).loc Cert.PrepIdeal.main_arg1)
      ∧ m' ((c.tc : Thread Cert.PreparedIdeal.nD Cert.PreparedIdeal.τ).loc Cert.PreparedIdeal.main_arg2) = m ((c.tc : Thread Cert.PrepIdeal.nD Cert.PrepIdeal.τ).loc Cert.PrepIdeal.main_arg2)
      ∧ m' ((c.tc : Thread Cert.PreparedIdeal.nD Cert.PreparedIdeal.τ).loc Cert.PreparedIdeal.main_arg3) = m ((c.tc : Thread Cert.PrepIdeal.nD Cert.PrepIdeal.τ).loc Cert.PrepIdeal.main_arg3)
      ∧ m' ((c.tc : Thread Cert.PreparedIdeal.nD Cert.PreparedIdeal.τ).loc Cert.PreparedIdeal.main_arg4) = m ((c.tc : Thread Cert.PrepIdeal.nD Cert.PrepIdeal.τ).loc Cert.PrepIdeal.main_arg4)
      ∧ m' ((c.tc : Thread Cert.PreparedIdeal.nD Cert.PreparedIdeal.τ).loc Cert.PreparedIdeal.main_arg5) = m ((c.tc : Thread Cert.PrepIdeal.nD Cert.PrepIdeal.τ).loc Cert.PrepIdeal.main_arg5)
      ∧ m' ((c.tc : Thread Cert.PreparedIdeal.nD Cert.PreparedIdeal.τ).loc Cert.PreparedIdeal.main_arg6) = m ((c.tc : Thread Cert.PrepIdeal.nD Cert.PrepIdeal.τ).loc Cert.PrepIdeal.main_arg6)
      ∧ m' ((c.tc : Thread Cert.PreparedIdeal.nD Cert.PreparedIdeal.τ).loc Cert.PreparedIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v16_0)) (v1 : (c : Dev Cert.PrepIdeal.nD) → Buf (Elt Ideal) ((c.tc : Thread Cert.PrepIdeal.nD Cert.PrepIdeal.τ).loc Cert.PrepIdeal.main_v16_1)) (v2 : (c : Dev Cert.PrepIdeal.nD) → Buf (Elt Ideal) ((c.tc : Thread Cert.PrepIdeal.nD Cert.PrepIdeal.τ).loc Cert.PrepIdeal.main_v16_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v16_0) = v0 c
          ∧ r.2.mem ((c.tc : Thread Cert.PrepIdeal.nD Cert.PrepIdeal.τ).loc Cert.PrepIdeal.main_v16_1) = v1 c
          ∧ r.2.mem ((c.tc : Thread Cert.PrepIdeal.nD Cert.PrepIdeal.τ).loc Cert.PrepIdeal.main_v16_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PreparedIdeal.defs (F := Ideal)) (onTc (τ := Cert.PreparedIdeal.τ) (Cert.PreparedIdeal.main (F := Ideal))) ⟨m', fun _ => 0, g'⟩ (fun r => ∀ c : Dev Cert.PreparedIdeal.nD,
          r.2.mem ((c.tc : Thread Cert.PreparedIdeal.nD Cert.PreparedIdeal.τ).loc Cert.PreparedIdeal.main_v108) = v0 c
          ∧ r.2.mem ((c.tc : Thread Cert.PreparedIdeal.nD Cert.PreparedIdeal.τ).loc Cert.PreparedIdeal.main_v124) = v1 c
          ∧ r.2.mem ((c.tc : Thread Cert.PreparedIdeal.nD Cert.PreparedIdeal.τ).loc Cert.PreparedIdeal.main_v126) = v2 c
          ∧ r.2.mem ((c.tc : Thread Cert.PreparedIdeal.nD Cert.PreparedIdeal.τ).loc Cert.PreparedIdeal.main_arg0) = m' ((c.tc : Thread Cert.PreparedIdeal.nD Cert.PreparedIdeal.τ).loc Cert.PreparedIdeal.main_arg0)
          ∧ r.2.mem ((c.tc : Thread Cert.PreparedIdeal.nD Cert.PreparedIdeal.τ).loc Cert.PreparedIdeal.main_arg1) = m' ((c.tc : Thread Cert.PreparedIdeal.nD Cert.PreparedIdeal.τ).loc Cert.PreparedIdeal.main_arg1)
          ∧ r.2.mem ((c.tc : Thread Cert.PreparedIdeal.nD Cert.PreparedIdeal.τ).loc Cert.PreparedIdeal.main_arg2) = m' ((c.tc : Thread Cert.PreparedIdeal.nD Cert.PreparedIdeal.τ).loc Cert.PreparedIdeal.main_arg2)
          ∧ r.2.mem ((c.tc : Thread Cert.PreparedIdeal.nD Cert.PreparedIdeal.τ).loc Cert.PreparedIdeal.main_arg3) = m' ((c.tc : Thread Cert.PreparedIdeal.nD Cert.PreparedIdeal.τ).loc Cert.PreparedIdeal.main_arg3)
          ∧ r.2.mem ((c.tc : Thread Cert.PreparedIdeal.nD Cert.PreparedIdeal.τ).loc Cert.PreparedIdeal.main_arg4) = m' ((c.tc : Thread Cert.PreparedIdeal.nD Cert.PreparedIdeal.τ).loc Cert.PreparedIdeal.main_arg4)
          ∧ r.2.mem ((c.tc : Thread Cert.PreparedIdeal.nD Cert.PreparedIdeal.τ).loc Cert.PreparedIdeal.main_arg5) = m' ((c.tc : Thread Cert.PreparedIdeal.nD Cert.PreparedIdeal.τ).loc Cert.PreparedIdeal.main_arg5)
          ∧ r.2.mem ((c.tc : Thread Cert.PreparedIdeal.nD Cert.PreparedIdeal.τ).loc Cert.PreparedIdeal.main_arg6) = m' ((c.tc : Thread Cert.PreparedIdeal.nD Cert.PreparedIdeal.τ).loc Cert.PreparedIdeal.main_arg6)
          ∧ r.2.mem ((c.tc : Thread Cert.PreparedIdeal.nD Cert.PreparedIdeal.τ).loc Cert.PreparedIdeal.main_arg7) = m' ((c.tc : Thread Cert.PreparedIdeal.nD Cert.PreparedIdeal.τ).loc Cert.PreparedIdeal.main_arg7))

def preserves_Route_RouteIdeal : Prop :=
  True

def algebraic_RouteIdeal_RoutedIdeal_pre_real_tokens [hRouteIdeal : Cert.RouteIdeal.Facts] [hRoutedIdeal : Cert.RoutedIdeal.Facts] [hPre_real_tokens : Cert.Pre_real_tokens.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RoutedIdeal.nD Cert.RoutedIdeal.τ Cert.RoutedIdeal.sig) → Buf (Elt Ideal) ℓ) (g' : Dev Cert.RoutedIdeal.nD → PrngReg), Pre_RouteIdeal_real_tokens m →
    (∀ c : Dev Cert.RouteIdeal.nD,
      m' ((c.tc : Thread Cert.RoutedIdeal.nD Cert.RoutedIdeal.τ).loc Cert.RoutedIdeal.main_arg0) = m ((c.tc : Thread Cert.RouteIdeal.nD Cert.RouteIdeal.τ).loc Cert.RouteIdeal.main_arg0)
      ∧ m' ((c.tc : Thread Cert.RoutedIdeal.nD Cert.RoutedIdeal.τ).loc Cert.RoutedIdeal.main_arg1) = m ((c.tc : Thread Cert.RouteIdeal.nD Cert.RouteIdeal.τ).loc Cert.RouteIdeal.main_arg1)
      ∧ m' ((c.tc : Thread Cert.RoutedIdeal.nD Cert.RoutedIdeal.τ).loc Cert.RoutedIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v1_0)) (v1 : (c : Dev Cert.RouteIdeal.nD) → Buf (Elt Ideal) ((c.tc : Thread Cert.RouteIdeal.nD Cert.RouteIdeal.τ).loc Cert.RouteIdeal.main_v1_1)) (v2 : (c : Dev Cert.RouteIdeal.nD) → Buf (Elt Ideal) ((c.tc : Thread Cert.RouteIdeal.nD Cert.RouteIdeal.τ).loc Cert.RouteIdeal.main_v1_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v1_0) = v0 c
          ∧ r.2.mem ((c.tc : Thread Cert.RouteIdeal.nD Cert.RouteIdeal.τ).loc Cert.RouteIdeal.main_v1_1) = v1 c
          ∧ r.2.mem ((c.tc : Thread Cert.RouteIdeal.nD Cert.RouteIdeal.τ).loc Cert.RouteIdeal.main_v1_2) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RoutedIdeal.defs (F := Ideal)) (onTc (τ := Cert.RoutedIdeal.τ) (Cert.RoutedIdeal.main (F := Ideal))) ⟨m', fun _ => 0, g'⟩ (fun r => ∀ c : Dev Cert.RoutedIdeal.nD,
          r.2.mem ((c.tc : Thread Cert.RoutedIdeal.nD Cert.RoutedIdeal.τ).loc Cert.RoutedIdeal.main_v14) = v0 c
          ∧ r.2.mem ((c.tc : Thread Cert.RoutedIdeal.nD Cert.RoutedIdeal.τ).loc Cert.RoutedIdeal.main_indices) = v1 c
          ∧ r.2.mem ((c.tc : Thread Cert.RoutedIdeal.nD Cert.RoutedIdeal.τ).loc Cert.RoutedIdeal.main_v25) = v2 c
          ∧ r.2.mem ((c.tc : Thread Cert.RoutedIdeal.nD Cert.RoutedIdeal.τ).loc Cert.RoutedIdeal.main_arg0) = m' ((c.tc : Thread Cert.RoutedIdeal.nD Cert.RoutedIdeal.τ).loc Cert.RoutedIdeal.main_arg0)
          ∧ r.2.mem ((c.tc : Thread Cert.RoutedIdeal.nD Cert.RoutedIdeal.τ).loc Cert.RoutedIdeal.main_arg1) = m' ((c.tc : Thread Cert.RoutedIdeal.nD Cert.RoutedIdeal.τ).loc Cert.RoutedIdeal.main_arg1)
          ∧ r.2.mem ((c.tc : Thread Cert.RoutedIdeal.nD Cert.RoutedIdeal.τ).loc Cert.RoutedIdeal.main_arg2) = m' ((c.tc : Thread Cert.RoutedIdeal.nD Cert.RoutedIdeal.τ).loc Cert.RoutedIdeal.main_arg2))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectedIdeal : Cert.ProjectedIdeal.Facts) (hDense : Cert.Dense.Facts) (hDenseIdeal : Cert.DenseIdeal.Facts) (hMixedIdeal : Cert.MixedIdeal.Facts) (hMerge : Cert.Merge.Facts) (hMergeIdeal : Cert.MergeIdeal.Facts) (hMergedIdeal : Cert.MergedIdeal.Facts) (hPrep : Cert.Prep.Facts) (hPrepIdeal : Cert.PrepIdeal.Facts) (hPreparedIdeal : Cert.PreparedIdeal.Facts) (hRoute : Cert.Route.Facts) (hRouteIdeal : Cert.RouteIdeal.Facts) (hRoutedIdeal : Cert.RoutedIdeal.Facts) (hPre_finite : Cert.Pre_finite.Facts) (hPre_real_tokens : Cert.Pre_real_tokens.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Project (hProject := hProject)
    ∧ quiescent_ProjectIdeal (hProjectIdeal := hProjectIdeal)
    ∧ quiescent_ProjectedIdeal (hProjectedIdeal := hProjectedIdeal)
    ∧ quiescent_Dense (hDense := hDense)
    ∧ quiescent_DenseIdeal (hDenseIdeal := hDenseIdeal)
    ∧ quiescent_MixedIdeal (hMixedIdeal := hMixedIdeal)
    ∧ quiescent_Merge (hMerge := hMerge)
    ∧ quiescent_MergeIdeal (hMergeIdeal := hMergeIdeal)
    ∧ quiescent_MergedIdeal (hMergedIdeal := hMergedIdeal)
    ∧ quiescent_Prep (hPrep := hPrep)
    ∧ quiescent_PrepIdeal (hPrepIdeal := hPrepIdeal)
    ∧ quiescent_PreparedIdeal (hPreparedIdeal := hPreparedIdeal)
    ∧ quiescent_Route (hRoute := hRoute)
    ∧ quiescent_RouteIdeal (hRouteIdeal := hRouteIdeal)
    ∧ quiescent_RouteIdeal_pre_real_tokens (hRouteIdeal := hRouteIdeal) (hPre_real_tokens := hPre_real_tokens)
    ∧ quiescent_RoutedIdeal (hRoutedIdeal := hRoutedIdeal)
    ∧ quiescent_RoutedIdeal_pre_real_tokens (hRoutedIdeal := hRoutedIdeal) (hPre_real_tokens := hPre_real_tokens)
    ∧ preserves_Kernel_KernelIdeal
    ∧ algebraic_KernelIdeal_ReferenceIdeal_pre_finite (hKernelIdeal := hKernelIdeal) (hReferenceIdeal := hReferenceIdeal) (hPre_finite := hPre_finite)
    ∧ preserves_Project_ProjectIdeal
    ∧ algebraic_ProjectIdeal_ProjectedIdeal (hProjectIdeal := hProjectIdeal) (hProjectedIdeal := hProjectedIdeal)
    ∧ preserves_Dense_DenseIdeal
    ∧ algebraic_DenseIdeal_MixedIdeal (hDenseIdeal := hDenseIdeal) (hMixedIdeal := hMixedIdeal)
    ∧ preserves_Merge_MergeIdeal
    ∧ algebraic_MergeIdeal_MergedIdeal (hMergeIdeal := hMergeIdeal) (hMergedIdeal := hMergedIdeal)
    ∧ preserves_Prep_PrepIdeal
    ∧ algebraic_PrepIdeal_PreparedIdeal (hPrepIdeal := hPrepIdeal) (hPreparedIdeal := hPreparedIdeal)
    ∧ preserves_Route_RouteIdeal
    ∧ algebraic_RouteIdeal_RoutedIdeal_pre_real_tokens (hRouteIdeal := hRouteIdeal) (hRoutedIdeal := hRoutedIdeal) (hPre_real_tokens := hPre_real_tokens)
-- ==== Pre_finite.lean ====
abbrev S4x4096x8x96 : Shape := ⟨4, ![4, 4096, 8, 96]⟩
abbrev S4x4096x8x64 : Shape := ⟨4, ![4, 4096, 8, 64]⟩
abbrev S_ : Shape := ⟨0, ![]⟩

class Facts : Prop where
  bcast_S_S4x4096x8x96 : S_.BroadcastsInDim S4x4096x8x96 (![] : Fin 0 → Fin S4x4096x8x96.rank)
  reducesTo_S4x4096x8x96_S_d0_1_2_3 : S4x4096x8x96.ReducesTo [0, 1, 2, 3] S_
  h_S_ : 0 < S_.numel
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_

variable [Facts]

def fn {F : FTy → Type} [FloatOps F] (main_arg0 : FVec F S4x4096x8x96 .f32) (main_arg1 : FVec F S4x4096x8x96 .f32) (main_arg2 : FVec F S4x4096x8x64 .f32) : IVec S_ 1 :=
  let main_v0 : FVec F S4x4096x8x96 .f32 := Host.absf main_arg0
  let main_cst : FVec F S_ .f32 := constant S_ .f32 0x7F800000#32
  let main_v1 : FVec F S4x4096x8x96 .f32 := broadcastInDim S4x4096x8x96 ![] bcast_S_S4x4096x8x96 main_cst
  let main_v2 : IVec S4x4096x8x96 1 := cmpf .olt main_v0 main_v1
  let main_c : IVec S_ 1 := constantI S_ 1 1#1
  let main_v3 : IVec S_ 1 := (fun x v => Host.reduce IntOp.andi x v reducesTo_S4x4096x8x96_S_d0_1_2_3 h_S_) main_v2 main_c
  let main_v4 : FVec F S4x4096x8x96 .f32 := Host.absf main_arg1
  let main_cst_0 : FVec F S_ .f32 := constant S_ .f32 0x7F800000#32
  let main_v5 : FVec F S4x4096x8x96 .f32 := broadcastInDim S4x4096x8x96 ![] bcast_S_S4x4096x8x96 main_cst_0
  let main_v6 : IVec S4x4096x8x96 1 := cmpf .olt main_v4 main_v5
  let main_c_1 : IVec S_ 1 := constantI S_ 1 1#1
  let main_v7 : IVec S_ 1 := (fun x v => Host.reduce IntOp.andi x v reducesTo_S4x4096x8x96_S_d0_1_2_3 h_S_) main_v6 main_c_1
  let main_v8 : IVec S_ 1 := andi main_v3 main_v7
  let main_v9 : FVec F S4x4096x8x64 .f32 := Host.absf main_arg2
  let main_cst_2 : FVec F S_ .f32 := constant S_ .f32 0x7F800000#32
  let main_v10 : FVec F S4x4096x8x64 .f32 := broadcastInDim S4x4096x8x64 ![] bcast_S_S4x4096x8x64 main_cst_2
  let main_v11 : IVec S4x4096x8x64 1 := cmpf .olt main_v9 main_v10
  let main_c_3 : IVec S_ 1 := constantI S_ 1 1#1
  let main_v12 : IVec S_ 1 := (fun x v => Host.reduce IntOp.andi x v reducesTo_S4x4096x8x64_S_d0_1_2_3 h_S_) main_v11 main_c_3
  let main_v13 : IVec S_ 1 := andi main_v8 main_v12
  main_v13
-- ==== Pre_real_tokens.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x1024 .f32) (main_arg1 : FVec F S1024 .f32) (main_arg2 : FVec F S1024x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x8 .f32 := Host.absf main_arg2
  let main_cst_2 : FVec F S_ .f32 := constant S_ .f32 0x7F800000#32
  let main_v10 : FVec F S1024x8 .f32 := broadcastInDim S1024x8 ![] bcast_S_S1024x8 main_cst_2
  let main_v11 : IVec S1024x8 1 := cmpf .olt main_v9 main_v10
  let main_c_3 : IVec S_ 1 := constantI S_ 1 1#1
  let main_v12 : IVec S_ 1 := (fun x v => Host.reduce IntOp.andi x v reducesTo_S1024x8_S_d0_1 h_S_) main_v11 main_c_3
  let main_v13 : IVec S_ 1 := andi main_v8 main_v12
  main_v13
-- ==== Kernel.lean ====
abbrev S4x4096x8x96 : Shape := ⟨4, ![4, 4096, 8, 96]⟩
abbrev S4x4096x8x64 : Shape := ⟨4, ![4, 4096, 8, 64]⟩
abbrev S_ : Shape := ⟨0, ![]⟩
abbrev S4x8x96x4096 : Shape := ⟨4, ![4, 8, 96, 4096]⟩
abbrev S4x8x128x4096 : Shape := ⟨4, ![4, 8, 128, 4096]⟩
abbrev S4x8x4096x96 : Shape := ⟨4, ![4, 8, 4096, 96]⟩
abbrev S4x8x4096x128 : Shape := ⟨4, ![4, 8, 4096, 128]⟩
abbrev S4x8x512x8x64 : Shape := ⟨5, ![4, 8, 512, 8, 64]⟩
abbrev S4x8x8x64x512 : Shape := ⟨5, ![4, 8, 8, 64, 512]⟩
abbrev S4x8x8x16x512 : Shape := ⟨5, ![4, 8, 8, 16, 512]⟩
abbrev S4x8x8x80x512 : Shape := ⟨5, ![4, 8, 8, 80, 512]⟩
abbrev S4x8x64x4096 : Shape := ⟨4, ![4, 8, 64, 4096]⟩
abbrev S1x4x128x512 : Shape := ⟨4, ![1, 4, 128, 512]⟩
abbrev S1x4x4096x128 : Shape := ⟨4, ![1, 4, 4096, 128]⟩
abbrev S1x4x8x80x512 : Shape := ⟨5, ![1, 4, 8, 80, 512]⟩
abbrev S1x4x64x512 : Shape := ⟨4, ![1, 4, 64, 512]⟩
abbrev S1x512 : Shape := ⟨2, ![1, 512]⟩
abbrev S80x512 : Shape := ⟨2, ![80, 512]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S512x512 : Shape := ⟨2, ![512, 512]⟩
abbrev S512 : Shape := ⟨1, ![512]⟩
abbrev S1x1x1x80x512 : Shape := ⟨5, ![1, 1, 1, 80, 512]⟩
abbrev S64x512 : Shape := ⟨2, ![64, 512]⟩
abbrev S1x1x64x512 : Shape := ⟨4, ![1, 1, 64, 512]⟩

abbrev nBuf : Space → Nat
  | .hbm => 37
  | .vmem => 8
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x4096x8x96, .f32⟩
  | .hbm, ⟨11, _⟩ => ⟨S4x4096x8x96, .f32⟩
  | .hbm, ⟨12, _⟩ => ⟨S4x8x96x4096, .f32⟩
  | .hbm, ⟨13, _⟩ => ⟨S_, .i32⟩
  | .hbm, ⟨14, _⟩ => ⟨S_, .f32⟩
  | .hbm, ⟨15, _⟩ => ⟨S4x8x128x4096, .f32⟩
  | .hbm, ⟨16, _⟩ => ⟨S4x8x128x4096, .bf16⟩
  | .hbm, ⟨17, _⟩ => ⟨S4x8x4096x96, .f32⟩
  | .hbm, ⟨18, _⟩ => ⟨S_, .i32⟩
  | .hbm, ⟨19, _⟩ => ⟨S_, .f32⟩
  | .hbm, ⟨20, _⟩ => ⟨S4x8x4096x128, .f32⟩
  | .hbm, ⟨21, _⟩ => ⟨S4x8x4096x128, .bf16⟩
  | .hbm, ⟨22, _⟩ => ⟨S4x8x512x8x64, .f32⟩
  | .hbm, ⟨23, _⟩ => ⟨S4x8x8x64x512, .f32⟩
  | .hbm, ⟨24, _⟩ => ⟨S4x8x8x16x512, .i32⟩
  | .hbm, ⟨25, _⟩ => ⟨S_, .i32⟩
  | .hbm, ⟨26, _⟩ => ⟨S4x8x8x16x512, .i32⟩
  | .hbm, ⟨27, _⟩ => ⟨S4x8x8x16x512, .i1⟩
  | .hbm, ⟨28, _⟩ => ⟨S_, .f32⟩
  | .hbm, ⟨29, _⟩ => ⟨S_, .f32⟩
  | .hbm, ⟨30, _⟩ => ⟨S4x8x8x16x512, .f32⟩
  | .hbm, ⟨31, _⟩ => ⟨S4x8x8x16x512, .f32⟩
  | .hbm, ⟨32, _⟩ => ⟨S4x8x8x16x512, .f32⟩
  | .hbm, ⟨33, _⟩ => ⟨S4x8x8x16x512, .f32⟩
  | .hbm, ⟨34, _⟩ => ⟨S4x8x8x80x512, .f32⟩
  | .hbm, ⟨35, _⟩ => ⟨S4x8x8x80x512, .bf16⟩
  | .hbm, ⟨36, _⟩ => ⟨S4x8x64x4096, .bf16⟩
  | .local _ .vmem, ⟨0, _⟩ => ⟨S1x4x128x512, .bf16⟩
  | .local _ .vmem, ⟨1, _⟩ => ⟨S1x4x128x512, .bf16⟩
  | .local _ .vmem, ⟨2, _⟩ => ⟨S1x4x4096x128, .bf16⟩
  | .local _ .vmem, ⟨3, _⟩ => ⟨S1x4x4096x128, .bf16⟩
  | .local _ .vmem, ⟨4, _⟩ => ⟨S1x4x8x80x512, .bf16⟩
  | .local _ .vmem, ⟨5, _⟩ => ⟨S1x4x8x80x512, .bf16⟩
  | .local _ .vmem, ⟨6, _⟩ => ⟨S1x4x64x512, .bf16⟩
  | .local _ .vmem, ⟨7, _⟩ => ⟨S1x4x64x512, .bf16⟩
  | _, _ => ⟨S4x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  ⟨c0_i32, v12, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_84 : BitVec 32 := 512#32
  let v163 : BitVec 32 := Scalar.muli arg7 c512_i32_84
  v163
def k0_off1 (i : grid0.Coords) (k0_t1 : Fin (k0_t1_loop i).trips) : Fin 4 → Nat :=
  let c0_85 : Index := 0#32
  let c0_86 : Index := 0#32
  let c0_i32 : BitVec 32 := 0#32
  let c1_i32_7 : BitVec 32 := 1#32
  let arg7 : BitVec 32 := Scf.iv c0_i32 c1_i32_7 k0_t1
  let c512_i32_84 : BitVec 32 := 512#32
  let v163 : BitVec 32 := Scalar.muli arg7 c512_i32_84
  let v164 : BitVec 32 := v163
  let v165 : Index := Scalar.indexCast v164
  let c0_87 : Index := 0#32
  ![0, 0, v165.toNat, 0]
def k0_mult2 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_93 : BitVec 32 := 512#32
  let v171 : BitVec 32 := Scalar.muli arg7 c512_i32_93
  v171
def k0_off2 (i : grid0.Coords) (k0_t1 : Fin (k0_t1_loop i).trips) : Fin 4 → Nat :=
  let c0_94 : Index := 0#32
  let c1_95 : Index := 1#32
  let c0_i32 : BitVec 32 := 0#32
  let c1_i32_7 : BitVec 32 := 1#32
  let arg7 : BitVec 32 := Scf.iv c0_i32 c1_i32_7 k0_t1
  let c512_i32_93 : BitVec 32 := 512#32
  let v171 : BitVec 32 := Scalar.muli arg7 c512_i32_93
  let v172 : BitVec 32 := v171
  let v173 : Index := Scalar.indexCast v172
  let c0_96 : Index := 0#32
  ![0, 1, v173.toNat, 0]
def k0_mult3 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_102 : BitVec 32 := 512#32
  let v179 : BitVec 32 := Scalar.muli arg7 c512_i32_102
  v179
def k0_off3 (i : grid0.Coords) (k0_t1 : Fin (k0_t1_loop i).trips) : Fin 4 → Nat :=
  let c0_103 : Index := 0#32
  let c2_104 : Index := 2#32
  let c0_i32 : BitVec 32 := 0#32
  let c1_i32_7 : BitVec 32 := 1#32
  let arg7 : BitVec 32 := Scf.iv c0_i32 c1_i32_7 k0_t1
  let c512_i32_102 : BitVec 32 := 512#32
  let v179 : BitVec 32 := Scalar.muli arg7 c512_i32_102
  let v180 : BitVec 32 := v179
  let v181 : Index := Scalar.indexCast v180
  let c0_105 : Index := 0#32
  ![0, 2, v181.toNat, 0]
def k0_mult4 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c512_i32_111 : BitVec 32 := 512#32
  let v187 : BitVec 32 := Scalar.muli arg7 c512_i32_111
  v187
def k0_off4 (i : grid0.Coords) (k0_t1 : Fin (k0_t1_loop i).trips) : Fin 4 → Nat :=
  let c0_112 : Index := 0#32
  let c3_113 : Index := 3#32
  let c0_i32 : BitVec 32 := 0#32
  let c1_i32_7 : BitVec 32 := 1#32
  let arg7 : BitVec 32 := Scf.iv c0_i32 c1_i32_7 k0_t1
  let c512_i32_111 : BitVec 32 := 512#32
  let v187 : BitVec 32 := Scalar.muli arg7 c512_i32_111
  let v188 : BitVec 32 := v187
  let v189 : Index := Scalar.indexCast v188
  let c0_114 : Index := 0#32
  ![0, 3, v189.toNat, 0]
def k0_off5 (i : grid0.Coords) (k0_t1 : Fin (k0_t1_loop i).trips) : Fin 5 → Nat :=
  let c0_121 : Index := 0#32
  let c0_122 : Index := 0#32
  let c0_i32 : BitVec 32 := 0#32
  let c1_i32_7 : BitVec 32 := 1#32
  let arg7 : BitVec 32 := Scf.iv c0_i32 c1_i32_7 k0_t1
  let v206 : Index := Scalar.indexCast arg7
  let c0_123 : Index := 0#32
  let c0_124 : Index := 0#32
  ![0, 0, v206.toNat, 0, 0]
def k0_off6 (i : grid0.Coords) (k0_t1 : Fin (k0_t1_loop i).trips) : Fin 5 → Nat :=
  let c0_127 : Index := 0#32
  let c1_128 : Index := 1#32
  let c0_i32 : BitVec 32 := 0#32
  let c1_i32_7 : BitVec 32 := 1#32
  let arg7 : BitVec 32 := Scf.iv c0_i32 c1_i32_7 k0_t1
  let v222 : Index := Scalar.indexCast arg7
  let c0_129 : Index := 0#32
  let c0_130 : Index := 0#32
  ![0, 1, v222.toNat, 0, 0]
def k0_off7 (i : grid0.Coords) (k0_t1 : Fin (k0_t1_loop i).trips) : Fin 5 → Nat :=
  let c0_133 : Index := 0#32
  let c2_134 : Index := 2#32
  let c0_i32 : BitVec 32 := 0#32
  let c1_i32_7 : BitVec 32 := 1#32
  let arg7 : BitVec 32 := Scf.iv c0_i32 c1_i32_7 k0_t1
  let v238 : Index := Scalar.indexCast arg7
  let c0_135 : Index := 0#32
  let c0_136 : Index := 0#32
  ![0, 2, v238.toNat, 0, 0]
def k0_off8 (i : grid0.Coords) (k0_t1 : Fin (k0_t1_loop i).trips) : Fin 5 → Nat :=
  let c0_139 : Index := 0#32
  let c3_140 : Index := 3#32
  let c0_i32 : BitVec 32 := 0#32
  let c1_i32_7 : BitVec 32 := 1#32
  let arg7 : BitVec 32 := Scf.iv c0_i32 c1_i32_7 k0_t1
  let v254 : Index := Scalar.indexCast arg7
  let c0_141 : Index := 0#32
  let c0_142 : Index := 0#32
  ![0, 3, v254.toNat, 0, 0]
@[reducible] def k0_t2_loop (i : grid0.Coords) : Scf.Loop 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_8 : BitVec 32 := 1#32
  ⟨v12, v9, c1_i32_8⟩
def k0_mult5 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_84 : BitVec 32 := 512#32
  let v163 : BitVec 32 := Scalar.muli arg7 c512_i32_84
  v163
def k0_off9 (i : grid0.Coords) (k0_t2 : Fin (k0_t2_loop i).trips) : Fin 4 → Nat :=
  let c0_85 : Index := 0#32
  let c0_86 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_84 : BitVec 32 := 512#32
  let v163 : BitVec 32 := Scalar.muli arg7 c512_i32_84
  let v164 : BitVec 32 := v163
  let v165 : Index := Scalar.indexCast v164
  let c0_87 : Index := 0#32
  ![0, 0, v165.toNat, 0]
def k0_mult6 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_93 : BitVec 32 := 512#32
  let v171 : BitVec 32 := Scalar.muli arg7 c512_i32_93
  v171
def k0_off10 (i : grid0.Coords) (k0_t2 : Fin (k0_t2_loop i).trips) : Fin 4 → Nat :=
  let c0_94 : Index := 0#32
  let c1_95 : Index := 1#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_93 : BitVec 32 := 512#32
  let v171 : BitVec 32 := Scalar.muli arg7 c512_i32_93
  let v172 : BitVec 32 := v171
  let v173 : Index := Scalar.indexCast v172
  let c0_96 : Index := 0#32
  ![0, 1, v173.toNat, 0]
def k0_mult7 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_102 : BitVec 32 := 512#32
  let v179 : BitVec 32 := Scalar.muli arg7 c512_i32_102
  v179
def k0_off11 (i : grid0.Coords) (k0_t2 : Fin (k0_t2_loop i).trips) : Fin 4 → Nat :=
  let c0_103 : Index := 0#32
  let c2_104 : Index := 2#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_102 : BitVec 32 := 512#32
  let v179 : BitVec 32 := Scalar.muli arg7 c512_i32_102
  let v180 : BitVec 32 := v179
  let v181 : Index := Scalar.indexCast v180
  let c0_105 : Index := 0#32
  ![0, 2, v181.toNat, 0]
def k0_mult8 (i : grid0.Coords) (k0_t2 : Fin (k0_t2_loop i).trips) : BitVec 32 :=
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_111 : BitVec 32 := 512#32
  let v187 : BitVec 32 := Scalar.muli arg7 c512_i32_111
  v187
def k0_off12 (i : grid0.Coords) (k0_t2 : Fin (k0_t2_loop i).trips) : Fin 4 → Nat :=
  let c0_112 : Index := 0#32
  let c3_113 : Index := 3#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c512_i32_111 : BitVec 32 := 512#32
  let v187 : BitVec 32 := Scalar.muli arg7 c512_i32_111
  let v188 : BitVec 32 := v187
  let v189 : Index := Scalar.indexCast v188
  let c0_114 : Index := 0#32
  ![0, 3, v189.toNat, 0]
def k0_off13 (i : grid0.Coords) (k0_t2 : Fin (k0_t2_loop i).trips) : Fin 5 → Nat :=
  let c0_121 : Index := 0#32
  let c0_122 : Index := 0#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let v206 : Index := Scalar.indexCast arg7
  let c0_123 : Index := 0#32
  let c0_124 : Index := 0#32
  ![0, 0, v206.toNat, 0, 0]
def k0_off14 (i : grid0.Coords) (k0_t2 : Fin (k0_t2_loop i).trips) : Fin 5 → Nat :=
  let c0_127 : Index := 0#32
  let c1_128 : Index := 1#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let v222 : Index := Scalar.indexCast arg7
  let c0_129 : Index := 0#32
  let c0_130 : Index := 0#32
  ![0, 1, v222.toNat, 0, 0]
def k0_off15 (i : grid0.Coords) (k0_t2 : Fin (k0_t2_loop i).trips) : Fin 5 → Nat :=
  let c0_133 : Index := 0#32
  let c2_134 : Index := 2#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let v238 : Index := Scalar.indexCast arg7
  let c0_135 : Index := 0#32
  let c0_136 : Index := 0#32
  ![0, 2, v238.toNat, 0, 0]
def k0_off16 (i : grid0.Coords) (k0_t2 : Fin (k0_t2_loop i).trips) : Fin 5 → Nat :=
  let c0_139 : Index := 0#32
  let c3_140 : Index := 3#32
  let c0_i32 : BitVec 32 := 0#32
  let arg2 : BitVec 32 := BitVec.ofNat 32 (i 2).val
  let v8 : BitVec 32 := Scalar.subi arg2 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let v254 : Index := Scalar.indexCast arg7
  let c0_141 : Index := 0#32
  let c0_142 : Index := 0#32
  ![0, 3, v254.toNat, 0, 0]
def k0_mult9 (i : grid0.Coords) : BitVec 32 :=
  let arg2 : BitVec 32 := BitVec.ofNat 32 (i 2).val
  let c512_i32 : BitVec 32 := 512#32
  let v15 : BitVec 32 := Scalar.muli arg2 c512_i32
  v15
def k0_off17 (i : grid0.Coords) : Fin 4 → Nat :=
  let c0 : Index := 0#32
  let c0_9 : Index := 0#32
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_10 : Index := 0#32
  ![0, 0, v17.toNat, 0]
def k0_mult10 (i : grid0.Coords) : BitVec 32 :=
  let arg2 : BitVec 32 := BitVec.ofNat 32 (i 2).val
  let c512_i32_17 : BitVec 32 := 512#32
  let v28 : BitVec 32 := Scalar.muli arg2 c512_i32_17
  v28
def k0_off18 (i : grid0.Coords) : Fin 4 → Nat :=
  let c0_18 : Index := 0#32
  let c1 : Index := 1#32
  let arg2 : BitVec 32 := BitVec.ofNat 32 (i 2).val
  let c512_i32_17 : BitVec 32 := 512#32
  let v28 : BitVec 32 := Scalar.muli arg2 c512_i32_17
  let v29 : BitVec 32 := v28
  let v30 : Index := Scalar.indexCast v29
  let c0_19 : Index := 0#32
  ![0, 1, v30.toNat, 0]
def k0_mult11 (i : grid0.Coords) : BitVec 32 :=
  let arg2 : BitVec 32 := BitVec.ofNat 32 (i 2).val
  let c512_i32_26 : BitVec 32 := 512#32
  let v41 : BitVec 32 := Scalar.muli arg2 c512_i32_26
  v41
def k0_off19 (i : grid0.Coords) : Fin 4 → Nat :=
  let c0_27 : Index := 0#32
  let c2 : Index := 2#32
  let arg2 : BitVec 32 := BitVec.ofNat 32 (i 2).val
  let c512_i32_26 : BitVec 32 := 512#32
  let v41 : BitVec 32 := Scalar.muli arg2 c512_i32_26
  let v42 : BitVec 32 := v41
  let v43 : Index := Scalar.indexCast v42
  let c0_28 : Index := 0#32
  ![0, 2, v43.toNat, 0]
def k0_mult12 (i : grid0.Coords) : BitVec 32 :=
  let arg2 : BitVec 32 := BitVec.ofNat 32 (i 2).val
  let c512_i32_35 : BitVec 32 := 512#32
  let v54 : BitVec 32 := Scalar.muli arg2 c512_i32_35
  v54
def k0_off20 (i : grid0.Coords) : Fin 4 → Nat :=
  let c0_36 : Index := 0#32
  let c3 : Index := 3#32
  let arg2 : BitVec 32 := BitVec.ofNat 32 (i 2).val
  let c512_i32_35 : BitVec 32 := 512#32
  let v54 : BitVec 32 := Scalar.muli arg2 c512_i32_35
  let v55 : BitVec 32 := v54
  let v56 : Index := Scalar.indexCast v55
  let c0_37 : Index := 0#32
  ![0, 3, v56.toNat, 0]
def k0_off21 (i : grid0.Coords) : Fin 5 → Nat :=
  let c0_45 : Index := 0#32
  let c0_46 : Index := 0#32
  let arg2 : BitVec 32 := BitVec.ofNat 32 (i 2).val
  let v78 : Index := Scalar.indexCast arg2
  let c0_47 : Index := 0#32
  let c0_48 : Index := 0#32
  ![0, 0, v78.toNat, 0, 0]
def k0_off22 (i : grid0.Coords) : Fin 5 → Nat :=
  let c0_51 : Index := 0#32
  let c1_52 : Index := 1#32
  let arg2 : BitVec 32 := BitVec.ofNat 32 (i 2).val
  let v94 : Index := Scalar.indexCast arg2
  let c0_53 : Index := 0#32
  let c0_54 : Index := 0#32
  ![0, 1, v94.toNat, 0, 0]
def k0_off23 (i : grid0.Coords) : Fin 5 → Nat :=
  let c0_57 : Index := 0#32
  let c2_58 : Index := 2#32
  let arg2 : BitVec 32 := BitVec.ofNat 32 (i 2).val
  let v110 : Index := Scalar.indexCast arg2
  let c0_59 : Index := 0#32
  let c0_60 : Index := 0#32
  ![0, 2, v110.toNat, 0, 0]
def k0_off24 (i : grid0.Coords) : Fin 5 → Nat :=
  let c0_63 : Index := 0#32
  let c3_64 : Index := 3#32
  let arg2 : BitVec 32 := BitVec.ofNat 32 (i 2).val
  let v126 : Index := Scalar.indexCast arg2
  let c0_65 : Index := 0#32
  let c0_66 : Index := 0#32
  ![0, 3, v126.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x8x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x96 : Shape := ⟨4, ![4, 4096, 8, 96]⟩
abbrev S4x4096x8x64 : Shape := ⟨4, ![4, 4096, 8, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x8x96, .f32⟩
  | .hbm, ⟨1, _⟩ => ⟨S4x4096x8x96, .f32⟩
  | .hbm, ⟨2, _⟩ => ⟨S4x4096x8x64, .f32⟩
  | .hbm, ⟨3, _⟩ => ⟨S4x8x4096x4096, .f32⟩
  | .hbm, ⟨4, _⟩ => ⟨S_, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x8x4096x4096, .i1⟩
  | .hbm, ⟨17, _⟩ => ⟨S4x8x4096x4096, .f32⟩
  | .hbm, ⟨18, _⟩ => ⟨S4x8x4096x4096, .f32⟩
  | .hbm, ⟨19, _⟩ => ⟨S_, .f32⟩
  | .hbm, ⟨20, _⟩ => ⟨S4x8x4096, .f32⟩
  | .hbm, ⟨21, _⟩ => ⟨S_, .f32⟩
  | .hbm, ⟨22, _⟩ => ⟨S4x8x4096, .f32⟩
  | .hbm, ⟨23, _⟩ => ⟨S4x8x4096, .f32⟩
  | .hbm, ⟨24, _⟩ => ⟨S4x8x4096x1, .f32⟩
  | .hbm, ⟨25, _⟩ => ⟨S4x8x4096x4096, .f32⟩
  | .hbm, ⟨26, _⟩ => ⟨S4x8x4096x4096, .f32⟩
  | .hbm, ⟨27, _⟩ => ⟨S4x8x4096x4096, .f32⟩
  | .hbm, ⟨28, _⟩ => ⟨S_, .f32⟩
  | .hbm, ⟨29, _⟩ => ⟨S4x8x4096, .f32⟩
  | .hbm, ⟨30, _⟩ => ⟨S4x8x4096x1, .f32⟩
  | .hbm, ⟨31, _⟩ => ⟨S4x8x4096x4096, .f32⟩
  | .hbm, ⟨32, _⟩ => ⟨S4x8x4096x4096, .f32⟩
  | .hbm, ⟨33, _⟩ => ⟨S4x8x64x4096, .f32⟩
  | .hbm, ⟨34, _⟩ => ⟨S4x4096x8x64, .f32⟩
  | .hbm, ⟨35, _⟩ => ⟨S4x8x64x4096, .f32⟩
  | .hbm, ⟨36, _⟩ => ⟨S4x8x64x4096, .bf16⟩
  | _, _ => ⟨S4x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Project.lean ====
abbrev S16384x1024 : Shape := ⟨2, ![16384, 1024]⟩
abbrev S1024 : Shape := ⟨1, ![1024]⟩
abbrev S1024x5680 : Shape := ⟨2, ![1024, 5680]⟩
abbrev S_ : Shape := ⟨0, ![]⟩
abbrev S1024x80 : Shape := ⟨2, ![1024, 80]⟩
abbrev S1024x3072 : Shape := ⟨2, ![1024, 3072]⟩
abbrev S1024x256 : Shape := ⟨2, ![1024, 256]⟩
abbrev S1024x512 : Shape := ⟨2, ![1024, 512]⟩
abbrev S1024x32 : Shape := ⟨2, ![1024, 32]⟩
abbrev S1024x16 : Shape := ⟨2, ![1024, 16]⟩
abbrev S1024x5760 : Shape := ⟨2, ![1024, 5760]⟩
abbrev S1x1024 : Shape := ⟨2, ![1, 1024]⟩
abbrev S16384x5760 : Shape := ⟨2, ![16384, 5760]⟩
abbrev S1024x1024 : Shape := ⟨2, ![1024, 1024]⟩
abbrev S1024x1 : Shape := ⟨2, ![1024, 1]⟩
abbrev S1024x1536 : Shape := ⟨2, ![1024, 1536]⟩
abbrev S1024x1152 : Shape := ⟨2, ![1024, 1152]⟩

abbrev nBuf : Space → Nat
  | .hbm => 28
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5680, .f32⟩
  | .hbm, ⟨3, _⟩ => ⟨S_, .bf16⟩
  | .hbm, ⟨4, _⟩ => ⟨S1024x80, .bf16⟩
  | .hbm, ⟨5, _⟩ => ⟨S1024x3072, .f32⟩
  | .hbm, ⟨6, _⟩ => ⟨S1024x3072, .bf16⟩
  | .hbm, ⟨7, _⟩ => ⟨S1024x256, .f32⟩
  | .hbm, ⟨8, _⟩ => ⟨S1024x256, .bf16⟩
  | .hbm, ⟨9, _⟩ => ⟨S1024x256, .f32⟩
  | .hbm, ⟨10, _⟩ => ⟨S1024x256, .bf16⟩
  | .hbm, ⟨11, _⟩ => ⟨S1024x256, .f32⟩
  | .hbm, ⟨12, _⟩ => ⟨S1024x256, .bf16⟩
  | .hbm, ⟨13, _⟩ => ⟨S1024x256, .f32⟩
  | .hbm, ⟨14, _⟩ => ⟨S1024x256, .bf16⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S1024x512, .bf16⟩
  | .hbm, ⟨19, _⟩ => ⟨S1024x512, .f32⟩
  | .hbm, ⟨20, _⟩ => ⟨S1024x512, .bf16⟩
  | .hbm, ⟨21, _⟩ => ⟨S1024x32, .f32⟩
  | .hbm, ⟨22, _⟩ => ⟨S1024x32, .bf16⟩
  | .hbm, ⟨23, _⟩ => ⟨S1024x16, .f32⟩
  | .hbm, ⟨24, _⟩ => ⟨S1024x16, .bf16⟩
  | .hbm, ⟨25, _⟩ => ⟨S1024x5760, .bf16⟩
  | .hbm, ⟨26, _⟩ => ⟨S1x1024, .f32⟩
  | .hbm, ⟨27, _⟩ => ⟨S16384x5760, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5760, .bf16⟩
  | .local _ .vmem, ⟨4, _⟩ => ⟨S1024x5760, .bf16⟩
  | .local _ .vmem, ⟨5, _⟩ => ⟨S1024x5760, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x5760 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjectedIdeal.lean ====
abbrev S16384x1024 : Shape := ⟨2, ![16384, 1024]⟩
abbrev S1024 : Shape := ⟨1, ![1024]⟩
abbrev S1024x5680 : Shape := ⟨2, ![1024, 5680]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5680 : Shape := ⟨2, ![16384, 5680]⟩
abbrev S16384x256 : Shape := ⟨2, ![16384, 256]⟩
abbrev S16384x32 : Shape := ⟨2, ![16384, 32]⟩
abbrev S16384x512 : Shape := ⟨2, ![16384, 512]⟩
abbrev S16384x16 : Shape := ⟨2, ![16384, 16]⟩
abbrev S16384x3072 : Shape := ⟨2, ![16384, 3072]⟩
abbrev S16384x80 : Shape := ⟨2, ![16384, 80]⟩
abbrev S16384x5760 : Shape := ⟨2, ![16384, 5760]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5680, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5680, .f32⟩
  | .hbm, ⟨20, _⟩ => ⟨S16384x256, .f32⟩
  | .hbm, ⟨21, _⟩ => ⟨S16384x256, .f32⟩
  | .hbm, ⟨22, _⟩ => ⟨S16384x32, .f32⟩
  | .hbm, ⟨23, _⟩ => ⟨S16384x256, .f32⟩
  | .hbm, ⟨24, _⟩ => ⟨S16384x256, .f32⟩
  | .hbm, ⟨25, _⟩ => ⟨S16384x512, .f32⟩
  | .hbm, ⟨26, _⟩ => ⟨S16384x16, .f32⟩
  | .hbm, ⟨27, _⟩ => ⟨S16384x512, .f32⟩
  | .hbm, ⟨28, _⟩ => ⟨S16384x512, .f32⟩
  | .hbm, ⟨29, _⟩ => ⟨S16384x3072, .f32⟩
  | .hbm, ⟨30, _⟩ => ⟨S_, .f32⟩
  | .hbm, ⟨31, _⟩ => ⟨S16384x80, .f32⟩
  | .hbm, ⟨32, _⟩ => ⟨S16384x5760, .f32⟩
  | .hbm, ⟨33, _⟩ => ⟨S16384x5760, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Dense.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S11x1024x256 : Shape := ⟨3, ![11, 1024, 256]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S11x1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixedIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Merge.lean ====
abbrev S4x4096x1024 : Shape := ⟨3, ![4, 4096, 1024]⟩
abbrev S4x512x4096 : Shape := ⟨3, ![4, 512, 4096]⟩
abbrev S4x4096x512 : Shape := ⟨3, ![4, 4096, 512]⟩
abbrev S4x4096x5760 : Shape := ⟨3, ![4, 4096, 5760]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S1x512 : Shape := ⟨2, ![1, 512]⟩
abbrev S1x512x1024 : Shape := ⟨3, ![1, 512, 1024]⟩
abbrev S1x512x512 : Shape := ⟨3, ![1, 512, 512]⟩
abbrev S1x16x512 : Shape := ⟨3, ![1, 16, 512]⟩
abbrev S512x528 : Shape := ⟨2, ![512, 528]⟩
abbrev S512x1 : Shape := ⟨2, ![512, 1]⟩
abbrev S1x512x128 : Shape := ⟨3, ![1, 512, 128]⟩
abbrev S512x128 : Shape := ⟨2, ![512, 128]⟩
abbrev S1x16x128 : Shape := ⟨3, ![1, 16, 128]⟩
abbrev S16x128 : Shape := ⟨2, ![16, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S512x512 : Shape := ⟨2, ![512, 512]⟩
abbrev S512x1024 : Shape := ⟨2, ![512, 1024]⟩

abbrev nBuf : Space → Nat
  | .hbm => 13
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .bf16⟩
  | .hbm, ⟨2, _⟩ => ⟨S4x4096x512, .bf16⟩
  | .hbm, ⟨3, _⟩ => ⟨S4x4096x5760, .bf16⟩
  | .hbm, ⟨4, _⟩ => ⟨S4x128x128, .f32⟩
  | .hbm, ⟨5, _⟩ => ⟨S512, .f32⟩
  | .hbm, ⟨6, _⟩ => ⟨S3x512x1024, .f32⟩
  | .hbm, ⟨7, _⟩ => ⟨S1024x1024, .f32⟩
  | .hbm, ⟨8, _⟩ => ⟨S4x128x128, .bf16⟩
  | .hbm, ⟨9, _⟩ => ⟨S1x512, .f32⟩
  | .hbm, ⟨10, _⟩ => ⟨S3x512x1024, .bf16⟩
  | .hbm, ⟨11, _⟩ => ⟨S1024x1024, .bf16⟩
  | .hbm, ⟨12, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S4x128x128, .bf16⟩
  | .local _ .vmem, ⟨17, _⟩ => ⟨S1x512, .f32⟩
  | .local _ .vmem, ⟨18, _⟩ => ⟨S3x512x1024, .bf16⟩
  | .local _ .vmem, ⟨19, _⟩ => ⟨S1024x1024, .bf16⟩
  | .local _ .vmem, ⟨20, _⟩ => ⟨S1x512x1024, .f32⟩
  | .local _ .vmem, ⟨21, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![arg0.toNat, v2.toNat, c10_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergedIdeal.lean ====
abbrev S4x4096x1024 : Shape := ⟨3, ![4, 4096, 1024]⟩
abbrev S4x512x4096 : Shape := ⟨3, ![4, 512, 4096]⟩
abbrev S4x4096x512 : Shape := ⟨3, ![4, 4096, 512]⟩
abbrev S4x4096x5760 : Shape := ⟨3, ![4, 4096, 5760]⟩
abbrev S4x128x128 : Shape := ⟨3, ![4, 128, 128]⟩
abbrev S512 : Shape := ⟨1, ![512]⟩
abbrev S3x512x1024 : Shape := ⟨3, ![3, 512, 1024]⟩
abbrev S1024x1024 : Shape := ⟨2, ![1024, 1024]⟩
abbrev S4 : Shape := ⟨1, ![4]⟩
abbrev S4x4096x4x128 : Shape := ⟨4, ![4, 4096, 4, 128]⟩
abbrev S4x4096x3072 : Shape := ⟨3, ![4, 4096, 3072]⟩
abbrev S4x4096x3x1024 : Shape := ⟨4, ![4, 4096, 3, 1024]⟩
abbrev S_ : Shape := ⟨0, ![]⟩
abbrev S4x4096x1x128 : Shape := ⟨4, ![4, 4096, 1, 128]⟩
abbrev S4096 : Shape := ⟨1, ![4096]⟩
abbrev S4096x1 : Shape := ⟨2, ![4096, 1]⟩
abbrev S1x4 : Shape := ⟨2, ![1, 4]⟩
abbrev S4096x4 : Shape := ⟨2, ![4096, 4]⟩
abbrev S1x4096x4x1 : Shape := ⟨4, ![1, 4096, 4, 1]⟩
abbrev S4x128x4x4096 : Shape := ⟨4, ![4, 128, 4, 4096]⟩
abbrev S1x1x512 : Shape := ⟨3, ![1, 1, 512]⟩
abbrev S4x4096x1x512 : Shape := ⟨4, ![4, 4096, 1, 512]⟩
abbrev S4x4096x3x512 : Shape := ⟨4, ![4, 4096, 3, 512]⟩
abbrev S3x1024x4x4096 : Shape := ⟨4, ![3, 1024, 4, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .bf16⟩
  | .hbm, ⟨2, _⟩ => ⟨S4x4096x512, .bf16⟩
  | .hbm, ⟨3, _⟩ => ⟨S4x4096x5760, .bf16⟩
  | .hbm, ⟨4, _⟩ => ⟨S4x128x128, .f32⟩
  | .hbm, ⟨5, _⟩ => ⟨S512, .f32⟩
  | .hbm, ⟨6, _⟩ => ⟨S3x512x1024, .f32⟩
  | .hbm, ⟨7, _⟩ => ⟨S1024x1024, .f32⟩
  | .hbm, ⟨8, _⟩ => ⟨S4, .f32⟩
  | .hbm, ⟨9, _⟩ => ⟨S4x4096x512, .bf16⟩
  | .hbm, ⟨10, _⟩ => ⟨S4x4096x512, .f32⟩
  | .hbm, ⟨11, _⟩ => ⟨S4x4096x4x128, .f32⟩
  | .hbm, ⟨12, _⟩ => ⟨S4x4096x3072, .bf16⟩
  | .hbm, ⟨13, _⟩ => ⟨S4x4096x3072, .f32⟩
  | .hbm, ⟨14, _⟩ => ⟨S4x4096x3x1024, .f32⟩
  | .hbm, ⟨15, _⟩ => ⟨S4x4096x3x1024, .f32⟩
  | .hbm, ⟨16, _⟩ => ⟨S4x4096x3x1024, .f32⟩
  | .hbm, ⟨17, _⟩ => ⟨S_, .f32⟩
  | .hbm, ⟨18, _⟩ => ⟨S4x4096x3x1024, .f32⟩
  | .hbm, ⟨19, _⟩ => ⟨S4x4096x3x1024, .f32⟩
  | .hbm, ⟨20, _⟩ => ⟨S_, .f32⟩
  | .hbm, ⟨21, _⟩ => ⟨S4x4096x3x1024, .f32⟩
  | .hbm, ⟨22, _⟩ => ⟨S4x4096x3x1024, .f32⟩
  | .hbm, ⟨23, _⟩ => ⟨S4x4096x1x128, .f32⟩
  | .hbm, ⟨24, _⟩ => ⟨S_, .f32⟩
  | .hbm, ⟨25, _⟩ => ⟨S_, .f32⟩
  | .hbm, ⟨26, _⟩ => ⟨S4x4096x1x128, .f32⟩
  | .hbm, ⟨27, _⟩ => ⟨S4x4096x1x128, .f32⟩
  | .hbm, ⟨28, _⟩ => ⟨S_, .f32⟩
  | .hbm, ⟨29, _⟩ => ⟨S_, .f32⟩
  | .hbm, ⟨30, _⟩ => ⟨S4x4096x1x128, .f32⟩
  | .hbm, ⟨31, _⟩ => ⟨S4x4096x1x128, .f32⟩
  | .hbm, ⟨32, _⟩ => ⟨S_, .f32⟩
  | .hbm, ⟨33, _⟩ => ⟨S_, .f32⟩
  | .hbm, ⟨34, _⟩ => ⟨S4x4096x1x128, .f32⟩
  | .hbm, ⟨35, _⟩ => ⟨S4x4096x1x128, .f32⟩
  | .hbm, ⟨36, _⟩ => ⟨S_, .f32⟩
  | .hbm, ⟨37, _⟩ => ⟨S_, .f32⟩
  | .hbm, ⟨38, _⟩ => ⟨S4x4096x1x128, .f32⟩
  | .hbm, ⟨39, _⟩ => ⟨S4x4096x4x128, .f32⟩
  | .hbm, ⟨40, _⟩ => ⟨S4096, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .f32⟩
  | .hbm, ⟨45, _⟩ => ⟨S4096x1, .f32⟩
  | .hbm, ⟨46, _⟩ => ⟨S1x4, .f32⟩
  | .hbm, ⟨47, _⟩ => ⟨S4096x4, .f32⟩
  | .hbm, ⟨48, _⟩ => ⟨S4096x4, .f32⟩
  | .hbm, ⟨49, _⟩ => ⟨S4096x4, .f32⟩
  | .hbm, ⟨50, _⟩ => ⟨S1x4096x4x1, .f32⟩
  | .hbm, ⟨51, _⟩ => ⟨S4x4096x4x128, .f32⟩
  | .hbm, ⟨52, _⟩ => ⟨S4x4096x4x128, .f32⟩
  | .hbm, ⟨53, _⟩ => ⟨S4x4096x4x128, .f32⟩
  | .hbm, ⟨54, _⟩ => ⟨S4x128x4x4096, .f32⟩
  | .hbm, ⟨55, _⟩ => ⟨S4x4096x4x128, .f32⟩
  | .hbm, ⟨56, _⟩ => ⟨S4x4096x512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S4x512x4096, .f32⟩
  | .hbm, ⟨61, _⟩ => ⟨S4x4096x512, .f32⟩
  | .hbm, ⟨62, _⟩ => ⟨S4x4096x512, .f32⟩
  | .hbm, ⟨63, _⟩ => ⟨S4x4096x1x512, .f32⟩
  | .hbm, ⟨64, _⟩ => ⟨S4x4096x1x512, .f32⟩
  | .hbm, ⟨65, _⟩ => ⟨S4x4096x1x512, .f32⟩
  | .hbm, ⟨66, _⟩ => ⟨S4x4096x3x512, .f32⟩
  | .hbm, ⟨67, _⟩ => ⟨S3x1024x4x4096, .f32⟩
  | .hbm, ⟨68, _⟩ => ⟨S4x4096x3x1024, .f32⟩
  | .hbm, ⟨69, _⟩ => ⟨S4x4096x3x1024, .f32⟩
  | .hbm, ⟨70, _⟩ => ⟨S_, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Prep.lean ====
abbrev S4x4096x5760 : Shape := ⟨3, ![4, 4096, 5760]⟩
abbrev S4x4096 : Shape := ⟨2, ![4, 4096]⟩
abbrev S256 : Shape := ⟨1, ![256]⟩
abbrev S256x768 : Shape := ⟨2, ![256, 768]⟩
abbrev S256x1024 : Shape := ⟨2, ![256, 1024]⟩
abbrev S96 : Shape := ⟨1, ![96]⟩
abbrev S32x1x512 : Shape := ⟨3, ![32, 1, 512]⟩
abbrev S16 : Shape := ⟨1, ![16]⟩
abbrev S_ : Shape := ⟨0, ![]⟩
abbrev S16x1 : Shape := ⟨2, ![16, 1]⟩
abbrev S1x256 : Shape := ⟨2, ![1, 256]⟩
abbrev S768x256 : Shape := ⟨2, ![768, 256]⟩
abbrev S1024x256 : Shape := ⟨2, ![1024, 256]⟩
abbrev S96x1 : Shape := ⟨2, ![96, 1]⟩
abbrev S4x8x128x4096 : Shape := ⟨4, ![4, 8, 128, 4096]⟩
abbrev S4x8x4096x128 : Shape := ⟨4, ![4, 8, 4096, 128]⟩
abbrev S4x8x8x80x512 : Shape := ⟨5, ![4, 8, 8, 80, 512]⟩
abbrev S1x1x512 : Shape := ⟨3, ![1, 1, 512]⟩
abbrev S1x512x256 : Shape := ⟨3, ![1, 512, 256]⟩
abbrev S1x512x128 : Shape := ⟨3, ![1, 512, 128]⟩
abbrev S1x8x128x512 : Shape := ⟨4, ![1, 8, 128, 512]⟩
abbrev S1x8x512x128 : Shape := ⟨4, ![1, 8, 512, 128]⟩
abbrev S1x8x1x80x512 : Shape := ⟨5, ![1, 8, 1, 80, 512]⟩
abbrev S1x512 : Shape := ⟨2, ![1, 512]⟩
abbrev S16x512 : Shape := ⟨2, ![16, 512]⟩
abbrev S512x256 : Shape := ⟨2, ![512, 256]⟩
abbrev S512 : Shape := ⟨1, ![512]⟩
abbrev S512x1 : Shape := ⟨2, ![512, 1]⟩
abbrev S768x512 : Shape := ⟨2, ![768, 512]⟩
abbrev S1024x512 : Shape := ⟨2, ![1024, 512]⟩
abbrev S512x128 : Shape := ⟨2, ![512, 128]⟩
abbrev S128x512 : Shape := ⟨2, ![128, 512]⟩
abbrev S32x512 : Shape := ⟨2, ![32, 512]⟩
abbrev S96x512 : Shape := ⟨2, ![96, 512]⟩
abbrev S64x512 : Shape := ⟨2, ![64, 512]⟩
abbrev S1x1x128x512 : Shape := ⟨4, ![1, 1, 128, 512]⟩
abbrev S32x1 : Shape := ⟨2, ![32, 1]⟩
abbrev S64x1 : Shape := ⟨2, ![64, 1]⟩
abbrev S1x1x512x128 : Shape := ⟨4, ![1, 1, 512, 128]⟩
abbrev S80x512 : Shape := ⟨2, ![80, 512]⟩
abbrev S1x1x1x80x512 : Shape := ⟨5, ![1, 1, 1, 80, 512]⟩

abbrev nBuf : Space → Nat
  | .hbm => 29
  | .vmem => 21
  | .smem => 0
  | _ => 0

abbrev bufTy : (tb : Table) → Fin (tcTables nBuf tb) → BufTy
  | .hbm, ⟨0, _⟩ => ⟨S4x4096x5760, .bf16⟩
  | .hbm, ⟨1, _⟩ => ⟨S4x4096, .i32⟩
  | .hbm, ⟨2, _⟩ => ⟨S256, .f32⟩
  | .hbm, ⟨3, _⟩ => ⟨S256x768, .f32⟩
  | .hbm, ⟨4, _⟩ => ⟨S256, .f32⟩
  | .hbm, ⟨5, _⟩ => ⟨S256x1024, .f32⟩
  | .hbm, ⟨6, _⟩ => ⟨S96, .f32⟩
  | .hbm, ⟨7, _⟩ => ⟨S96, .f32⟩
  | .hbm, ⟨8, _⟩ => ⟨S32x1x512, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S1x256, .f32⟩
  | .hbm, ⟨19, _⟩ => ⟨S768x256, .f32⟩
  | .hbm, ⟨20, _⟩ => ⟨S768x256, .bf16⟩
  | .hbm, ⟨21, _⟩ => ⟨S1x256, .f32⟩
  | .hbm, ⟨22, _⟩ => ⟨S1024x256, .f32⟩
  | .hbm, ⟨23, _⟩ => ⟨S1024x256, .bf16⟩
  | .hbm, ⟨24, _⟩ => ⟨S96x1, .f32⟩
  | .hbm, ⟨25, _⟩ => ⟨S96x1, .f32⟩
  | .hbm, ⟨26, _⟩ => ⟨S4x8x128x4096, .bf16⟩
  | .hbm, ⟨27, _⟩ => ⟨S4x8x4096x128, .bf16⟩
  | .hbm, ⟨28, _⟩ => ⟨S4x8x8x80x512, .bf16⟩
  | .local _ .vmem, ⟨0, _⟩ => ⟨S1x1x512, .i32⟩
  | .local _ .vmem, ⟨1, _⟩ => ⟨S1x1x512, .i32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x128, .bf16⟩
  | .local _ .vmem, ⟨7, _⟩ => ⟨S1x512x128, .bf16⟩
  | .local _ .vmem, ⟨8, _⟩ => ⟨S1x256, .f32⟩
  | .local _ .vmem, ⟨9, _⟩ => ⟨S768x256, .bf16⟩
  | .local _ .vmem, ⟨10, _⟩ => ⟨S1x256, .f32⟩
  | .local _ .vmem, ⟨11, _⟩ => ⟨S1024x256, .bf16⟩
  | .local _ .vmem, ⟨12, _⟩ => ⟨S96x1, .f32⟩
  | .local _ .vmem, ⟨13, _⟩ => ⟨S96x1, .f32⟩
  | .local _ .vmem, ⟨14, _⟩ => ⟨S16x1, .f32⟩
  | .local _ .vmem, ⟨15, _⟩ => ⟨S1x8x128x512, .bf16⟩
  | .local _ .vmem, ⟨16, _⟩ => ⟨S1x8x128x512, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x1x80x512, .bf16⟩
  | .local _ .vmem, ⟨20, _⟩ => ⟨S1x8x1x80x512, .bf16⟩
  | _, _ => ⟨S4x4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_3 (i : grid0.Coords) : Fin 3 → Nat :=
  let arg0 : BitVec 32 := BitVec.ofNat 32 (i 0).val
  let arg1 : BitVec 32 := BitVec.ofNat 32 (i 1).val
  let c44_i32 : BitVec 32 := 44#32
  let c0_i32 : BitVec 32 := 0#32
  ![arg0.toNat, arg1.toNat, c44_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S96x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x1x80x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepIdeal.lean ====
variable {F : FTy → Type} [FloatOps F] [Named F]
def κ : String → Option EReal := fun
  | "inv_features" => some ((1 / 96 : ℝ) : EReal)
  | "scale" => some (((Real.sqrt 96)⁻¹ * (Real.log 2)⁻¹ : ℝ) : EReal)
  | _ => none
-- ==== PreparedIdeal.lean ====
abbrev S4x4096x5760 : Shape := ⟨3, ![4, 4096, 5760]⟩
abbrev S4x4096 : Shape := ⟨2, ![4, 4096]⟩
abbrev S256 : Shape := ⟨1, ![256]⟩
abbrev S256x768 : Shape := ⟨2, ![256, 768]⟩
abbrev S256x1024 : Shape := ⟨2, ![256, 1024]⟩
abbrev S96 : Shape := ⟨1, ![96]⟩
abbrev S4x4096x1 : Shape := ⟨3, ![4, 4096, 1]⟩
abbrev S16 : Shape := ⟨1, ![16]⟩
abbrev S_ : Shape := ⟨0, ![]⟩
abbrev S1x1x16 : Shape := ⟨3, ![1, 1, 16]⟩
abbrev S4x4096x16 : Shape := ⟨3, ![4, 4096, 16]⟩
abbrev S4x4096x1x16 : Shape := ⟨4, ![4, 4096, 1, 16]⟩
abbrev S4x4096x256 : Shape := ⟨3, ![4, 4096, 256]⟩
abbrev S1x1x256 : Shape := ⟨3, ![1, 1, 256]⟩
abbrev S4x4096x768 : Shape := ⟨3, ![4, 4096, 768]⟩
abbrev S4x4096x8x96 : Shape := ⟨4, ![4, 4096, 8, 96]⟩
abbrev S4x4096x1024 : Shape := ⟨3, ![4, 4096, 1024]⟩
abbrev S4x4096x8x128 : Shape := ⟨4, ![4, 4096, 8, 128]⟩
abbrev S4x4096x32 : Shape := ⟨3, ![4, 4096, 32]⟩
abbrev S4x4096x1x32 : Shape := ⟨4, ![4, 4096, 1, 32]⟩
abbrev S4x4096x8x64 : Shape := ⟨4, ![4, 4096, 8, 64]⟩
abbrev S4x4096x8x32 : Shape := ⟨4, ![4, 4096, 8, 32]⟩
abbrev S4x4096x8 : Shape := ⟨3, ![4, 4096, 8]⟩
abbrev S4x4096x8x1 : Shape := ⟨4, ![4, 4096, 8, 1]⟩
abbrev S1x1x1x96 : Shape := ⟨4, ![1, 1, 1, 96]⟩
abbrev S4x8x512x8x64 : Shape := ⟨5, ![4, 8, 512, 8, 64]⟩
abbrev S4x8x8x64x512 : Shape := ⟨5, ![4, 8, 8, 64, 512]⟩
abbrev S4x8x8x1x512 : Shape := ⟨5, ![4, 8, 8, 1, 512]⟩
abbrev S4x8x8x16x512 : Shape := ⟨5, ![4, 8, 8, 16, 512]⟩
abbrev S4x4096x8x16 : Shape := ⟨4, ![4, 4096, 8, 16]⟩
abbrev S4x8x128x4096 : Shape := ⟨4, ![4, 8, 128, 4096]⟩
abbrev S4x8x4096x128 : Shape := ⟨4, ![4, 8, 4096, 128]⟩
abbrev S4x8x8x80x512 : Shape := ⟨5, ![4, 8, 8, 80, 512]⟩

abbrev nBuf : Space → Nat
  | .hbm => 155
  | .vmem => 0
  | .smem => 0
  | _ => 0

abbrev hbmTy0_0 (i : Nat) : BufTy := match i % 128 with
  | 0 => ⟨S4x4096x5760, .bf16⟩
  | 1 => ⟨S4x4096, .i32⟩
  | 2 => ⟨S256, .f32⟩
  | 3 => ⟨S256x768, .f32⟩
  | 4 => ⟨S256, .f32⟩
  | 5 => ⟨S256x1024, .f32⟩
  | 6 => ⟨S96, .f32⟩
  | 7 => ⟨S96, .f32⟩
  | 8 => ⟨S4x4096, .f32⟩
  | 9 => ⟨S4x4096x1, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S1x1x16, .f32⟩
  | 19 => ⟨S4x4096x16, .f32⟩
  | 20 => ⟨S4x4096x16, .f32⟩
  | 21 => ⟨S4x4096x16, .f32⟩
  | 22 => ⟨S4x4096x16, .f32⟩
  | 23 => ⟨S4x4096x1x16, .f32⟩
  | 24 => ⟨S4x4096x16, .f32⟩
  | 25 => ⟨S4x4096x1x16, .f32⟩
  | 26 => ⟨S4x4096x256, .bf16⟩
  | 27 => ⟨S4x4096x256, .f32⟩
  | 28 => ⟨S4x4096x256, .f32⟩
  | 29 => ⟨S_, .f32⟩
  | 30 => ⟨S4x4096, .f32⟩
  | 31 => ⟨S4x4096x1, .f32⟩
  | 32 => ⟨S_, .f32⟩
  | 33 => ⟨S4x4096x1, .f32⟩
  | 34 => ⟨S4x4096x1, .f32⟩
  | 35 => ⟨S_, .f32⟩
  | 36 => ⟨S4x4096x1, .f32⟩
  | 37 => ⟨S4x4096x1, .f32⟩
  | 38 => ⟨S4x4096x1, .f32⟩
  | 39 => ⟨S4x4096x256, .f32⟩
  | 40 => ⟨S4x4096x256, .f32⟩
  | 41 => ⟨S1x1x256, .f32⟩
  | 42 => ⟨S4x4096x256, .f32⟩
  | 43 => ⟨S4x4096x256, .f32⟩
  | 44 => ⟨S4x4096x768, .f32⟩
  | 45 => ⟨S4x4096x8x96, .f32⟩
  | 46 => ⟨S4x4096x256, .bf16⟩
  | 47 => ⟨S4x4096x256, .f32⟩
  | 48 => ⟨S4x4096x256, .f32⟩
  | 49 => ⟨S_, .f32⟩
  | 50 => ⟨S4x4096, .f32⟩
  | 51 => ⟨S4x4096x1, .f32⟩
  | 52 => ⟨S_, .f32⟩
  | 53 => ⟨S4x4096x1, .f32⟩
  | 54 => ⟨S4x4096x1, .f32⟩
  | 55 => ⟨S_, .f32⟩
  | 56 => ⟨S4x4096x1, .f32⟩
  | 57 => ⟨S4x4096x1, .f32⟩
  | 58 => ⟨S4x4096x1, .f32⟩
  | 59 => ⟨S4x4096x256, .f32⟩
  | 60 => ⟨S4x4096x256, .f32⟩
  | 61 => ⟨S1x1x256, .f32⟩
  | 62 => ⟨S4x4096x256, .f32⟩
  | 63 => ⟨S4x4096x256, .f32⟩
  | 64 => ⟨S4x4096x1024, .f32⟩
  | 65 => ⟨S4x4096x8x128, .f32⟩
  | 66 => ⟨S4x4096x32, .bf16⟩
  | 67 => ⟨S4x4096x1x32, .bf16⟩
  | 68 => ⟨S4x4096x1x32, .f32⟩
  | 69 => ⟨S4x4096x8x64, .f32⟩
  | 70 => ⟨S4x4096x8x32, .f32⟩
  | 71 => ⟨S4x4096x8x96, .f32⟩
  | 72 => ⟨S4x4096x8x96, .f32⟩
  | 73 => ⟨S_, .f32⟩
  | 74 => ⟨S4x4096x8, .f32⟩
  | 75 => ⟨S4x4096x8x1, .f32⟩
  | 76 => ⟨S_, .f32⟩
  | 77 => ⟨S4x4096x8x1, .f32⟩
  | 78 => ⟨S4x4096x8x1, .f32⟩
  | 79 => ⟨S_, .f32⟩
  | 80 => ⟨S4x4096x8x1, .f32⟩
  | 81 => ⟨S4x4096x8x1, .f32⟩
  | 82 => ⟨S4x4096x8x1, .f32⟩
  | 83 => ⟨S4x4096x8x96, .f32⟩
  | 84 => ⟨S4x4096x8x96, .f32⟩
  | 85 => ⟨S1x1x1x96, .f32⟩
  | 86 => ⟨S4x4096x8x96, .f32⟩
  | 87 => ⟨S4x4096x8x96, .f32⟩
  | 88 => ⟨S_, .f32⟩
  | 89 => ⟨S_, .f32⟩
  | 90 => ⟨S_, .f32⟩
  | 91 => ⟨S_, .f32⟩
  | 92 => ⟨S_, .f32⟩
  | 93 => ⟨S4x4096x8x96, .f32⟩
  | 94 => ⟨S4x4096x8x96, .f32⟩
  | 95 => ⟨S4x4096x8x96, .f32⟩
  | 96 => ⟨S_, .f32⟩
  | 97 => ⟨S4x4096x8, .f32⟩
  | 98 => ⟨S4x4096x8x1, .f32⟩
  | 99 => ⟨S_, .f32⟩
  | 100 => ⟨S4x4096x8x1, .f32⟩
  | 101 => ⟨S4x4096x8x1, .f32⟩
  | 102 => ⟨S_, .f32⟩
  | 103 => ⟨S4x4096x8x1, .f32⟩
  | 104 => ⟨S4x4096x8x1, .f32⟩
  | 105 => ⟨S4x4096x8x1, .f32⟩
  | 106 => ⟨S4x4096x8x96, .f32⟩
  | 107 => ⟨S4x4096x8x96, .f32⟩
  | 108 => ⟨S1x1x1x96, .f32⟩
  | 109 => ⟨S4x4096x8x96, .f32⟩
  | 110 => ⟨S4x4096x8x96, .f32⟩
  | 111 => ⟨S_, .f32⟩
  | 112 => ⟨S4x4096x8x32, .f32⟩
  | 113 => ⟨S4x4096x8x64, .f32⟩
  | 114 => ⟨S4x8x512x8x64, .f32⟩
  | 115 => ⟨S4x8x8x64x512, .f32⟩
  | 116 => ⟨S_, .f32⟩
  | 117 => ⟨S4x8x8x1x512, .f32⟩
  | 118 => ⟨S_, .i32⟩
  | 119 => ⟨S_, .f32⟩
  | 120 => ⟨S4x8x8x16x512, .f32⟩
  | 121 => ⟨S4x4096x8x16, .f32⟩
  | 122 => ⟨S4x4096x8x16, .f32⟩
  | 123 => ⟨S4x4096x8x64, .f32⟩
  | 124 => ⟨S4x4096x8x16, .f32⟩
  | 125 => ⟨S4x4096x8x16, .f32⟩
  | 126 => ⟨S4x4096x8x16, .f32⟩
  | 127 => ⟨S4x4096x8x16, .f32⟩
  | _ => ⟨S4x4096x5760, .bf16⟩

abbrev hbmTy0_1 (i : Nat) : BufTy := match i % 128 with
  | 0 => ⟨S4x4096x8x16, .f32⟩
  | 1 => ⟨S4x4096x8x16, .f32⟩
  | 2 => ⟨S4x4096x8x16, .f32⟩
  | 3 => ⟨S4x4096x8x16, .f32⟩
  | 4 => ⟨S4x4096x8x16, .f32⟩
  | 5 => ⟨S4x4096x8x16, .f32⟩
  | 6 => ⟨S4x4096x8x128, .f32⟩
  | 7 => ⟨S4x8x128x4096, .f32⟩
  | 8 => ⟨S4x8x128x4096, .bf16⟩
  | 9 => ⟨S4x4096x8x16, .f32⟩
  | 10 => ⟨S4x4096x8x16, .f32⟩
  | 11 => ⟨S4x4096x8x64, .f32⟩
  | 12 => ⟨S4x4096x8x16, .f32⟩
  | 13 => ⟨S4x4096x8x16, .f32⟩
  | 14 => ⟨S4x4096x8x16, .f32⟩
  | 15 => ⟨S4x4096x8x16, .f32⟩
  | 16 => ⟨S4x4096x8x16, .f32⟩
  | 17 => ⟨S4x4096x8x16, .f32⟩
  | 18 => ⟨S4x4096x8x16, .f32⟩
  | 19 => ⟨S4x4096x8x16, .f32⟩
  | 20 => ⟨S4x4096x8x16, .f32⟩
  | 21 => ⟨S4x4096x8x16, .f32⟩
  | 22 => ⟨S4x4096x8x128, .f32⟩
  | 23 => ⟨S4x8x4096x128, .f32⟩
  | 24 => ⟨S4x8x4096x128, .bf16⟩
  | 25 => ⟨S4x8x8x80x512, .f32⟩
  | 26 => ⟨S4x8x8x80x512, .bf16⟩
  | _ => ⟨S4x4096x5760, .bf16⟩

abbrev hbmTy (i : Nat) : BufTy := match i / 128 with
  | 0 => hbmTy0_0 i
  | 1 => hbmTy0_1 i
  | _ => ⟨S4x4096x5760, .bf16⟩

abbrev bufTy : (tb : Table) → Fin (tcTables nBuf tb) → BufTy
  | .hbm, ⟨i, _⟩ => hbmTy i
  | _, _ => ⟨S4x4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_16 : Ref sig .tc := ⟨.hbm, 116, rfl⟩
abbrev main_v91 : Ref sig .tc := ⟨.hbm, 117, rfl⟩
abbrev main_c : Ref sig .tc := ⟨.hbm, 118, rfl⟩
abbrev main_call0_v0 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩

abbrev nD : Nat := 1
abbrev τ : Topo := Topo.v7x

variable {F : FTy → Type} [FloatOps F]
-- ==== Route.lean ====
abbrev S16384x1024 : Shape := ⟨2, ![16384, 1024]⟩
abbrev S1024 : Shape := ⟨1, ![1024]⟩
abbrev S1024x8 : Shape := ⟨2, ![1024, 8]⟩
abbrev S1x1024 : Shape := ⟨2, ![1, 1024]⟩
abbrev S16384x8x128 : Shape := ⟨3, ![16384, 8, 128]⟩
abbrev S16384x2 : Shape := ⟨2, ![16384, 2]⟩
abbrev S1024x1024 : Shape := ⟨2, ![1024, 1024]⟩
abbrev S1024x8x128 : Shape := ⟨3, ![1024, 8, 128]⟩
abbrev S1024x2 : Shape := ⟨2, ![1024, 2]⟩
abbrev S1024x1 : Shape := ⟨2, ![1024, 1]⟩
abbrev S1024x128 : Shape := ⟨2, ![1024, 128]⟩
abbrev S1024x1x128 : Shape := ⟨3, ![1024, 1, 128]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S1x1024, .f32⟩
  | .hbm, ⟨4, _⟩ => ⟨S16384x8x128, .f32⟩
  | .hbm, ⟨5, _⟩ => ⟨S16384x2, .i32⟩
  | .hbm, ⟨6, _⟩ => ⟨S16384x2, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x8, .f32⟩
  | .local _ .vmem, ⟨4, _⟩ => ⟨S1024x8x128, .f32⟩
  | .local _ .vmem, ⟨5, _⟩ => ⟨S1024x8x128, .f32⟩
  | .local _ .vmem, ⟨6, _⟩ => ⟨S1024x2, .i32⟩
  | .local _ .vmem, ⟨7, _⟩ => ⟨S1024x2, .i32⟩
  | .local _ .vmem, ⟨8, _⟩ => ⟨S1024x2, .f32⟩
  | .local _ .vmem, ⟨9, _⟩ => ⟨S1024x2, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RoutedIdeal.lean ====
abbrev S16384x1024 : Shape := ⟨2, ![16384, 1024]⟩
abbrev S1024 : Shape := ⟨1, ![1024]⟩
abbrev S1024x8 : Shape := ⟨2, ![1024, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x8x128 : Shape := ⟨3, ![16384, 8, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8, .f32⟩
  | .hbm, ⟨20, _⟩ => ⟨S16384x2, .f32⟩
  | .hbm, ⟨21, _⟩ => ⟨S16384x2, .i32⟩
  | .hbm, ⟨22, _⟩ => ⟨S16384x8x128, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x2, .f32⟩
  | .hbm, ⟨30, _⟩ => ⟨S16384x2, .f32⟩
  | .hbm, ⟨31, _⟩ => ⟨S16384x2, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x2, .f32⟩
  | .hbm, ⟨36, _⟩ => ⟨S16384x2, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Proof.Trips.lean ====
/- The attention body's loop, trip by trip, at one head: the words the kernel computes its bounds and offsets from, in
   closed form; one head's step as a function of the three operand blocks; and the loop's carried values as four heads'
   recursions. -/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-! ## Bounds and offsets -/

/-- The query block of a grid point is below 8. -/
theorem qb_lt (i : grid0.Coords) : (i 2).val < 8 := (i 2).isLt

/-- The first loop makes as many trips as there are whole key blocks below the query block. -/
theorem trips1 (i : grid0.Coords) : (k0_t1_loop i).trips = (i 2).val :=
  (by decide : ∀ n : Fin 8, Scf.trips (0#32) (Scalar.addi 0#32 (Scalar.muli (Scalar.divsi
    (Scalar.subi (BitVec.ofNat 32 n.val) 0#32) 1#32) 1#32)) 1#32 = n.val) ⟨(i 2).val, qb_lt i⟩

/-- The second loop (what would be left after unrolling by one) makes no trip. -/
theorem trips2 (i : grid0.Coords) : (k0_t2_loop i).trips = 0 :=
  (by decide : ∀ n : Fin 8, Scf.trips (Scalar.addi 0#32 (Scalar.muli (Scalar.divsi
    (Scalar.subi (BitVec.ofNat 32 n.val) 0#32) 1#32) 1#32))
    (Scalar.addi 0#32 (Scalar.subi (BitVec.ofNat 32 n.val) 0#32)) 1#32 = 0) ⟨(i 2).val, qb_lt i⟩

/-- A trip's number is below 8. -/
theorem trip_lt {i : grid0.Coords} (k : Fin (k0_t1_loop i).trips) : k.val < 8 :=
  lt_of_lt_of_eq k.isLt (trips1 i) |>.trans (qb_lt i)

/-- Row `512 k` as the loop computes it. -/
theorem row_word {k : ℕ} (h : k < 8) :
    (Scalar.indexCast (Scalar.muli (Scf.iv 0#32 1#32 k) 512#32) : Index).toNat = 512 * k :=
  (by decide : ∀ n : Fin 8, (Scalar.indexCast (Scalar.muli (Scf.iv 0#32 1#32 n.val) 512#32) : Index).toNat
    = 512 * n.val) ⟨k, h⟩

/-- Block `k` as the loop computes it. -/
theorem blk_word {k : ℕ} (h : k < 8) : (Scalar.indexCast (Scf.iv 0#32 1#32 k) : Index).toNat = k :=
  (by decide : ∀ n : Fin 8, (Scalar.indexCast (Scf.iv 0#32 1#32 n.val) : Index).toNat = n.val) ⟨k, h⟩

/-- Row `512 q` as the body computes it after the loop. -/
theorem row_word' {q : ℕ} (h : q < 8) :
    (Scalar.indexCast (Scalar.muli (BitVec.ofNat 32 q) 512#32) : Index).toNat = 512 * q :=
  (by decide : ∀ n : Fin 8, (Scalar.indexCast (Scalar.muli (BitVec.ofNat 32 n.val) 512#32) : Index).toNat
    = 512 * n.val) ⟨q, h⟩

/-- Block `q` as the body computes it after the loop. -/
theorem blk_word' {q : ℕ} (h : q < 8) : (Scalar.indexCast (BitVec.ofNat 32 q) : Index).toNat = q :=
  (by decide : ∀ n : Fin 8, (Scalar.indexCast (BitVec.ofNat 32 n.val) : Index).toNat = n.val) ⟨q, h⟩

/-! ## One head's blocks -/

/-- Head `h`'s transposed queries. -/
def qblk (x0 : Vec Ideal S1x4x128x512 .bf16) (h : Fin 4) : Vec Ideal S1x1x128x512 .bf16 :=
  fun y => x0 (ix4 0 h (y 2) (y 3))

/-- Head `h`'s keys `512 j` to `512 j + 511`. -/
def kblk (x1 : Vec Ideal S1x4x4096x128 .bf16) (h : Fin 4) (j : ℕ) : Vec Ideal S1x1x512x128 .bf16 :=
  fun y => x1 (ix4 0 h ⟨(512 * j + (y 2).val) % 4096, Nat.mod_lt _ (by decide)⟩ (y 3))

/-- Head `h`'s transposed values of key block `j`. -/
def vblk (x2 : Vec Ideal S1x4x8x80x512 .bf16) (h : Fin 4) (j : ℕ) : Vec Ideal S1x1x1x80x512 .bf16 :=
  fun y => x2 (ix5 0 h ⟨j % 8, Nat.mod_lt _ (by decide)⟩ (y 3) (y 4))

/-- The load of head `h`'s queries is `qblk`. -/
theorem ld_q (x0 : Vec Ideal S1x4x128x512 .bf16) (off : Fin 4 → ℕ) (inb) (h : Fin 4) (e : off = ![0, h.val, 0, 0]) :
    View.ld x0 (Rect.unit (s := S1x4x128x512) off ![1, 1, 128, 512] inb) = qblk x0 h := by
  subst e
  funext y
  unfold qblk
  idx_vars y
  pointwise
  blk_ext

/-- The load of head `h`'s key block `j` is `kblk`. -/
theorem ld_k (x1 : Vec Ideal S1x4x4096x128 .bf16) (off : Fin 4 → ℕ) (inb) (h : Fin 4) (j : ℕ) (hj : j < 8)
    (e : off = ![0, h.val, 512 * j, 0]) :
    View.ld x1 (Rect.unit (s := S1x4x4096x128) off ![1, 1, 512, 128] inb) = kblk x1 h j := by
  subst e
  funext y
  unfold kblk
  idx_vars y
  pointwise
  blk_ext

/-- The load of head `h`'s value block `j` is `vblk`. -/
theorem ld_v (x2 : Vec Ideal S1x4x8x80x512 .bf16) (off : Fin 5 → ℕ) (inb) (h : Fin 4) (j : ℕ) (hj : j < 8)
    (e : off = ![0, h.val, j, 0, 0]) :
    View.ld x2 (Rect.unit (s := S1x4x8x80x512) off ![1, 1, 1, 80, 512] inb) = vblk x2 h j := by
  subst e
  funext y
  unfold vblk
  idx_vars y
  pointwise
  blk_ext

/-! ## One head's step and its recursion -/

/-- What one head carries: the running maximum of every query column and the running sums. -/
abbrev Carry : Type := FVec Ideal S1x512 .f32 × FVec Ideal S80x512 .f32

/-- One head's step over key block `j`, nothing masked. -/
def step (x0 : Vec Ideal S1x4x128x512 .bf16) (x1 : Vec Ideal S1x4x4096x128 .bf16) (x2 : Vec Ideal S1x4x8x80x512 .bf16)
    (h : Fin 4) (j : ℕ) (p : Carry) : Carry :=
  (k0_pay7 p.1 (k0_pay3 (kblk x1 h j) (qblk x0 h)), k0_pay8 p.1 p.2 (k0_pay3 (kblk x1 h j) (qblk x0 h)) (vblk x2 h j))

/-- One head's carry before key block `j`. -/
def carry (x0 : Vec Ideal S1x4x128x512 .bf16) (x1 : Vec Ideal S1x4x4096x128 .bf16) (x2 : Vec Ideal S1x4x8x80x512 .bf16)
    (h : Fin 4) : ℕ → Carry
  | 0 => (k0_pay23, k0_pay24)
  | j + 1 => step x0 x1 x2 h j (carry x0 x1 x2 h j)

/-- Four heads' carries side by side, as the loop carries them. -/
def pack (p : Fin 4 → Carry) : FVec Ideal S1x512 .f32 × FVec Ideal S80x512 .f32 × FVec Ideal S1x512 .f32 × FVec Ideal S80x512 .f32 × FVec Ideal S1x512 .f32 × FVec Ideal S80x512 .f32 × FVec Ideal S1x512 .f32 × FVec Ideal S80x512 .f32 :=
  ((p 0).1, (p 0).2, (p 1).1, (p 1).2, (p 2).1, (p 2).2, (p 3).1, (p 3).2)

section
variable (𝒱 : Variants) (c : Dev nD) (bd : Option 𝒱.V) (i : grid0.Coords)
  (arg3 : Memref sig .tc .vmem S1x4x128x512 .bf16) (harg3 : arg3.IsWhole)
  (arg4 : Memref sig .tc .vmem S1x4x4096x128 .bf16) (harg4 : arg4.IsWhole)
  (arg5 : Memref sig .tc .vmem S1x4x8x80x512 .bf16) (harg5 : arg5.IsWhole)
  (arg6 : Memref sig .tc .vmem S1x4x64x512 .bf16) (harg6 : arg6.IsWhole)
  (x0 : Vec Ideal S1x4x128x512 .bf16) (x1 : Vec Ideal S1x4x4096x128 .bf16) (x2 : Vec Ideal S1x4x8x80x512 .bf16)

/-- A trip of the loop takes every head one step. -/
theorem trip1 (k : Fin (k0_t1_loop i).trips) (p : Fin 4 → Carry) :
    tripR_k0_t1 (F := Ideal) 𝒱 c bd i arg3 harg3 arg4 harg4 arg5 harg5 arg6 harg6 (harg3.unread x0) (harg4.unread x1) (harg5.unread x2) k (pack p)
      = pack fun h => step x0 x1 x2 h k.val (p h) := by
  unfold tripR_k0_t1 trip_k0_t1
  frame_out
  have hk := trip_lt k
  rw [ld_q x0 ![0, 0, 0, 0] _ 0 rfl, ld_q x0 ![0, 1, 0, 0] _ 1 rfl, ld_q x0 ![0, 2, 0, 0] _ 2 rfl,
    ld_q x0 ![0, 3, 0, 0] _ 3 rfl,
    ld_k x1 (k0_off1 i k) _ 0 k.val hk (congrArg (fun n => ![0, 0, n, 0]) (row_word hk)),
    ld_k x1 (k0_off2 i k) _ 1 k.val hk (congrArg (fun n => ![0, 1, n, 0]) (row_word hk)),
    ld_k x1 (k0_off3 i k) _ 2 k.val hk (congrArg (fun n => ![0, 2, n, 0]) (row_word hk)),
    ld_k x1 (k0_off4 i k) _ 3 k.val hk (congrArg (fun n => ![0, 3, n, 0]) (row_word hk)),
    ld_v x2 (k0_off5 i k) _ 0 k.val hk (congrArg (fun n => ![0, 0, n, 0, 0]) (blk_word hk)),
    ld_v x2 (k0_off6 i k) _ 1 k.val hk (congrArg (fun n => ![0, 1, n, 0, 0]) (blk_word hk)),
    ld_v x2 (k0_off7 i k) _ 2 k.val hk (congrArg (fun n => ![0, 2, n, 0, 0]) (blk_word hk)),
    ld_v x2 (k0_off8 i k) _ 3 k.val hk (congrArg (fun n => ![0, 3, n, 0, 0]) (blk_word hk))]
  rfl

/-- After `j` trips every head has made `j` steps. -/
theorem state1 (j : ℕ) (hj : j ≤ (i 2).val) :
    st_k0_t1 (F := Ideal) 𝒱 c bd i arg3 harg3 arg4 harg4 arg5 harg5 arg6 harg6 (harg3.unread x0) (harg4.unread x1) (harg5.unread x2)
      (k0_pay23, k0_pay24, k0_pay25, k0_pay26, k0_pay27, k0_pay28, k0_pay29, k0_pay30) j
      = pack fun h => carry x0 x1 x2 h j := by
  induction j with
  | zero => rfl
  | succ j ih =>
    have hlt : j < (k0_t1_loop i).trips := by rw [trips1]; omega
    have e := st_k0_t1_succ (F := Ideal) 𝒱 c bd i arg3 harg3 arg4 harg4 arg5 harg5 arg6 harg6 (harg3.unread x0) (harg4.unread x1) (harg5.unread x2)
      (k0_pay23, k0_pay24, k0_pay25, k0_pay26, k0_pay27, k0_pay28, k0_pay29, k0_pay30) ⟨j, hlt⟩
    rw [e, ih (by omega), trip1]
    rfl

end

end Cert.KernelIdeal.Attn

end
-- ==== Proof.Block.lean ====
/- What the attention body leaves in its output block at a grid point: head `h` of the block holds the quotient of head
   `h`'s sums after the whole key blocks below and the masked block on the diagonal. -/
module

public import proofs.«01_k».proof.Proof.Trips

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- One head's stored block at query block `q`: the last, masked step from the carry of the blocks below, divided. -/
def headBlk (x0 : Vec Ideal S1x4x128x512 .bf16) (x1 : Vec Ideal S1x4x4096x128 .bf16) (x2 : Vec Ideal S1x4x8x80x512 .bf16)
    (q : ℕ) (h : Fin 4) : FVec Ideal S1x1x64x512 .bf16 :=
  k0_pay2 (k0_pay8 (carry x0 x1 x2 h q).1 (carry x0 x1 x2 h q).2 (k0_pay37 (kblk x1 h q) (qblk x0 h)) (vblk x2 h q))

/-- A head's block read at a position of the whole block. -/
theorem head_at (x0 : Vec Ideal S1x4x128x512 .bf16) (x1 : Vec Ideal S1x4x4096x128 .bf16) (x2 : Vec Ideal S1x4x8x80x512 .bf16)
    (q : ℕ) (h : Fin 4) (y : S1x4x64x512.Idx) (x : S1x1x64x512.Idx) (P : FVec Ideal S1x1x64x512 .bf16)
    (e : P = headBlk x0 x1 x2 q h) (h0 : (x 0).val = 0) (h1 : (x 1).val = 0) (hy : (y 1).val = h.val)
    (h2 : (y 2).val = (x 2).val) (h3 : (y 3).val = (x 3).val) :
    P x = headBlk x0 x1 x2 q (y 1) (ix4 0 0 (y 2) (y 3)) := by
  subst e
  rw [show y 1 = h from Fin.ext hy]
  congr 1
  idx_vars x
  blk_ext

/-- THE BLOCK a grid point writes. -/
theorem out_eq (c : Dev nD) (i : grid0.Coords)
  (arg3 : Memref sig .tc .vmem S1x4x128x512 .bf16) (harg3 : arg3.IsWhole)
  (arg4 : Memref sig .tc .vmem S1x4x4096x128 .bf16) (harg4 : arg4.IsWhole)
  (arg5 : Memref sig .tc .vmem S1x4x8x80x512 .bf16) (harg5 : arg5.IsWhole)
  (arg6 : Memref sig .tc .vmem S1x4x64x512 .bf16) (harg6 : arg6.IsWhole)
  (x0 : Vec Ideal S1x4x128x512 .bf16) (x1 : Vec Ideal S1x4x4096x128 .bf16) (x2 : Vec Ideal S1x4x8x80x512 .bf16)
  (y : S1x4x64x512.Idx) :
    out0_A_3 (F := Ideal) c i arg3 harg3 arg4 harg4 arg5 harg5 arg6 harg6 x0 x1 x2 y
      = headBlk x0 x1 x2 (i 2).val (y 1) (ix4 0 0 (y 2) (y 3)) := by
  have hq := qb_lt i
  have e1 : Scf.trips (0#32) (Scalar.addi 0#32 (Scalar.muli (Scalar.divsi
    (Scalar.subi (BitVec.ofNat 32 (i 2).val) 0#32) 1#32) 1#32)) 1#32 = (i 2).val := trips1 i
  have e2 : Scf.trips (Scalar.addi 0#32 (Scalar.muli (Scalar.divsi
    (Scalar.subi (BitVec.ofNat 32 (i 2).val) 0#32) 1#32) 1#32))
    (Scalar.addi 0#32 (Scalar.subi (BitVec.ofNat 32 (i 2).val) 0#32)) 1#32 = 0 := trips2 i
  frame_out
  simp only [e1, e2, state1 _ _ _ _ _ _ _ _ _ _ _ _ x0 x1 x2 _ le_rfl, st_k0_t2_zero]
  rw [ld_q x0 ![0, 0, 0, 0] _ 0 rfl, ld_q x0 ![0, 1, 0, 0] _ 1 rfl, ld_q x0 ![0, 2, 0, 0] _ 2 rfl,
    ld_q x0 ![0, 3, 0, 0] _ 3 rfl,
    ld_k x1 (k0_off17 i) _ 0 (i 2).val hq (congrArg (fun n => ![0, 0, n, 0]) (row_word' hq)),
    ld_k x1 (k0_off18 i) _ 1 (i 2).val hq (congrArg (fun n => ![0, 1, n, 0]) (row_word' hq)),
    ld_k x1 (k0_off19 i) _ 2 (i 2).val hq (congrArg (fun n => ![0, 2, n, 0]) (row_word' hq)),
    ld_k x1 (k0_off20 i) _ 3 (i 2).val hq (congrArg (fun n => ![0, 3, n, 0]) (row_word' hq)),
    ld_v x2 (k0_off21 i) _ 0 (i 2).val hq (congrArg (fun n => ![0, 0, n, 0, 0]) (blk_word' hq)),
    ld_v x2 (k0_off22 i) _ 1 (i 2).val hq (congrArg (fun n => ![0, 1, n, 0, 0]) (blk_word' hq)),
    ld_v x2 (k0_off23 i) _ 2 (i 2).val hq (congrArg (fun n => ![0, 2, n, 0, 0]) (blk_word' hq)),
    ld_v x2 (k0_off24 i) _ 3 (i 2).val hq (congrArg (fun n => ![0, 3, n, 0, 0]) (blk_word' hq))]
  canon_tiles x h
  case piece0 =>
    exact head_at x0 x1 x2 _ 3 y x _ rfl (by omega) (by omega) (by omega) (by omega) (by omega)
  case piece1 =>
    exact head_at x0 x1 x2 _ 2 y x _ rfl (by omega) (by omega) (by omega) (by omega) (by omega)
  case piece2 =>
    exact head_at x0 x1 x2 _ 1 y x _ rfl (by omega) (by omega) (by omega) (by omega) (by omega)
  case piece3 =>
    exact head_at x0 x1 x2 _ 0 y x _ rfl (by omega) (by omega) (by omega) (by omega) (by omega)

end Cert.KernelIdeal.Attn

end
-- ==== Proof.Softmax.lean ====
/- The mathematics of a running softmax, on extended reals, apart from any program: sums weighted by powers of two
   at a real base, one step that takes in a block of scores, the quotient at the end, and the plain softmax. -/
module

public import Idealize.ShloMosaic.PureOps.Ideal
public import Idealize.ShloMosaic.PureOps.Ideal.Laws
public import Mathlib.Analysis.SpecialFunctions.Pow.Real

@[expose] public section

noncomputable section

namespace Cert.Attn

open Idealize.ShloMosaic

/-- The embedding of the reals commutes with finite sums. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum over `Fin n` of terms that vanish from `c` on is the sum over the first `c` numbers. -/
theorem sum_fin_lt {n c : ℕ} (hc : c ≤ n) (g : ℕ → ℝ) :
    ∑ t : Fin n, (if t.val < c then g t.val else 0) = ∑ t ∈ Finset.range c, g t := by
  rw [Fin.sum_univ_eq_sum_range (fun t => if t < c then g t else 0) n, ← Finset.sum_filter]
  congr 1
  ext t
  simp only [Finset.mem_filter, Finset.mem_range]
  omega

/-- The sum over the first `N` keys of `w`, weighted by `2 ^ (s n - M)`. -/
def wsum (s w : ℕ → ℝ) (N : ℕ) (M : ℝ) : ℝ := ∑ n ∈ Finset.range N, (2 : ℝ) ^ (s n - M) * w n

/-- Moving the base from `M` to `M'` multiplies the weighted sum by `2 ^ (M - M')`. -/
theorem wsum_rebase (s w : ℕ → ℝ) (N : ℕ) (M M' : ℝ) :
    (2 : ℝ) ^ (M - M') * wsum s w N M = wsum s w N M' := by
  unfold wsum
  rw [Finset.mul_sum]
  refine Finset.sum_congr rfl fun n _ => ?_
  rw [← mul_assoc, ← Real.rpow_add (by norm_num)]
  congr 2
  ring

/-- The weighted sum over `N + c` keys is that over the first `N` and that over the next `c`. -/
theorem wsum_add (s w : ℕ → ℝ) (N c : ℕ) (M : ℝ) :
    wsum s w (N + c) M = wsum s w N M + ∑ t ∈ Finset.range c, (2 : ℝ) ^ (s (N + t) - M) * w (N + t) := by
  unfold wsum
  induction c with
  | zero => simp
  | succ c ih => rw [← Nat.add_assoc, Finset.sum_range_succ, ih, Finset.sum_range_succ, add_assoc]

/-- What a running softmax carries after `N` keys: nothing yet (`-∞` and zeros), or some real base `M` and, for
    every channel, the weighted sum at that base. That `M` is the maximum plays no part. -/
def Holds {V : Type} (s : ℕ → ℝ) (w : V → ℕ → ℝ) (N : ℕ) (m : EReal) (acc : V → EReal) : Prop :=
  (N = 0 ∧ m = ⊥ ∧ ∀ v, acc v = 0) ∨ ∃ M : ℝ, m = (M : EReal) ∧ ∀ v, acc v = ((wsum s (w v) N M : ℝ) : EReal)

/-- Before the first key the carry `-∞`, zeros holds. -/
theorem Holds.start {V : Type} (s : ℕ → ℝ) (w : V → ℕ → ℝ) {m : EReal} {acc : V → EReal} (hm : m = ⊥)
    (ha : ∀ v, acc v = 0) : Holds s w 0 m acc := .inl ⟨rfl, hm, ha⟩

/-- `max m (sup S)` is real when `m` and the scores are below `+∞` and one score is real. -/
theorem max_real {n : ℕ} (m : EReal) (hm : m ≠ ⊤) (S : Fin n → EReal) (hS : ∀ t, S t ≠ ⊤) (t₀ : Fin n)
    (h₀ : S t₀ ≠ ⊥) : ∃ M : ℝ, max m (Finset.univ.fold max ⊥ S) = (M : EReal) := by
  have hf : Finset.univ.fold max ⊥ S = Finset.univ.sup S := rfl
  rw [hf]
  have htop : max m (Finset.univ.sup S) ≠ ⊤ := by
    apply ne_of_lt
    apply max_lt (lt_top_iff_ne_top.mpr hm)
    rw [Finset.sup_lt_iff (by simp)]
    exact fun t _ => lt_top_iff_ne_top.mpr (hS t)
  have hbot : max m (Finset.univ.sup S) ≠ ⊥ := by
    apply ne_of_gt
    exact lt_of_lt_of_le (bot_lt_iff_ne_bot.mpr h₀) (le_max_of_le_right (Finset.le_sup (Finset.mem_univ t₀)))
  exact ⟨_, (EReal.coe_toReal htop hbot).symm⟩

/-- ONE STEP: a block of scores of which the first `c` are real and the rest are masked to `-∞` takes the carry
    from `N` to `N + c` keys. -/
theorem Holds.step {V : Type} {s : ℕ → ℝ} {w : V → ℕ → ℝ} {N : ℕ} {m : EReal} {acc : V → EReal}
    (h : Holds s w N m acc) {n c : ℕ} (hc : 0 < c) (hcn : c ≤ n) (S : Fin n → EReal)
    (hS : ∀ t, S t = if t.val < c then (s (N + t.val) : EReal) else ⊥) (W : V → Fin n → EReal)
    (hW : ∀ v t, W v t = ((w v (N + t.val) : ℝ) : EReal)) {m' : EReal} {acc' : V → EReal}
    (hm : m' = max m (Finset.univ.fold max ⊥ S))
    (ha : ∀ v, acc' v = Ideal.exp2 (m - m') * acc v + ∑ t, W v t * Ideal.exp2 (S t - m')) :
    Holds s w (N + c) m' acc' := by
  have hmt : m ≠ ⊤ := by
    rcases h with ⟨_, h, _⟩ | ⟨M, h, _⟩ <;> rw [h] <;> simp
  obtain ⟨M', hM'⟩ := max_real m hmt S
    (fun t => by rw [hS]; split <;> simp) ⟨0, by omega⟩ (by rw [hS, if_pos hc]; simp)
  rw [hM'] at hm
  subst hm
  refine .inr ⟨M', rfl, fun v => ?_⟩
  have hterm : ∀ t, W v t * Ideal.exp2 (S t - (M' : EReal))
      = ((if t.val < c then (2 : ℝ) ^ (s (N + t.val) - M') * w v (N + t.val) else 0 : ℝ) : EReal) := by
    intro t
    rw [hS, hW]
    split
    · rw [← EReal.coe_sub, Ideal.exp2_coe, ← EReal.coe_mul, mul_comm]; rfl
    · rw [EReal.bot_sub, Ideal.exp2_bot, mul_zero]; rfl
  have hold : Ideal.exp2 (m - (M' : EReal)) * acc v = ((wsum s (w v) N M' : ℝ) : EReal) := by
    rcases h with ⟨hN, hm, ha⟩ | ⟨M, hm, ha⟩
    · subst hN
      rw [ha, mul_zero]
      simp [wsum]
    · rw [hm, ha, ← EReal.coe_sub, Ideal.exp2_coe, ← EReal.coe_mul]
      exact congrArg _ (wsum_rebase s (w v) N M M')
  rw [ha, hold, Finset.sum_congr rfl fun t _ => hterm t, ← coe_sum, sum_fin_lt hcn
    (fun t => (2 : ℝ) ^ (s (N + t) - M') * w v (N + t)), ← EReal.coe_add, wsum_add]

/-- The softmax average of `w` over the first `N` keys, with base-two scores `s`. -/
def soft (s w : ℕ → ℝ) (N : ℕ) : ℝ :=
  (∑ n ∈ Finset.range N, (2 : ℝ) ^ s n * w n) / ∑ n ∈ Finset.range N, (2 : ℝ) ^ s n

/-- A positive number of keys has a positive sum of weights. -/
theorem weights_pos (s : ℕ → ℝ) {N : ℕ} (hN : 0 < N) (M : ℝ) :
    0 < ∑ n ∈ Finset.range N, (2 : ℝ) ^ (s n - M) :=
  Finset.sum_pos (fun n _ => Real.rpow_pos_of_pos (by norm_num) _) ⟨0, by simpa using hN⟩

/-- The quotient of two weighted sums does not see the base. -/
theorem wsum_div (s w : ℕ → ℝ) (N : ℕ) (M : ℝ) :
    wsum s w N M / ∑ n ∈ Finset.range N, (2 : ℝ) ^ (s n - M) = soft s w N := by
  have h0 : ∀ n, (2 : ℝ) ^ (s n - M) = (2 : ℝ) ^ s n * (2 : ℝ) ^ (-M) := fun n => by
    rw [← Real.rpow_add (by norm_num)]; rfl
  unfold wsum soft
  simp only [h0]
  rw [← Finset.sum_mul, Finset.sum_congr rfl (fun n _ => mul_right_comm _ _ (w n)), ← Finset.sum_mul,
    mul_div_mul_right _ _ (Real.rpow_pos_of_pos (by norm_num) _).ne']

/-- THE END: the carried sum of a channel divided by that of a channel of ones is the softmax average. -/
theorem Holds.quotient {V : Type} {s : ℕ → ℝ} {w : V → ℕ → ℝ} {N : ℕ} {m : EReal} {acc : V → EReal}
    (h : Holds s w N m acc) (hN : 0 < N) (v u : V) (hu : ∀ n, w u n = 1) :
    Ideal.div (acc v) (acc u) = ((soft s (w v) N : ℝ) : EReal) := by
  rcases h with ⟨h, _⟩ | ⟨M, _, ha⟩
  · omega
  · have e : wsum s (w u) N M = ∑ n ∈ Finset.range N, (2 : ℝ) ^ (s n - M) := by simp [wsum, hu]
    rw [ha, ha, e, Ideal.div_coe (weights_pos s hN M).ne', ← EReal.coe_mul, mul_one_div, wsum_div]

/-- THE PLAIN SOFTMAX: scores `s n * log 2` for the first `N` of `n` keys and `-∞` for the others, exponentials at a
    real base, normalised and then averaged, are the softmax average. -/
theorem plain {s w : ℕ → ℝ} {N n : ℕ} (hN : 0 < N) (hNn : N ≤ n) (T x : Fin n → EReal)
    (hT : ∀ t, T t = if t.val < N then ((s t.val * Real.log 2 : ℝ) : EReal) else ⊥)
    (hx : ∀ t, x t = ((w t.val : ℝ) : EReal)) (m : EReal)
    (hm : m = max ⊥ (Finset.univ.fold max ⊥ T)) :
    ∑ t, x t * Ideal.div (Ideal.exp (T t - m)) (∑ u, Ideal.exp (T u - m)) = ((soft s w N : ℝ) : EReal) := by
  obtain ⟨M, hM⟩ := max_real ⊥ (by simp) T
    (fun t => by rw [hT]; split; exacts [EReal.coe_ne_top _, bot_ne_top]) ⟨0, by omega⟩
    (by rw [hT, if_pos hN]; exact EReal.coe_ne_bot _)
  rw [hM] at hm
  subst hm
  have hl : Real.log 2 ≠ 0 := (Real.log_pos (by norm_num)).ne'
  have he : ∀ t, Ideal.exp (T t - (M : EReal))
      = ((if t.val < N then (2 : ℝ) ^ (s t.val - M / Real.log 2) else 0 : ℝ) : EReal) := by
    intro t
    rw [hT]
    split
    · rw [← EReal.coe_sub, Ideal.exp_coe, Real.rpow_def_of_pos (by norm_num)]
      congr 2
      field_simp
    · rw [EReal.bot_sub, Ideal.exp_bot]; rfl
  have hsum : ∑ u, Ideal.exp (T u - (M : EReal))
      = ((∑ t ∈ Finset.range N, (2 : ℝ) ^ (s t - M / Real.log 2) : ℝ) : EReal) := by
    rw [Finset.sum_congr rfl fun t _ => he t, ← coe_sum,
      sum_fin_lt hNn (fun t => (2 : ℝ) ^ (s t - M / Real.log 2))]
  have hp := weights_pos s hN (M / Real.log 2)
  rw [hsum]
  have hterm : ∀ t, x t * Ideal.div (Ideal.exp (T t - (M : EReal)))
        ((∑ t ∈ Finset.range N, (2 : ℝ) ^ (s t - M / Real.log 2) : ℝ) : EReal)
      = ((if t.val < N then (2 : ℝ) ^ (s t.val - M / Real.log 2) * w t.val
          / (∑ t ∈ Finset.range N, (2 : ℝ) ^ (s t - M / Real.log 2)) else 0 : ℝ) : EReal) := by
    intro t
    rw [he, hx, Ideal.div_coe hp.ne', ← EReal.coe_mul, ← EReal.coe_mul]
    congr 1
    split
    · ring
    · ring
  rw [Finset.sum_congr rfl fun t _ => hterm t, ← coe_sum,
    sum_fin_lt hNn (fun t => (2 : ℝ) ^ (s t - M / Real.log 2) * w t
          / (∑ t ∈ Finset.range N, (2 : ℝ) ^ (s t - M / Real.log 2))), ← Finset.sum_div]
  exact congrArg _ (wsum_div s w N (M / Real.log 2))

end Cert.Attn

end
-- ==== Proof.Spec.lean ====
/- Causal softmax attention on real queries, keys and values, as both programs compute it. -/
module

public import proofs.«01_k».proof.Proof.Softmax

@[expose] public section

noncomputable section

namespace Cert.Attn

open Idealize.ShloMosaic

/-- Real queries or keys: batch, position, head, feature. -/
abbrev QK : Type := Fin 4 → Fin 4096 → Fin 8 → Fin 96 → ℝ

/-- Real values: batch, position, head, channel. -/
abbrev VV : Type := Fin 4 → Fin 4096 → Fin 8 → Fin 64 → ℝ

/-- Position `n` of the sequence (numbers past its end wrap around and are never reached). -/
def pos (n : ℕ) : Fin 4096 := ⟨n % 4096, Nat.mod_lt _ (by decide)⟩

theorem pos_val (t : Fin 4096) : pos t.val = t := Fin.ext (Nat.mod_eq_of_lt t.isLt)

/-- The factor on a score that makes a power of two of the softmax's exponential. -/
def scale : ℝ := 1 / (√96 * Real.log 2)

theorem log2_ne : Real.log 2 ≠ 0 := (Real.log_pos (by norm_num)).ne'

theorem sqrt_ne : √(96 : ℝ) ≠ 0 := (Real.sqrt_pos.mpr (by norm_num)).ne'

/-- The base-two score of query `r` against key `n`. -/
def score (q k : QK) (b : Fin 4) (h : Fin 8) (r : Fin 4096) (n : ℕ) : ℝ :=
  (∑ d : Fin 96, q b r h d * k b (pos n) h d) * scale

/-- The values with the row of ones: channel 64 is one, the channels above are zero. -/
def chan (v : VV) (b : Fin 4) (h : Fin 8) (e : Fin 80) (n : ℕ) : ℝ :=
  if he : e.val < 64 then v b (pos n) h ⟨e.val, he⟩ else if e.val = 64 then 1 else 0

/-- CAUSAL ATTENTION: query `r` of head `h` averages channel `e` over the keys up to `r`. -/
def att (q k : QK) (v : VV) (b : Fin 4) (h : Fin 8) (e : Fin 64) (r : Fin 4096) : ℝ :=
  soft (score q k b h r) (chan v b h ⟨e.val, by omega⟩) (r.val + 1)

/-- A sum over padded features is the sum over the 96 features. -/
theorem sum_pad (f : Fin 96 → ℝ) : (∑ d : Fin 128, if h : d.val < 96 then f ⟨d.val, h⟩ else 0) = ∑ d : Fin 96, f d := by
  rw [show (128 : ℕ) = 96 + 32 from rfl, Fin.sum_univ_add]
  simp

/-- The word of 96. -/
theorem ofBits_96 : Ideal.ofBits .f32 0x42C00000#32 = ((96 : ℝ) : EReal) := by
  simp [Ideal.ofBits, Ideal.ieee]
  rw [← EReal.coe_mul]
  norm_num

/-- The word of 2. -/
theorem ofBits_2 : Ideal.ofBits .f32 0x40000000#32 = ((2 : ℝ) : EReal) := by
  simp [Ideal.ofBits, Ideal.ieee]
  rw [← EReal.coe_mul]
  norm_num

/-- The word of `-∞`. -/
theorem ofBits_neg_inf : Ideal.ofBits .f32 0xFF800000#32 = ⊥ := by
  simp [Ideal.ofBits, Ideal.ieee]

theorem sqrt_96 : Ideal.sqrt ((96 : ℝ) : EReal) = ((√96 : ℝ) : EReal) := by
  show (if (96 : ℝ) < 0 then (⊥ : EReal) else ((√96 : ℝ) : EReal)) = _
  rw [if_neg (by norm_num)]

theorem log_2 : Ideal.log ((2 : ℝ) : EReal) = ((Real.log 2 : ℝ) : EReal) := by
  show (if (2 : ℝ) ≤ 0 then (⊥ : EReal) else ((Real.log 2 : ℝ) : EReal)) = _
  rw [if_neg (by norm_num)]

/-- The kernel's scale, computed by the host from its two constants. -/
theorem host_scale : Ideal.div 1 (Ideal.sqrt (Ideal.ofBits .f32 0x42C00000#32) * Ideal.log (Ideal.ofBits .f32 0x40000000#32))
    = ((scale : ℝ) : EReal) := by
  rw [ofBits_96, ofBits_2, sqrt_96, log_2, ← EReal.coe_mul,
    Ideal.div_coe (mul_ne_zero sqrt_ne log2_ne), one_mul]
  rfl

end Cert.Attn

end
-- ==== Proof.Column.lean ====
/- One query column of one head: the kernel's carry holds the running softmax of that column's scores, and the stored
   quotient is the softmax average over the keys up to the query. -/
module

public import proofs.«01_k».proof.Proof.Trips
public import proofs.«01_k».proof.Proof.Block
public import proofs.«01_k».proof.Proof.Spec

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

/-- The new maximum of a column. -/
theorem pay7_at (m : FVec Ideal S1x512 .f32) (s : FVec Ideal S512x512 .f32) (c : Fin 512) :
    k0_pay7 (F := Ideal) m s (ix2 0 c) = max (m (ix2 0 c)) (Finset.univ.fold max ⊥ fun t : Fin 512 => s (ix2 t c)) := by
  pointwise [k0_pay7]
  rw [ofBits_neg_inf]

/-- The new sum of a column and channel. -/
theorem pay8_at (m : FVec Ideal S1x512 .f32) (a : FVec Ideal S80x512 .f32) (s : FVec Ideal S512x512 .f32)
    (x : Vec Ideal S1x1x1x80x512 .bf16) (v : Fin 80) (c : Fin 512) :
    k0_pay8 (F := Ideal) m a s x (ix2 v c) = Ideal.exp2 (m (ix2 0 c) - k0_pay7 (F := Ideal) m s (ix2 0 c)) * a (ix2 v c)
      + ∑ t : Fin 512, x (ix5 0 0 0 v t) * Ideal.exp2 (s (ix2 t c) - k0_pay7 (F := Ideal) m s (ix2 0 c)) := by
  pointwise [k0_pay8]
  rfl

/-- The masked score: the plain one up to the diagonal, `-∞` beyond. -/
theorem pay37_at (k : Vec Ideal S1x1x512x128 .bf16) (q : Vec Ideal S1x1x128x512 .bf16) (t c : Fin 512) :
    k0_pay37 (F := Ideal) k q (ix2 t c) = if t.val < c.val + 1 then k0_pay3 (F := Ideal) k q (ix2 t c) else ⊥ := by
  pointwise [k0_pay37, k0_pay3]
  rw [ofBits_neg_inf, WordCmp.cmpi_sle_ofNat (by have := t.isLt; omega) (by have := c.isLt; omega)]
  unfold Scalar.select
  by_cases h : t.val ≤ c.val
  · rw [if_pos (by simp [h]), if_pos (by omega)]
  · rw [if_neg (by simp [h]), if_neg (by omega)]

/-- The stored value: a channel's sum over the sum of the channel of ones. -/
theorem pay2_at (a : FVec Ideal S80x512 .f32) (v : Fin 64) (c : Fin 512) :
    k0_pay2 (F := Ideal) a (ix4 0 0 v c) = Ideal.div (a (ix2 ⟨v.val, by omega⟩ c)) (a (ix2 64 c)) := by
  pointwise [k0_pay2]

/-- A score is the inner product of a key row and a query column. -/
theorem pay3_at (k : Vec Ideal S1x1x512x128 .bf16) (q : Vec Ideal S1x1x128x512 .bf16) (t c : Fin 512) :
    k0_pay3 (F := Ideal) k q (ix2 t c) = ∑ d : Fin 128, k (ix4 0 0 t d) * q (ix4 0 0 d c) := by
  pointwise [k0_pay3]

section
variable {x0 : Vec Ideal S1x4x128x512 .bf16} {x1 : Vec Ideal S1x4x4096x128 .bf16} {x2 : Vec Ideal S1x4x8x80x512 .bf16}
  {h : Fin 4} {c : Fin 512} {s : ℕ → ℝ} {w : Fin 80 → ℕ → ℝ}

/-- After `j` whole blocks the carry of a column holds the first `512 j` keys. -/
theorem carry_holds
    (hS : ∀ j < 8, ∀ t : Fin 512, k0_pay3 (F := Ideal) (kblk x1 h j) (qblk x0 h) (ix2 t c) = (s (512 * j + t.val) : EReal))
    (hW : ∀ j < 8, ∀ (v : Fin 80) (t : Fin 512), vblk x2 h j (ix5 0 0 0 v t) = (w v (512 * j + t.val) : EReal))
    (j : ℕ) (hj : j ≤ 8) :
    Holds s w (512 * j) ((carry x0 x1 x2 h j).1 (ix2 0 c)) (fun v => (carry x0 x1 x2 h j).2 (ix2 v c)) := by
  induction j with
  | zero =>
    refine Holds.start s w ?_ fun v => ?_
    · exact ofBits_neg_inf
    · exact Ideal.ofBits_zero_f32
  | succ j ih =>
    exact (ih (by omega)).step (n := 512) (c := 512) (by norm_num) le_rfl
      (fun t => k0_pay3 (F := Ideal) (kblk x1 h j) (qblk x0 h) (ix2 t c))
      (fun t => by rw [if_pos t.isLt]; exact hS j (by omega) t)
      (fun v t => vblk x2 h j (ix5 0 0 0 v t)) (fun v t => hW j (by omega) v t)
      (pay7_at _ _ c) (fun v => pay8_at _ _ _ _ v c)

/-- THE STORED VALUE of a column and channel at query block `q`: the softmax average over the keys up to the query. -/
theorem headBlk_at
    (hS : ∀ j < 8, ∀ t : Fin 512, k0_pay3 (F := Ideal) (kblk x1 h j) (qblk x0 h) (ix2 t c) = (s (512 * j + t.val) : EReal))
    (hW : ∀ j < 8, ∀ (v : Fin 80) (t : Fin 512), vblk x2 h j (ix5 0 0 0 v t) = (w v (512 * j + t.val) : EReal))
    (h1 : ∀ n, w 64 n = 1) (q : ℕ) (hq : q < 8) (v : Fin 64) :
    headBlk x0 x1 x2 q h (ix4 0 0 v c) = ((soft s (w ⟨v.val, by omega⟩) (512 * q + (c.val + 1)) : ℝ) : EReal) := by
  have H := (carry_holds hS hW q hq.le).step (n := 512) (c := c.val + 1) (by omega) (by omega)
      (fun t => k0_pay37 (F := Ideal) (kblk x1 h q) (qblk x0 h) (ix2 t c))
      (fun t => by rw [pay37_at, hS q hq t])
      (fun v t => vblk x2 h q (ix5 0 0 0 v t)) (fun v t => hW q hq v t)
      (pay7_at _ _ c) (fun v => pay8_at _ _ _ _ v c)
  unfold headBlk
  rw [pay2_at]
  exact H.quotient (by omega) ⟨v.val, by omega⟩ 64 h1

end

end Cert.KernelIdeal.Attn

end
-- ==== Proof.Host.lean ====
/- The operands the host lays out for the attention call, read at an index: scaled queries and keys with zero features
   added, and the transposed values with a row of ones and fifteen of zeros under them. -/
module

public import proofs.«01_k».proof.Proof.Gen.KernelIdeal.Value
public import Idealize.ShloMosaic.Lib.Pipeline.ValueKit
public import Idealize.ShloMosaic.Lib.Pointwise
public import proofs.«01_k».proof.Proof.Spec

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ) (c : Dev nD)

/-- The integer zero, as a float. -/
theorem sitofp_zero : @Eq EReal (FloatOps.sitofp (F := Ideal) .f32 0#32) ((0 : ℝ) : EReal) := by
  show (((0#32 : BitVec 32).toInt : ℝ) : EReal) = _
  simp

/-- The transposed queries: scaled, with 32 zero features. -/
theorem qT_at {q : QK} (hq : ∀ b r h d, @Eq EReal (m (c.tc.loc main_arg0) (ix4 b r h d)) ((q b r h d : ℝ) : EReal))
    (b : Fin 4) (h : Fin 8) (d : Fin 128) (r : Fin 4096) :
    @Eq EReal (V m c main_v8 (ix4 b h d r)) (((if hd : d.val < 96 then q b r h ⟨d.val, hd⟩ * scale else 0 : ℝ)) : EReal) := by
  unfold V hostOps0 hostOps0_1 hostOps0_2 hostOps0_3 hostOps0_4 hostOps0_5 hostOps0_6
  simp only [List.flatten_cons, List.flatten_nil, List.cons_append, List.nil_append, List.append_nil]
  entry_read
  simp only [StableHlo.TRef.toBuf, StableHlo.TRef.ofBuf, cast_eq]
  pointwise
  by_cases hd : d.val < 96
  · rw [dif_pos hd, dif_pos hd, host_scale, EReal.coe_mul, ← hq]
  · rw [dif_neg hd, dif_neg hd]
    exact sitofp_zero

/-- The keys, with 32 zero features. -/
theorem kp_at {k : QK} (hk : ∀ b r h d, @Eq EReal (m (c.tc.loc main_arg1) (ix4 b r h d)) ((k b r h d : ℝ) : EReal))
    (b : Fin 4) (h : Fin 8) (d : Fin 128) (r : Fin 4096) :
    @Eq EReal (V m c main_v11 (ix4 b h r d)) (((if hd : d.val < 96 then k b r h ⟨d.val, hd⟩ else 0 : ℝ)) : EReal) := by
  unfold V hostOps0 hostOps0_1 hostOps0_2 hostOps0_3 hostOps0_4 hostOps0_5 hostOps0_6
  simp only [List.flatten_cons, List.flatten_nil, List.cons_append, List.nil_append, List.append_nil]
  entry_read
  simp only [StableHlo.TRef.toBuf, StableHlo.TRef.ofBuf, cast_eq]
  pointwise
  by_cases hd : d.val < 96
  · rw [dif_pos hd, dif_pos hd, ← hk]
  · rw [dif_neg hd, dif_neg hd]
    exact sitofp_zero

/-- The three kinds of rows: values, the row of ones, zeros. -/
theorem chan_rows (v : VV) (b : Fin 4) (h : Fin 8) (j : Fin 8) (e : Fin 80) (t : Fin 512) (X : e.val < 64 → EReal)
    (hX : ∀ he, X he = ((v b ⟨j.val * 512 + t.val, by omega⟩ h ⟨e.val, he⟩ : ℝ) : EReal)) :
    (if he : e.val < 64 then X he else Scalar.select (IntOp.cmpi .eq (BitVec.ofNat 32 (e.val - 64)) 0#32) (1 : EReal) 0)
      = ((chan v b h e (512 * j.val + t.val) : ℝ) : EReal) := by
  unfold chan
  by_cases he : e.val < 64
  · rw [dif_pos he, dif_pos he, hX]
    have hp : pos (512 * j.val + t.val) = ⟨j.val * 512 + t.val, by omega⟩ := Fin.ext (by
      show (512 * j.val + t.val) % 4096 = j.val * 512 + t.val
      omega)
    rw [hp]
  · rw [dif_neg he, dif_neg he]
    have hw : IntOp.cmpi .eq (BitVec.ofNat 32 (e.val - 64)) 0#32 = BitVec.ofBool (decide (e.val - 64 = 0)) :=
      WordCmp.cmpi_eq_ofNat (by have := e.isLt; omega) (by norm_num)
    rw [hw]
    unfold Scalar.select
    by_cases h1 : e.val = 64
    · rw [if_pos (by simp [h1]), if_pos h1]; rfl
    · rw [if_neg (by have : e.val - 64 ≠ 0 := by omega
                     simp [this]), if_neg h1]; rfl

/-- The transposed values over the row of ones and the rows of zeros. -/
theorem vT_at {v : VV} (hv : ∀ b r h e, @Eq EReal (m (c.tc.loc main_arg2) (ix4 b r h e)) ((v b r h e : ℝ) : EReal))
    (b : Fin 4) (h : Fin 8) (j : Fin 8) (e : Fin 80) (t : Fin 512) :
    @Eq EReal (V m c main_v20 (ix5 b h j e t)) ((chan v b h e (512 * j.val + t.val) : ℝ) : EReal) := by
  unfold V hostOps0 hostOps0_1 hostOps0_2 hostOps0_3 hostOps0_4 hostOps0_5 hostOps0_6
  simp only [List.flatten_cons, List.flatten_nil, List.cons_append, List.nil_append, List.append_nil]
  entry_read
  simp only [StableHlo.TRef.toBuf, StableHlo.TRef.ofBuf, cast_eq]
  pointwise
  exact chan_rows v b h j e t _ fun he => hv _ _ _ _

end Cert.KernelIdeal.Attn

end
-- ==== Proof.Array.lean ====
/- What the attention call leaves in its result array: causal attention, on real arguments. -/
module

public import proofs.«01_k».proof.Proof.Column
public import proofs.«01_k».proof.Proof.Host

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

variable (m : (ℓ : Loc nD τ sig) → Buf (Elt Ideal) ℓ) (c : Dev nD)

/-- The array a real function of batch, head, channel and query fills. -/
def fill (f : Fin 4 → Fin 8 → Fin 64 → Fin 4096 → ℝ) : S4x8x64x4096.Idx → EReal := fun i => ((f (i 0) (i 1) (i 2) (i 3) : ℝ) : EReal)

/-- Which block of every array a grid point works on. -/
theorem idx : ∀ t : Fin grid0.N,
    (win0_0.index t 0 = t.val / 16 ∧ win0_0.index t 1 = t.val / 8 % 2 ∧ win0_0.index t 2 = 0 ∧ win0_0.index t 3 = t.val % 8) ∧
    (win0_1.index t 0 = t.val / 16 ∧ win0_1.index t 1 = t.val / 8 % 2 ∧ win0_1.index t 2 = 0 ∧ win0_1.index t 3 = 0) ∧
    (win0_2.index t 0 = t.val / 16 ∧ win0_2.index t 1 = t.val / 8 % 2 ∧ win0_2.index t 2 = 0 ∧ win0_2.index t 3 = 0 ∧ win0_2.index t 4 = 0) ∧
    (win0_3.index t 0 = t.val / 16 ∧ win0_3.index t 1 = t.val / 8 % 2 ∧ win0_3.index t 2 = 0 ∧ win0_3.index t 3 = t.val % 8) ∧
    (grid0.coords t 2).val = t.val % 8 ∧ t.val < 64 := by
  decide +kernel

/-- A point's batch. -/
def bAt (t : Fin grid0.N) : Fin 4 := ⟨t.val / 16, by have := (idx t).2.2.2.2.2; omega⟩

/-- A point's head, for one of the four it works on. -/
def hAt (t : Fin grid0.N) (h : Fin 4) : Fin 8 := ⟨t.val / 8 % 2 * 4 + h.val, by omega⟩

/-- A point's query, for a column of its block. -/
def rAt (t : Fin grid0.N) (r : Fin 512) : Fin 4096 := ⟨t.val % 8 * 512 + r.val, by omega⟩

section
variable {q k : QK} {v : VV}
    (hq : ∀ b r h d, @Eq EReal (m (c.tc.loc main_arg0) (ix4 b r h d)) ((q b r h d : ℝ) : EReal))
    (hk : ∀ b r h d, @Eq EReal (m (c.tc.loc main_arg1) (ix4 b r h d)) ((k b r h d : ℝ) : EReal))
    (hv : ∀ b r h e, @Eq EReal (m (c.tc.loc main_arg2) (ix4 b r h e)) ((v b r h e : ℝ) : EReal))

include hq in
/-- The block of queries. -/
theorem blk_q (t : Fin grid0.N) (h : Fin 4) (d : Fin 128) (r : Fin 512) :
    @Eq EReal (iblk m c 0 t (ix4 0 h d r)) (((if hd : d.val < 96 then q (bAt t) (rAt t r) (hAt t h) ⟨d.val, hd⟩ * scale else 0 : ℝ)) : EReal) := by
  rw [← qT_at m c hq]
  unfold bAt hAt rAt
  blk_ext [iblk, idx t]

include hk in
/-- The block of keys. -/
theorem blk_k (t : Fin grid0.N) (h : Fin 4) (d : Fin 128) (n : Fin 4096) :
    @Eq EReal (iblk m c 1 t (ix4 0 h n d)) (((if hd : d.val < 96 then k (bAt t) n (hAt t h) ⟨d.val, hd⟩ else 0 : ℝ)) : EReal) := by
  rw [← kp_at m c hk]
  unfold bAt hAt
  blk_ext [iblk, idx t]

include hv in
/-- The block of values. -/
theorem blk_v (t : Fin grid0.N) (h : Fin 4) (j : Fin 8) (e : Fin 80) (n : Fin 512) :
    @Eq EReal (iblk m c 2 t (ix5 0 h j e n)) ((chan v (bAt t) (hAt t h) e (512 * j.val + n.val) : ℝ) : EReal) := by
  rw [← vT_at m c hv]
  unfold bAt hAt
  blk_ext [iblk, idx t]

include hq hk in
/-- A score of a point. -/
theorem score_at (t : Fin grid0.N) (h : Fin 4) (r : Fin 512) (j : ℕ) (hj : j < 8) (n : Fin 512) :
    k0_pay3 (F := Ideal) (kblk (iblk m c 1 t) h j) (qblk (iblk m c 0 t) h) (ix2 n r)
      = ((score q k (bAt t) (hAt t h) (rAt t r) (512 * j + n.val) : ℝ) : EReal) := by
  rw [pay3_at]
  have e : ∀ d : Fin 128, kblk (iblk m c 1 t) h j (ix4 0 0 n d) * qblk (iblk m c 0 t) h (ix4 0 0 d r)
      = ((if hd : d.val < 96 then q (bAt t) (rAt t r) (hAt t h) ⟨d.val, hd⟩ * k (bAt t) (pos (512 * j + n.val)) (hAt t h) ⟨d.val, hd⟩ * scale else 0 : ℝ) : EReal) := by
    intro d
    have ek := blk_k m c hk t h d (pos (512 * j + n.val))
    have eq := blk_q m c hq t h d r
    refine (congrArg₂ (fun x y : EReal => x * y) ek eq).trans ?_
    rw [← EReal.coe_mul]
    congr 1
    by_cases hd : d.val < 96
    · rw [dif_pos hd, dif_pos hd, dif_pos hd]; ring
    · rw [dif_neg hd, dif_neg hd, dif_neg hd]; ring
  rw [Finset.sum_congr rfl fun d _ => e d, ← coe_sum,
    sum_pad fun d => q (bAt t) (rAt t r) (hAt t h) d * k (bAt t) (pos (512 * j + n.val)) (hAt t h) d * scale, ← Finset.sum_mul]
  rfl

include hq hk hv in
/-- What a point stores. -/
theorem point (t : Fin grid0.N) (h : Fin 4) (e : Fin 64) (r : Fin 512) :
    headBlk (iblk m c 0 t) (iblk m c 1 t) (iblk m c 2 t) (t.val % 8) h (ix4 0 0 e r)
      = ((att q k v (bAt t) (hAt t h) e (rAt t r) : ℝ) : EReal) := by
  rw [headBlk_at (s := score q k (bAt t) (hAt t h) (rAt t r)) (w := chan v (bAt t) (hAt t h))
    (fun j hj n => score_at m c hq hk t h r j hj n)
    (fun j hj e n => by
      have := blk_v m c hv t h ⟨j, hj⟩ e n
      unfold vblk
      simpa [Nat.mod_eq_of_lt hj] using this)
    (fun n => by unfold chan; simp) (t.val % 8) (by omega) e]
  unfold att
  congr 2
  show 512 * (t.val % 8) + (r.val + 1) = t.val % 8 * 512 + r.val + 1
  omega

include hq hk hv in
/-- THE RESULT ARRAY holds causal attention. -/
theorem final : (dats m 0 c).arrAt 3 (cfgs 0).N = fill (att q k v) := by
  refine (dats m 0 c).arrAt_eq_of_covers 3 _ (by decide +kernel) fun t _ y => ?_
  blk_simp
  rw [after0_3]
  show outsAt0 m c t y = _
  unfold outsAt0
  rw [out_eq, (idx t).2.2.2.2.1]
  refine (point m c hq hk hv t (y 1) (y 2) (y 3)).trans ?_
  unfold fill
  have e0 : (win0_3.blk t).view.emb y 0 = bAt t := Fin.ext (by blk_simp [bAt, idx t] <;> try omega)
  have e1 : (win0_3.blk t).view.emb y 1 = hAt t (y 1) := Fin.ext (by blk_simp [hAt, idx t] <;> try omega)
  have e2 : (win0_3.blk t).view.emb y 2 = y 2 := Fin.ext (by blk_simp [idx t] <;> try omega)
  have e3 : (win0_3.blk t).view.emb y 3 = rAt t (y 3) := Fin.ext (by blk_simp [rAt, idx t] <;> try omega)
  rw [e0, e1, e2, e3]

end

end Cert.KernelIdeal.Attn

end
-- ==== Proof.Reference.lean ====
/- The reference, read at an index: the plain masked softmax attention is `att`. -/
module

public import proofs.«01_k».proof.Proof.Gen.ReferenceIdeal.Run
public import Idealize.ShloMosaic.Lib.Pointwise
public import Idealize.ShloMosaic.Lib.WordCmp
public import proofs.«01_k».proof.Proof.Spec

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value Cert.Attn

variable (m : (ℓ : Loc nD τ sig) → Buf (Elt Ideal) ℓ) (c : Dev nD)

/-- The masked scores, as the reference computes them. -/
def masked (q k : FVec Ideal S4x4096x8x96 .f32) : FVec Ideal S4x8x4096x4096 .f32 :=
  select (broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (Host.divf (Host.dotGeneral dot_S4x4096x8x96_S4x4096x8x96_S4x8x4096x4096_3_3_1_1_02_02 none q k) (broadcastInDim S4x8x4096x4096 ![] bcast_S_S4x8x4096x4096 (Host.sqrt (constant S_ .f32 0x42C00000#32)))) (broadcastInDim S4x8x4096x4096 ![] bcast_S_S4x8x4096x4096 (id (constant S_ .f32 0xFF800000#32)))

/-- Every row's maximum. -/
def rowMax (s : FVec Ideal S4x8x4096x4096 .f32) : FVec Ideal S4x8x4096 .f32 :=
  maximumf (broadcastInDim S4x8x4096 ![] bcast_S_S4x8x4096 (constant S_ .f32 0xFF800000#32)) (Host.reduce FloatOps.maximumf s (constant S_ .f32 0xFF800000#32) reducesTo_S4x8x4096x4096_S4x8x4096_d3 h_S_)

/-- The exponentials of the scores less their row's maximum. -/
def expo (s : FVec Ideal S4x8x4096x4096 .f32) (x : FVec Ideal S4x8x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 x)))

/-- Every row's sum. -/
def rowSum (p : FVec Ideal S4x8x4096x4096 .f32) : FVec Ideal S4x8x4096 .f32 :=
  Host.reduceAdd p (constant S_ .f32 0x00000000#32) reducesTo_S4x8x4096x4096_S4x8x4096_d3 h_S_

/-- The weights. -/
def weights (p : FVec Ideal S4x8x4096x4096 .f32) (z : FVec Ideal S4x8x4096 .f32) : FVec Ideal S4x8x4096x4096 .f32 :=
  Host.divf p (broadcastInDim S4x8x4096x4096 ![0, 1, 2, 3] bcast_S4x8x4096x1_S4x8x4096x4096_0_1_2_3 (broadcastInDim S4x8x4096x1 ![0, 1, 2] bcast_S4x8x4096_S4x8x4096x1_0_1_2 z))

/-- The weighted values, transposed to the result's layout. -/
def outp (v : FVec Ideal S4x4096x8x64 .f32) (p : FVec Ideal S4x8x4096x4096 .f32) : FVec Ideal S4x8x64x4096 .bf16 :=
  truncf .bf16 (transpose S4x8x64x4096 [0, 2, 3, 1] (transpose S4x4096x8x64 [0, 3, 1, 2] (Host.dotGeneral dot_S4x4096x8x64_S4x8x4096x4096_S4x8x64x4096_1_3_3_2_02_01 none v p) transposes_S4x8x64x4096_S4x4096x8x64_0_3_1_2) transposes_S4x4096x8x64_S4x8x64x4096_0_2_3_1) bitsLt_bf16_f32

/-- The reference's result is these stages, one after the other. -/
theorem res_eq : res_main_v25 m c
    = outp (m (c.tc.loc main_arg2)) (weights (expo (masked (m (c.tc.loc main_arg0)) (m (c.tc.loc main_arg1))) (rowMax (masked (m (c.tc.loc main_arg0)) (m (c.tc.loc main_arg1)))))
        (rowSum (expo (masked (m (c.tc.loc main_arg0)) (m (c.tc.loc main_arg1))) (rowMax (masked (m (c.tc.loc main_arg0)) (m (c.tc.loc main_arg1))))))) := by
  unfold res_main_v25 outp weights rowSum expo rowMax masked
  rfl

theorem masked_at (q k : FVec Ideal S4x4096x8x96 .f32) (b : Fin 4) (h : Fin 8) (r t : Fin 4096) :
    masked q k (ix4 b h r t) = if t.val < r.val + 1 then
      Ideal.div (∑ d : Fin 96, q (ix4 b r h d) * k (ix4 b t h d)) ((√96 : ℝ) : EReal) else ⊥ := by
  pointwise [masked]
  rw [WordCmp.cmpi_sle_ofNat (by have := t.isLt; omega) (by have := r.isLt; omega), ofBits_96, sqrt_96]
  unfold Scalar.select
  by_cases h : t.val ≤ r.val
  · rw [if_pos (by simp [h]), if_pos (by omega)]
  · rw [if_neg (by simp [h]), if_neg (by omega)]
    exact ofBits_neg_inf

/-- The program's maximum is the maximum of extended reals. -/
theorem fold_max (n : ℕ) (x : EReal) (f : Fin n → EReal) :
    Finset.univ.fold (FloatOps.maximumf (F := Ideal) (φ := .f32)) x f = Finset.univ.fold max x f := rfl

theorem maximumf_at {s : Shape} (x y : FVec Ideal s .f32) (i : s.Idx) : maximumf x y i = max (x i) (y i) := rfl

theorem start_at (i : S4x8x4096.Idx) :
    broadcastInDim S4x8x4096 ![] bcast_S_S4x8x4096 (constant (F := Ideal) S_ .f32 0xFF800000#32) i = Ideal.ofBits .f32 0xFF800000#32 := rfl

theorem rowMax_at (s : FVec Ideal S4x8x4096x4096 .f32) (b : Fin 4) (h : Fin 8) (r : Fin 4096) :
    rowMax s (ix3 b h r) = max ⊥ (Finset.univ.fold max ⊥ fun t : Fin 4096 => s (ix4 b h r t)) := by
  have e : Host.reduce (FloatOps.maximumf (F := Ideal) (φ := .f32)) s (constant S_ .f32 0xFF800000#32) reducesTo_S4x8x4096x4096_S4x8x4096_d3 h_S_ (ix3 b h r)
      = Finset.univ.fold max (Ideal.ofBits .f32 0xFF800000#32) fun t : Fin 4096 => s (ix4 b h r t) := by
    rw [Host.reduce_eq_fold, Shape.ReducesTo.fold_fiber_r4_a3, fold_max]
    exact Finset.fold_congr fun t _ => rfl
  unfold rowMax
  rw [maximumf_at, e, start_at, ofBits_neg_inf]

theorem expo_at (s : FVec Ideal S4x8x4096x4096 .f32) (x : FVec Ideal S4x8x4096 .f32) (b : Fin 4) (h : Fin 8) (r t : Fin 4096) :
    expo s x (ix4 b h r t) = Ideal.exp (s (ix4 b h r t) - x (ix3 b h r)) := by
  pointwise [expo]

theorem rowSum_at (p : FVec Ideal S4x8x4096x4096 .f32) (b : Fin 4) (h : Fin 8) (r : Fin 4096) :
    rowSum p (ix3 b h r) = ∑ t : Fin 4096, p (ix4 b h r t) := by
  pointwise [rowSum]

theorem weights_at (p : FVec Ideal S4x8x4096x4096 .f32) (z : FVec Ideal S4x8x4096 .f32) (b : Fin 4) (h : Fin 8) (r t : Fin 4096) :
    weights p z (ix4 b h r t) = Ideal.div (p (ix4 b h r t)) (z (ix3 b h r)) := by
  pointwise [weights]

theorem outp_at (v : FVec Ideal S4x4096x8x64 .f32) (p : FVec Ideal S4x8x4096x4096 .f32) (b : Fin 4) (h : Fin 8) (e : Fin 64) (r : Fin 4096) :
    outp v p (ix4 b h e r) = ∑ t : Fin 4096, v (ix4 b t h e) * p (ix4 b h r t) := by
  pointwise [outp]

/-- THE REFERENCE computes causal attention on real arguments. -/
theorem res_at {q k : QK} {v : VV}
    (hq : ∀ b r h d, @Eq EReal (m (c.tc.loc main_arg0) (ix4 b r h d)) ((q b r h d : ℝ) : EReal))
    (hk : ∀ b r h d, @Eq EReal (m (c.tc.loc main_arg1) (ix4 b r h d)) ((k b r h d : ℝ) : EReal))
    (hv : ∀ b r h e, @Eq EReal (m (c.tc.loc main_arg2) (ix4 b r h e)) ((v b r h e : ℝ) : EReal))
    (b : Fin 4) (h : Fin 8) (e : Fin 64) (r : Fin 4096) :
    @Eq EReal (res_main_v25 m c (ix4 b h e r)) ((att q k v b h e r : ℝ) : EReal) := by
  rw [res_eq, outp_at]
  simp only [weights_at, expo_at, rowSum_at]
  refine plain (s := score q k b h r) (w := chan v b h ⟨e.val, by omega⟩) (Nat.succ_pos _) (by have := r.isLt; omega)
    (fun t => masked (m (c.tc.loc main_arg0)) (m (c.tc.loc main_arg1)) (ix4 b h r t)) _ (fun t => ?_) (fun t => ?_) _
    (rowMax_at _ b h r)
  · rw [masked_at]
    by_cases ht : t.val < r.val + 1
    · rw [if_pos ht, if_pos ht, Finset.sum_congr rfl fun d _ => congrArg₂ (fun x y : EReal => x * y) (hq b r h d) (hk b t h d)]
      simp only [← EReal.coe_mul]
      rw [← coe_sum, Ideal.div_coe sqrt_ne, ← EReal.coe_mul]
      congr 1
      unfold score scale
      rw [pos_val]
      have := log2_ne
      have := sqrt_ne
      field_simp
    · rw [if_neg ht, if_neg ht]
  · rw [hv]
    unfold chan
    rw [dif_pos e.isLt, pos_val]

end Cert.ReferenceIdeal.Attn

end
-- ==== Proof.Finite.lean ====
/- What the precondition gives: every argument is a real number. -/
module

public import proofs.«01_k».proof.Defs
public import proofs.«01_k».proof.Proof.Gen.Pre_finite
public import proofs.«01_k».proof.Proof.Spec
public import Idealize.ShloMosaic.Lib.ReduceAll

@[expose] public section

set_option maxRecDepth 16384

noncomputable section

namespace Cert.Pre_finite.Attn

open Idealize.ShloMosaic Cert.Pre_finite Cert.Attn

instance : Cert.Pre_finite.Facts := Cert.Pre_finite.Gen.facts

/-- A number whose absolute value is below the pattern of the positive infinity is real. -/
theorem real_of_lt {x : EReal} (h : Ideal.cmp .olt (max x (-x)) (Ideal.ofBits .f32 0x7F800000#32) = 1#1) : x = ((x.toReal : ℝ) : EReal) := by
  have hi : Ideal.ofBits .f32 0x7F800000#32 = ⊤ := by simp [Ideal.ofBits, Ideal.ieee]
  rw [hi] at h
  have hlt : max x (-x) < ⊤ := by
    by_contra hc
    simp [Ideal.cmp, hc] at h
  refine (EReal.coe_toReal ?_ ?_).symm
  · rintro rfl; simp at hlt
  · rintro rfl; simp at hlt

theorem split {a b : BitVec 1} (h : IntOp.andi a b = 1#1) : a = 1#1 ∧ b = 1#1 := by
  revert h; revert a b; decide

instance : Subsingleton S_.Idx := ⟨fun a b => funext fun i => i.elim0⟩

/-- THE PRECONDITION, read: every entry of the three arguments is real. -/
theorem reals {x0 x1 : FVec Ideal S4x4096x8x96 .f32} {x2 : FVec Ideal S4x4096x8x64 .f32} (h : fn (F := Ideal) x0 x1 x2 = fun _ => 1#1) :
    (∀ i, @Eq EReal (x0 i) (((x0 i : EReal).toReal : ℝ) : EReal)) ∧ (∀ i, @Eq EReal (x1 i) (((x1 i : EReal).toReal : ℝ) : EReal))
      ∧ ∀ i, @Eq EReal (x2 i) (((x2 i : EReal).toReal : ℝ) : EReal) := by
  have h0 := congrFun h (fun a => a.elim0)
  dsimp only [fn] at h0
  obtain ⟨h01, h2⟩ := split h0
  obtain ⟨h0, h1⟩ := split h01
  exact ⟨fun i => real_of_lt (Host.reduce_andi_all _ _ _ _ _ h0 i), fun i => real_of_lt (Host.reduce_andi_all _ _ _ _ _ h1 i),
    fun i => real_of_lt (Host.reduce_andi_all _ _ _ _ _ h2 i)⟩

end Cert.Pre_finite.Attn

end
-- ==== Proof.Attention.lean ====
/- The attention claims: both programs run, and on real arguments both leave causal attention in their results. -/
module

public import proofs.«01_k».proof.Proof.Array
public import proofs.«01_k».proof.Proof.Reference
public import proofs.«01_k».proof.Proof.Finite
public import proofs.«01_k».proof.Proof.Gen.Kernel.Frame
public import proofs.«01_k».proof.Proof.Gen.KernelIdeal.Frame
public import Idealize.ShloMosaic.Adequacy

@[expose] public section

noncomputable section

namespace Cert.Attn

open Idealize.ShloMosaic Idealize.ShloMosaic.TcCoe Idealize.SL.Sem

/-- The reference runs, keeps its arguments, and holds no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)) ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- An argument of queries' or keys' shape, as a real function. -/
def realQ (x : Cert.KernelIdeal.S4x4096x8x96.Idx → EReal) : QK := fun b r h d => (x (ix4 b r h d)).toReal

/-- An argument of values' shape, as a real function. -/
def realV (x : Cert.KernelIdeal.S4x4096x8x64.Idx → EReal) : VV := fun b r h e => (x (ix4 b r h e)).toReal

/-- What both programs leave on a device: causal attention of its arguments. -/
def result (m : (ℓ : Loc Cert.KernelIdeal.nD Cert.KernelIdeal.τ Cert.KernelIdeal.sig) → Buf (Elt Ideal) ℓ) (c : Dev Cert.KernelIdeal.nD) :
    Cert.KernelIdeal.S4x8x64x4096.Idx → EReal :=
  Cert.KernelIdeal.Attn.fill (att (realQ (m (c.tc.loc Cert.KernelIdeal.main_arg0))) (realQ (m (c.tc.loc Cert.KernelIdeal.main_arg1)))
    (realV (m (c.tc.loc Cert.KernelIdeal.main_arg2))))

/-- On real arguments the kernel and the reference both end with `result`. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => result m c, ?_, ?_⟩
  · refine (θ_run Cert.KernelIdeal.defs _ _).mono (fun r h c => ⟨(h c).1.trans ?_, (h c).2⟩) (Cert.KernelIdeal.Value.run_blocks m g)
    obtain ⟨hq, hk, hv⟩ := Cert.Pre_finite.Attn.reals (hpre c)
    exact Cert.KernelIdeal.Attn.final m c (fun b r h d => hq (ix4 b r h d)) (fun b r h d => hk (ix4 b r h d)) (fun b r h e => hv (ix4 b r h e))
  · refine (θ_run Cert.ReferenceIdeal.defs _ _).mono (fun r h c => ⟨(h c).1.trans ?_, (h c).2⟩) (Cert.ReferenceIdeal.Value.run (F := Ideal) m' g')
    obtain ⟨hq, hk, hv⟩ := Cert.Pre_finite.Attn.reals (hpre c)
    obtain ⟨a0, a1, a2⟩ := hargs c
    funext i
    idx_vars i
    exact Cert.ReferenceIdeal.Attn.res_at m' c (fun b r h d => (congrFun a0 (ix4 b r h d)).trans (hq (ix4 b r h d)))
      (fun b r h d => (congrFun a1 (ix4 b r h d)).trans (hk (ix4 b r h d)))
      (fun b r h e => (congrFun a2 (ix4 b r h e)).trans (hv (ix4 b r h e))) _ _ _ _

end Cert.Attn

end
-- ==== Proof.Norm.lean ====
/- What the row-wise calls of the layer compute from, over the extended reals: the normalised token, and the order of the
   projected columns. -/
module

public import Idealize.ShloMosaic.Lib.Pointwise

@[expose] public section

noncomputable section

namespace Cert.Layer

open Idealize.ShloMosaic

/-- A token `x` divided by its root mean square (the mean offset by the program's word for 1e-6), times the gain `g`. -/
def normed (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- A gated unit: `a · logistic a · u`, of the products `a`, `u` of the row `h` with two weight columns. -/
def act (h a u : Fin 1024 → EReal) : EReal :=
  (∑ k : Fin 1024, h k * a k) * Ideal.logistic (∑ k : Fin 1024, h k * a k) * ∑ k : Fin 1024, h k * u k

/-- The columns of the projected row as the layer orders them: the gates first, then queries, keys, values and the remaining
    pieces, each a run of the 5680 projected columns, and zeros up to 5760. -/
def lay (f : Fin 5680 → EReal) (n : Fin 5760) : EReal :=
  if h : n.val < 3072 then f ⟨2608 + n.val, by omega⟩
  else
    if h : n.val - 3072 < 256 then f ⟨n.val - 3072, by omega⟩
    else
      if h : n.val - 3072 - 256 < 256 then f ⟨256 + (n.val - 3072 - 256), by omega⟩
      else
        if h : n.val - 3072 - 256 - 256 < 256 then f ⟨544 + (n.val - 3072 - 256 - 256), by omega⟩
        else
          if h : n.val - 3072 - 256 - 256 - 256 < 256 then f ⟨800 + (n.val - 3072 - 256 - 256 - 256), by omega⟩
          else
            if h : n.val - 3072 - 256 - 256 - 256 - 256 < 512 then f ⟨1056 + (n.val - 3072 - 256 - 256 - 256 - 256), by omega⟩
            else
              if h : n.val - 3072 - 256 - 256 - 256 - 256 - 512 < 512 then f ⟨1584 + (n.val - 3072 - 256 - 256 - 256 - 256 - 512), by omega⟩
              else
                if h : n.val - 3072 - 256 - 256 - 256 - 256 - 512 - 512 < 512 then f ⟨2096 + (n.val - 3072 - 256 - 256 - 256 - 256 - 512 - 512), by omega⟩
                else
                  if h : n.val - 3072 - 256 - 256 - 256 - 256 - 512 - 512 - 512 < 32 then f ⟨512 + (n.val - 3072 - 256 - 256 - 256 - 256 - 512 - 512 - 512), by omega⟩
                  else
                    if h : n.val - 3072 - 256 - 256 - 256 - 256 - 512 - 512 - 512 - 32 < 16 then f ⟨1568 + (n.val - 3072 - 256 - 256 - 256 - 256 - 512 - 512 - 512 - 32), by omega⟩
                    else
                      0

/-- A product with reordered columns is the product, reordered. -/
theorem lay_mul (h : Fin 1024 → EReal) (w : Fin 1024 → Fin 5680 → EReal) (n : Fin 5760) :
    ∑ k : Fin 1024, h k * lay (w k) n = lay (fun j => ∑ k : Fin 1024, h k * w k j) n := by
  unfold lay
  simp only [mul_dite, Finset.sum_dite_irrel, mul_zero, Finset.sum_const_zero]

end Cert.Layer

end
-- ==== Proof.ProjectBlock.lean ====
/- The block one grid point of the projection call stores: normalised tokens times the weight, stretch by stretch of columns. -/
module

public import proofs.«01_k».proof.Proof.Gen.ProjectIdeal.Value
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem

namespace Cert.ProjectIdeal.Math

open Cert.ProjectIdeal Cert.ProjectIdeal.Gen Cert.Layer

/-- A normalised entry of the block. -/
theorem pay2_at (x : Vec Ideal S1024x1024 .f32) (g : Vec Ideal S1x1024 .f32) (r d : Fin 1024) :
    k0_pay2 (F := Ideal) x g (ix2 r d) = normed (fun k => x (ix2 r k)) (fun k => g (ix2 0 k)) d := by
  pointwise [k0_pay2]
  rfl

/-- The last stretch of columns: the product with the normalised block. -/
theorem pay1_at (h : FVec Ideal S1024x1024 .bf16) (w : Vec Ideal S1024x1152 .bf16) (r : Fin 1024) (n : Fin 1152) :
    k0_pay1 (F := Ideal) h w (ix2 r n) = ∑ k : Fin 1024, h (ix2 r k) * w (ix2 k n) := by
  pointwise [k0_pay1]

/-- The first stretch of columns. -/
theorem pay3_at (x : Vec Ideal S1024x1024 .f32) (g : Vec Ideal S1x1024 .f32) (w : Vec Ideal S1024x1536 .bf16) (r : Fin 1024) (n : Fin 1536) :
    k0_pay3 (F := Ideal) x g w (ix2 r n) = ∑ k : Fin 1024, k0_pay2 x g (ix2 r k) * w (ix2 k n) := by
  pointwise [k0_pay3]

/-- The second stretch of columns. -/
theorem pay4_at (x : Vec Ideal S1024x1024 .f32) (g : Vec Ideal S1x1024 .f32) (w : Vec Ideal S1024x1536 .bf16) (r : Fin 1024) (n : Fin 1536) :
    k0_pay4 (F := Ideal) x g w (ix2 r n) = ∑ k : Fin 1024, k0_pay2 x g (ix2 r k) * w (ix2 k n) := by
  pointwise [k0_pay4]

/-- The third stretch of columns. -/
theorem pay5_at (x : Vec Ideal S1024x1024 .f32) (g : Vec Ideal S1x1024 .f32) (w : Vec Ideal S1024x1536 .bf16) (r : Fin 1024) (n : Fin 1536) :
    k0_pay5 (F := Ideal) x g w (ix2 r n) = ∑ k : Fin 1024, k0_pay2 x g (ix2 r k) * w (ix2 k n) := by
  pointwise [k0_pay5]

/-- A load of a stretch of weight columns reads the weight at the column moved by the offset. -/
theorem ld_w (x2 : Vec Ideal S1024x5760 .bf16) (o w : ℕ) (inb) (k : Fin 1024) (b : Fin w) (n : Fin 5760) (e : n.val = o + b.val) :
    @Eq EReal (View.ld x2 (Rect.unit (s := S1024x5760) ![0, o] ![1024, w] inb) (ix2 k b)) (x2 (ix2 k n)) := by
  refine congrArg x2 (funext fun a => ?_)
  match a with
  | 0 => exact Fin.ext (by show 0 + 1 * k.val = k.val; omega)
  | 1 => exact Fin.ext (by show o + 1 * b.val = n.val; omega)

/-- WHAT A POINT STORES: the normalised block times the weight. -/
theorem out_eq (c : Dev nD) (i : grid0.Coords)
  (arg3 : Memref sig .tc .vmem S1024x1024 .f32) (harg3 : arg3.IsWhole)
  (arg4 : Memref sig .tc .vmem S1x1024 .f32) (harg4 : arg4.IsWhole)
  (arg5 : Memref sig .tc .vmem S1024x5760 .bf16) (harg5 : arg5.IsWhole)
  (arg6 : Memref sig .tc .vmem S1024x5760 .bf16) (harg6 : arg6.IsWhole)
  (x0 : Vec Ideal S1024x1024 .f32) (x1 : Vec Ideal S1x1024 .f32) (x2 : Vec Ideal S1024x5760 .bf16)
  (y : S1024x5760.Idx) :
    out0_A_3 (F := Ideal) c i arg3 harg3 arg4 harg4 arg5 harg5 arg6 harg6 x0 x1 x2 y
      = ∑ k : Fin 1024, normed (fun k => x0 (ix2 (y 0) k)) (fun k => x1 (ix2 0 k)) k * x2 (ix2 k (y 1)) := by
  frame_out
  canon_tiles x h using (View.cover_of_tiledBy _ ![1024, 384] (by sl_kernel_rfl) _)
  all_goals obtain ⟨a, b, rfl⟩ : ∃ a b, x = ix2 a b := ⟨x 0, x 1, by idx_vars x⟩
  all_goals obtain ⟨r, n, rfl⟩ : ∃ r n, y = ix2 r n := ⟨y 0, y 1, by idx_vars y⟩
  all_goals obtain rfl : r = a := Fin.ext h0
  · rw [pay1_at]
    exact Finset.sum_congr rfl fun k _ => congrArg₂ (fun x y : EReal => x * y) (pay2_at ..) (ld_w x2 _ _ _ k b n h1)
  · rw [pay5_at]
    exact Finset.sum_congr rfl fun k _ => congrArg₂ (fun x y : EReal => x * y) (pay2_at ..) (ld_w x2 _ _ _ k b n h1)
  · rw [pay4_at]
    exact Finset.sum_congr rfl fun k _ => congrArg₂ (fun x y : EReal => x * y) (pay2_at ..) (ld_w x2 _ _ _ k b n h1)
  · rw [pay3_at]
    exact Finset.sum_congr rfl fun k _ => congrArg₂ (fun x y : EReal => x * y) (pay2_at ..) (ld_w x2 _ _ _ k b n (h1.trans (Nat.zero_add _).symm))

end Cert.ProjectIdeal.Math

end
-- ==== Proof.ProjectHost.lean ====
/- The operands the host lays out for the projection call, read at an index: the weight with its columns reordered and 80
   zero columns after them, and the gain as a row. -/
module

public import proofs.«01_k».proof.Proof.Gen.ProjectIdeal.Value
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem

namespace Cert.ProjectIdeal.Math

open Cert.ProjectIdeal Cert.ProjectIdeal.Gen Cert.Layer Idealize.ShloMosaic.StableHlo

variable (m : (ℓ : Loc nD τ sig) → Buf (Elt Ideal) ℓ) (c : Dev nD)

/-- The host line, its pieces first. -/
theorem split_host (F : Valuation τ sig (Elt Ideal)) :
    after (hostOps0 (F := Ideal)) F = after ((hostOps0 (F := Ideal)).drop 22) (after ((hostOps0 (F := Ideal)).take 22) F) := rfl

/-- The last two operations: the pieces of the weight, one after another. -/
theorem pieces (F : Valuation τ sig (Elt Ideal)) :
    after ((hostOps0 (F := Ideal)).drop 22) F (Proc.devRef .tc main_v21)
      = (concatenate S1024x5760 1 [⟨S1024x3072, (F (Proc.devRef .tc main_v2) : (⟨S1024x3072, .bf16⟩ : BufTy).Contents (Elt Ideal))⟩,
          ⟨S1024x256, (F (Proc.devRef .tc main_v4) : (⟨S1024x256, .bf16⟩ : BufTy).Contents (Elt Ideal))⟩,
          ⟨S1024x256, (F (Proc.devRef .tc main_v6) : (⟨S1024x256, .bf16⟩ : BufTy).Contents (Elt Ideal))⟩,
          ⟨S1024x256, (F (Proc.devRef .tc main_v8) : (⟨S1024x256, .bf16⟩ : BufTy).Contents (Elt Ideal))⟩,
          ⟨S1024x256, (F (Proc.devRef .tc main_v10) : (⟨S1024x256, .bf16⟩ : BufTy).Contents (Elt Ideal))⟩,
          ⟨S1024x512, (F (Proc.devRef .tc main_v12) : (⟨S1024x512, .bf16⟩ : BufTy).Contents (Elt Ideal))⟩,
          ⟨S1024x512, (F (Proc.devRef .tc main_v14) : (⟨S1024x512, .bf16⟩ : BufTy).Contents (Elt Ideal))⟩,
          ⟨S1024x512, (F (Proc.devRef .tc main_v16) : (⟨S1024x512, .bf16⟩ : BufTy).Contents (Elt Ideal))⟩,
          ⟨S1024x32, (F (Proc.devRef .tc main_v18) : (⟨S1024x32, .bf16⟩ : BufTy).Contents (Elt Ideal))⟩,
          ⟨S1024x16, (F (Proc.devRef .tc main_v20) : (⟨S1024x16, .bf16⟩ : BufTy).Contents (Elt Ideal))⟩,
          ⟨S1024x80, (F (Proc.devRef .tc main_v0) : (⟨S1024x80, .bf16⟩ : BufTy).Contents (Elt Ideal))⟩]
          concatenates_S1024x3072_S1024x256_S1024x256_S1024x256_S1024x256_S1024x512_S1024x512_S1024x512_S1024x32_S1024x16_S1024x80_S1024x5760_d1 :
            (⟨S1024x5760, .bf16⟩ : BufTy).Contents (Elt Ideal)) := by
  show after [_, _] F _ = _
  simp only [after_cons, after_nil]
  rw [reshape_result_ne]; rotate_left; decide
  rw [nary_result]
  rfl

/-- The piece of 3072 columns from column 2608. -/
theorem piece2 (F : Valuation τ sig (Elt Ideal)) (k : Fin 1024) (n : Fin 3072) :
    @Eq EReal (after ((hostOps0 (F := Ideal)).take 22) F (Proc.devRef .tc main_v2) (ix2 k n))
      (F (Proc.devRef .tc main_arg2) (ix2 k ⟨2608 + n.val, by omega⟩)) := by
  show (truncf (F := Ideal) .bf16 (extractStridedSlice S1024x3072 ![0, 2608] (F (Proc.devRef .tc main_arg2) : Vec Ideal S1024x5680 .f32)
    slices_S1024x5680_S1024x3072_0_2608) bitsLt_bf16_f32 : Vec Ideal S1024x3072 .bf16) (ix2 k n) = _
  pointwise

/-- The piece of 256 columns from column 0. -/
theorem piece4 (F : Valuation τ sig (Elt Ideal)) (k : Fin 1024) (n : Fin 256) :
    @Eq EReal (after ((hostOps0 (F := Ideal)).take 22) F (Proc.devRef .tc main_v4) (ix2 k n))
      (F (Proc.devRef .tc main_arg2) (ix2 k ⟨n.val, by omega⟩)) := by
  show (truncf (F := Ideal) .bf16 (extractStridedSlice S1024x256 ![0, 0] (F (Proc.devRef .tc main_arg2) : Vec Ideal S1024x5680 .f32)
    slices_S1024x5680_S1024x256_0_0) bitsLt_bf16_f32 : Vec Ideal S1024x256 .bf16) (ix2 k n) = _
  pointwise

/-- The piece of 256 columns from column 256. -/
theorem piece6 (F : Valuation τ sig (Elt Ideal)) (k : Fin 1024) (n : Fin 256) :
    @Eq EReal (after ((hostOps0 (F := Ideal)).take 22) F (Proc.devRef .tc main_v6) (ix2 k n))
      (F (Proc.devRef .tc main_arg2) (ix2 k ⟨256 + n.val, by omega⟩)) := by
  show (truncf (F := Ideal) .bf16 (extractStridedSlice S1024x256 ![0, 256] (F (Proc.devRef .tc main_arg2) : Vec Ideal S1024x5680 .f32)
    slices_S1024x5680_S1024x256_0_256) bitsLt_bf16_f32 : Vec Ideal S1024x256 .bf16) (ix2 k n) = _
  pointwise

/-- The piece of 256 columns from column 544. -/
theorem piece8 (F : Valuation τ sig (Elt Ideal)) (k : Fin 1024) (n : Fin 256) :
    @Eq EReal (after ((hostOps0 (F := Ideal)).take 22) F (Proc.devRef .tc main_v8) (ix2 k n))
      (F (Proc.devRef .tc main_arg2) (ix2 k ⟨544 + n.val, by omega⟩)) := by
  show (truncf (F := Ideal) .bf16 (extractStridedSlice S1024x256 ![0, 544] (F (Proc.devRef .tc main_arg2) : Vec Ideal S1024x5680 .f32)
    slices_S1024x5680_S1024x256_0_544) bitsLt_bf16_f32 : Vec Ideal S1024x256 .bf16) (ix2 k n) = _
  pointwise

/-- The piece of 256 columns from column 800. -/
theorem piece10 (F : Valuation τ sig (Elt Ideal)) (k : Fin 1024) (n : Fin 256) :
    @Eq EReal (after ((hostOps0 (F := Ideal)).take 22) F (Proc.devRef .tc main_v10) (ix2 k n))
      (F (Proc.devRef .tc main_arg2) (ix2 k ⟨800 + n.val, by omega⟩)) := by
  show (truncf (F := Ideal) .bf16 (extractStridedSlice S1024x256 ![0, 800] (F (Proc.devRef .tc main_arg2) : Vec Ideal S1024x5680 .f32)
    slices_S1024x5680_S1024x256_0_800) bitsLt_bf16_f32 : Vec Ideal S1024x256 .bf16) (ix2 k n) = _
  pointwise

/-- The piece of 512 columns from column 1056. -/
theorem piece12 (F : Valuation τ sig (Elt Ideal)) (k : Fin 1024) (n : Fin 512) :
    @Eq EReal (after ((hostOps0 (F := Ideal)).take 22) F (Proc.devRef .tc main_v12) (ix2 k n))
      (F (Proc.devRef .tc main_arg2) (ix2 k ⟨1056 + n.val, by omega⟩)) := by
  show (truncf (F := Ideal) .bf16 (extractStridedSlice S1024x512 ![0, 1056] (F (Proc.devRef .tc main_arg2) : Vec Ideal S1024x5680 .f32)
    slices_S1024x5680_S1024x512_0_1056) bitsLt_bf16_f32 : Vec Ideal S1024x512 .bf16) (ix2 k n) = _
  pointwise

/-- The piece of 512 columns from column 1584. -/
theorem piece14 (F : Valuation τ sig (Elt Ideal)) (k : Fin 1024) (n : Fin 512) :
    @Eq EReal (after ((hostOps0 (F := Ideal)).take 22) F (Proc.devRef .tc main_v14) (ix2 k n))
      (F (Proc.devRef .tc main_arg2) (ix2 k ⟨1584 + n.val, by omega⟩)) := by
  show (truncf (F := Ideal) .bf16 (extractStridedSlice S1024x512 ![0, 1584] (F (Proc.devRef .tc main_arg2) : Vec Ideal S1024x5680 .f32)
    slices_S1024x5680_S1024x512_0_1584) bitsLt_bf16_f32 : Vec Ideal S1024x512 .bf16) (ix2 k n) = _
  pointwise

/-- The piece of 512 columns from column 2096. -/
theorem piece16 (F : Valuation τ sig (Elt Ideal)) (k : Fin 1024) (n : Fin 512) :
    @Eq EReal (after ((hostOps0 (F := Ideal)).take 22) F (Proc.devRef .tc main_v16) (ix2 k n))
      (F (Proc.devRef .tc main_arg2) (ix2 k ⟨2096 + n.val, by omega⟩)) := by
  show (truncf (F := Ideal) .bf16 (extractStridedSlice S1024x512 ![0, 2096] (F (Proc.devRef .tc main_arg2) : Vec Ideal S1024x5680 .f32)
    slices_S1024x5680_S1024x512_0_2096) bitsLt_bf16_f32 : Vec Ideal S1024x512 .bf16) (ix2 k n) = _
  pointwise

/-- The piece of 32 columns from column 512. -/
theorem piece18 (F : Valuation τ sig (Elt Ideal)) (k : Fin 1024) (n : Fin 32) :
    @Eq EReal (after ((hostOps0 (F := Ideal)).take 22) F (Proc.devRef .tc main_v18) (ix2 k n))
      (F (Proc.devRef .tc main_arg2) (ix2 k ⟨512 + n.val, by omega⟩)) := by
  show (truncf (F := Ideal) .bf16 (extractStridedSlice S1024x32 ![0, 512] (F (Proc.devRef .tc main_arg2) : Vec Ideal S1024x5680 .f32)
    slices_S1024x5680_S1024x32_0_512) bitsLt_bf16_f32 : Vec Ideal S1024x32 .bf16) (ix2 k n) = _
  pointwise

/-- The piece of 16 columns from column 1568. -/
theorem piece20 (F : Valuation τ sig (Elt Ideal)) (k : Fin 1024) (n : Fin 16) :
    @Eq EReal (after ((hostOps0 (F := Ideal)).take 22) F (Proc.devRef .tc main_v20) (ix2 k n))
      (F (Proc.devRef .tc main_arg2) (ix2 k ⟨1568 + n.val, by omega⟩)) := by
  show (truncf (F := Ideal) .bf16 (extractStridedSlice S1024x16 ![0, 1568] (F (Proc.devRef .tc main_arg2) : Vec Ideal S1024x5680 .f32)
    slices_S1024x5680_S1024x16_0_1568) bitsLt_bf16_f32 : Vec Ideal S1024x16 .bf16) (ix2 k n) = _
  pointwise

/-- The zero columns. -/
theorem piece0 (F : Valuation τ sig (Elt Ideal)) (k : Fin 1024) (n : Fin 80) :
    @Eq EReal (after ((hostOps0 (F := Ideal)).take 22) F (Proc.devRef .tc main_v0) (ix2 k n)) 0 := by
  show FloatOps.ofBits (F := Ideal) .bf16 0x0000#16 = (0 : EReal)
  norm_num

/-- Pieces that hold the columns of `W`, one after another, are the reordered columns. -/
theorem cat_at (W : Fin 1024 → Fin 5680 → EReal)
    (p2 : Vec Ideal S1024x3072 .bf16) (e2 : ∀ (k : Fin 1024) (n : Fin 3072), @Eq EReal (p2 (ix2 k n)) (W k ⟨2608 + n.val, by omega⟩))
    (p4 : Vec Ideal S1024x256 .bf16) (e4 : ∀ (k : Fin 1024) (n : Fin 256), @Eq EReal (p4 (ix2 k n)) (W k ⟨n.val, by omega⟩))
    (p6 : Vec Ideal S1024x256 .bf16) (e6 : ∀ (k : Fin 1024) (n : Fin 256), @Eq EReal (p6 (ix2 k n)) (W k ⟨256 + n.val, by omega⟩))
    (p8 : Vec Ideal S1024x256 .bf16) (e8 : ∀ (k : Fin 1024) (n : Fin 256), @Eq EReal (p8 (ix2 k n)) (W k ⟨544 + n.val, by omega⟩))
    (p10 : Vec Ideal S1024x256 .bf16) (e10 : ∀ (k : Fin 1024) (n : Fin 256), @Eq EReal (p10 (ix2 k n)) (W k ⟨800 + n.val, by omega⟩))
    (p12 : Vec Ideal S1024x512 .bf16) (e12 : ∀ (k : Fin 1024) (n : Fin 512), @Eq EReal (p12 (ix2 k n)) (W k ⟨1056 + n.val, by omega⟩))
    (p14 : Vec Ideal S1024x512 .bf16) (e14 : ∀ (k : Fin 1024) (n : Fin 512), @Eq EReal (p14 (ix2 k n)) (W k ⟨1584 + n.val, by omega⟩))
    (p16 : Vec Ideal S1024x512 .bf16) (e16 : ∀ (k : Fin 1024) (n : Fin 512), @Eq EReal (p16 (ix2 k n)) (W k ⟨2096 + n.val, by omega⟩))
    (p18 : Vec Ideal S1024x32 .bf16) (e18 : ∀ (k : Fin 1024) (n : Fin 32), @Eq EReal (p18 (ix2 k n)) (W k ⟨512 + n.val, by omega⟩))
    (p20 : Vec Ideal S1024x16 .bf16) (e20 : ∀ (k : Fin 1024) (n : Fin 16), @Eq EReal (p20 (ix2 k n)) (W k ⟨1568 + n.val, by omega⟩))
    (p0 : Vec Ideal S1024x80 .bf16) (e0 : ∀ (k : Fin 1024) (n : Fin 80), @Eq EReal (p0 (ix2 k n)) 0) (k : Fin 1024) (n : Fin 5760) :
    @Eq EReal ((concatenate S1024x5760 1 [⟨S1024x3072, p2⟩, ⟨S1024x256, p4⟩, ⟨S1024x256, p6⟩, ⟨S1024x256, p8⟩, ⟨S1024x256, p10⟩, ⟨S1024x512, p12⟩, ⟨S1024x512, p14⟩, ⟨S1024x512, p16⟩, ⟨S1024x32, p18⟩, ⟨S1024x16, p20⟩, ⟨S1024x80, p0⟩]
      concatenates_S1024x3072_S1024x256_S1024x256_S1024x256_S1024x256_S1024x512_S1024x512_S1024x512_S1024x32_S1024x16_S1024x80_S1024x5760_d1 : Vec Ideal S1024x5760 .bf16) (ix2 k n)) (lay (W k) n) := by
  pointwise
  simp only [e2, e4, e6, e8, e10, e12, e14, e16, e18, e20, e0]
  rfl

/-- The weight the call reads: the projection's columns, reordered. -/
theorem w_at (k : Fin 1024) (n : Fin 5760) :
    @Eq EReal (V m c main_v21 (ix2 k n)) (lay (fun j => m (c.tc.loc main_arg2) (ix2 k j)) n) := by
  show @Eq EReal (after (hostOps0 (F := Ideal)) (fun b => m (c, b)) (Proc.devRef .tc main_v21) (ix2 k n)) _
  rw [split_host]
  refine (congrFun (pieces _) (ix2 k n)).trans ?_
  exact cat_at (fun k j => m (c.tc.loc main_arg2) (ix2 k j)) _ (piece2 _) _ (piece4 _) _ (piece6 _) _ (piece8 _) _ (piece10 _) _ (piece12 _) _ (piece14 _) _ (piece16 _) _ (piece18 _) _ (piece20 _) _ (piece0 _) k n

/-- The gain the call reads. -/
theorem g_at (k : Fin 1024) : @Eq EReal (V m c main_v22 (ix2 0 k)) (m (c.tc.loc main_arg1) (ix1 k)) := by
  show (shapeCast S1x1024 (m (c.tc.loc main_arg1)) shapeCasts_S1024_S1x1024 : Vec Ideal S1x1024 .f32) (ix2 0 k) = _
  pointwise

end Cert.ProjectIdeal.Math

end
-- ==== Proof.ProjectArray.lean ====
/- What the projection call leaves in its result array. -/
module

public import proofs.«01_k».proof.Proof.ProjectBlock
public import proofs.«01_k».proof.Proof.ProjectHost

@[expose] public section

set_option maxRecDepth 16384

noncomputable section

open Idealize.ShloMosaic Idealize.ShloMosaic.TcCoe Idealize.SL.Sem
open Idealize.ShloMosaic.Pipeline (Dat)

namespace Cert.ProjectIdeal.Math

open Cert.ProjectIdeal Cert.ProjectIdeal.Gen Cert.Layer

variable (m : (ℓ : Loc nD τ sig) → Buf (Elt Ideal) ℓ) (c : Dev nD)

/-- Which block of every array a grid point works on. -/
theorem idx : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0) ∧ t.val < 16 := by
  decide +kernel

/-- A row of a point's block, among all tokens. -/
def rAt (t : Fin grid0.N) (r : Fin 1024) : Fin 16384 := ⟨t.val * 1024 + r.val, by have := (idx t).2.2.2.2; omega⟩

/-- The block of tokens. -/
theorem blk_x (t : Fin grid0.N) (r k : Fin 1024) :
    @Eq EReal (iblk m c 0 t (ix2 r k)) (m (c.tc.loc main_arg0) (ix2 (rAt t r) k)) := by
  rw [← V_main_arg0 m c]
  unfold rAt
  blk_ext [iblk, idx t]

/-- The block of the gain. -/
theorem blk_g (t : Fin grid0.N) (k : Fin 1024) : @Eq EReal (iblk m c 1 t (ix2 0 k)) (m (c.tc.loc main_arg1) (ix1 k)) := by
  rw [← g_at m c]
  blk_ext [iblk, idx t]

/-- The block of the weight. -/
theorem blk_w (t : Fin grid0.N) (k : Fin 1024) (n : Fin 5760) :
    @Eq EReal (iblk m c 2 t (ix2 k n)) (lay (fun j => m (c.tc.loc main_arg2) (ix2 k j)) n) := by
  rw [← w_at m c]
  blk_ext [iblk, idx t]

/-- What a point stores, from the arguments. -/
theorem point (t : Fin grid0.N) (r : Fin 1024) (n : Fin 5760) :
    ∑ k : Fin 1024, normed (fun k => iblk m c 0 t (ix2 r k)) (fun k => iblk m c 1 t (ix2 0 k)) k * iblk m c 2 t (ix2 k n)
      = lay (fun j => ∑ k : Fin 1024, normed (fun k => m (c.tc.loc main_arg0) (ix2 (rAt t r) k)) (fun k => m (c.tc.loc main_arg1) (ix1 k)) k
          * m (c.tc.loc main_arg2) (ix2 k j)) n := by
  refine Eq.trans ?_ (lay_mul (fun k => normed (fun k => m (c.tc.loc main_arg0) (ix2 (rAt t r) k)) (fun k => m (c.tc.loc main_arg1) (ix1 k)) k)
    (fun k j => m (c.tc.loc main_arg2) (ix2 k j)) n)
  refine Finset.sum_congr rfl fun k _ => congrArg₂ (fun x y : EReal => x * y) ?_ (blk_w m c t k n)
  exact congrArg₂ (fun f g => normed f g k) (funext fun k => blk_x m c t r k) (funext fun k => blk_g m c t k)

/-- The projected array: normalised tokens times the weight, columns reordered. -/
def projected : S16384x5760.Idx → EReal := fun i =>
  lay (fun j => ∑ k : Fin 1024, normed (fun k => m (c.tc.loc main_arg0) (ix2 (i 0) k)) (fun k => m (c.tc.loc main_arg1) (ix1 k)) k
    * m (c.tc.loc main_arg2) (ix2 k j)) (i 1)

/-- THE RESULT ARRAY is the projected array. -/
theorem final : (dats m 0 c).arrAt 3 (cfgs 0).N = projected m c := by
  refine (dats m 0 c).arrAt_eq_of_covers 3 _ (by decide +kernel) fun t _ y => ?_
  blk_simp
  rw [after0_3]
  show outsAt0 m c t y = _
  unfold outsAt0
  rw [out_eq]
  have e0 : (win0_3.blk t).view.emb y 0 = rAt t (y 0) := Fin.ext (by blk_simp [rAt, idx t] <;> try omega)
  have e1 : (win0_3.blk t).view.emb y 1 = y 1 := Fin.ext (by blk_simp [idx t] <;> try omega)
  refine (point m c t (y 0) (y 1)).trans ?_
  unfold projected
  rw [e0, e1]

end Cert.ProjectIdeal.Math

end
-- ==== Proof.ProjectReference.lean ====
/- The projection reference, read at an index. -/
module

public import proofs.«01_k».proof.Proof.Gen.ProjectedIdeal.Run
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem

namespace Cert.ProjectedIdeal.Math

open Cert.ProjectedIdeal Cert.ProjectedIdeal.Gen Cert.Layer

variable (m : (ℓ : Loc nD τ sig) → Buf (Elt Ideal) ℓ) (c : Dev nD)

/-- The normalised tokens. -/
def h (x : FVec Ideal S16384x1024 .f32) (g : FVec Ideal S1024 .f32) : FVec Ideal S16384x1024 .f32 := (mulf (mulf x (broadcastInDim S16384x1024 ![0, 1] bcast_S16384x1_S16384x1024_0_1 (Host.rsqrt (addf (Host.divf (broadcastInDim S16384x1 ![0] bcast_S16384_S16384x1_0 (Host.reduceAdd (mulf x x) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 g)))

/-- A normalised entry. -/
theorem h_at (x : FVec Ideal S16384x1024 .f32) (g : FVec Ideal S1024 .f32) (r : Fin 16384) (d : Fin 1024) :
    h x g (ix2 r d) = normed (fun k => x (ix2 r k)) (fun k => g (ix1 k)) d := by
  pointwise [h]
  rfl

/-- The product with the weight. -/
def P (x : FVec Ideal S16384x1024 .f32) (g : FVec Ideal S1024 .f32) (w : FVec Ideal S1024x5680 .f32) : FVec Ideal S16384x5680 .f32 := (Host.dotGeneral dot_S16384x1024_S1024x5680_S16384x5680_1_0_0_1_n_n none (h x g) w)

/-- An entry of the product. -/
theorem P_at (x : FVec Ideal S16384x1024 .f32) (g : FVec Ideal S1024 .f32) (w : FVec Ideal S1024x5680 .f32) (r : Fin 16384) (n : Fin 5680) :
    P x g w (ix2 r n) = ∑ k : Fin 1024, h x g (ix2 r k) * w (ix2 k n) := by
  pointwise [P]

/-- The columns in their order, zero columns after them. -/
def laid (P : FVec Ideal S16384x5680 .f32) : FVec Ideal S16384x5760 .bf16 := truncf (F := Ideal) .bf16 ((concatenate S16384x5760 1 [⟨S16384x3072, ((extractStridedSlice S16384x3072 ![0, 2608] P slices_S16384x5680_S16384x3072_0_2608) : (⟨S16384x3072, .f32⟩ : BufTy).Contents (Elt Ideal))⟩, ⟨S16384x256, ((extractStridedSlice S16384x256 ![0, 0] P slices_S16384x5680_S16384x256_0_0) : (⟨S16384x256, .f32⟩ : BufTy).Contents (Elt Ideal))⟩, ⟨S16384x256, ((extractStridedSlice S16384x256 ![0, 256] P slices_S16384x5680_S16384x256_0_256) : (⟨S16384x256, .f32⟩ : BufTy).Contents (Elt Ideal))⟩, ⟨S16384x256, ((extractStridedSlice S16384x256 ![0, 544] P slices_S16384x5680_S16384x256_0_544) : (⟨S16384x256, .f32⟩ : BufTy).Contents (Elt Ideal))⟩, ⟨S16384x256, ((extractStridedSlice S16384x256 ![0, 800] P slices_S16384x5680_S16384x256_0_800) : (⟨S16384x256, .f32⟩ : BufTy).Contents (Elt Ideal))⟩, ⟨S16384x512, ((extractStridedSlice S16384x512 ![0, 1056] P slices_S16384x5680_S16384x512_0_1056) : (⟨S16384x512, .f32⟩ : BufTy).Contents (Elt Ideal))⟩, ⟨S16384x512, ((extractStridedSlice S16384x512 ![0, 1584] P slices_S16384x5680_S16384x512_0_1584) : (⟨S16384x512, .f32⟩ : BufTy).Contents (Elt Ideal))⟩, ⟨S16384x512, ((extractStridedSlice S16384x512 ![0, 2096] P slices_S16384x5680_S16384x512_0_2096) : (⟨S16384x512, .f32⟩ : BufTy).Contents (Elt Ideal))⟩, ⟨S16384x32, ((extractStridedSlice S16384x32 ![0, 512] P slices_S16384x5680_S16384x32_0_512) : (⟨S16384x32, .f32⟩ : BufTy).Contents (Elt Ideal))⟩, ⟨S16384x16, ((extractStridedSlice S16384x16 ![0, 1568] P slices_S16384x5680_S16384x16_0_1568) : (⟨S16384x16, .f32⟩ : BufTy).Contents (Elt Ideal))⟩, ⟨S16384x80, ((broadcastInDim S16384x80 ![] bcast_S_S16384x80 (constant (F := Ideal) S_ .f32 0x00000000#32)) : (⟨S16384x80, .f32⟩ : BufTy).Contents (Elt Ideal))⟩] concatenates_S16384x3072_S16384x256_S16384x256_S16384x256_S16384x256_S16384x512_S16384x512_S16384x512_S16384x32_S16384x16_S16384x80_S16384x5760_d1 : (⟨S16384x5760, .f32⟩ : BufTy).Contents (Elt Ideal))) bitsLt_bf16_f32

/-- The result, by its stages. -/
theorem res_eq : Value.res_main_v26 m c = laid (P (m (c.tc.loc main_arg0)) (m (c.tc.loc main_arg1)) (m (c.tc.loc main_arg2))) := by
  rfl

/-- The ordered columns, read at an index. -/
theorem laid_at (P : FVec Ideal S16384x5680 .f32) (r : Fin 16384) (n : Fin 5760) :
    @Eq EReal (laid P (ix2 r n)) (lay (fun j => P (ix2 r j)) n) := by
  pointwise [laid]
  rfl

/-- THE REFERENCE'S RESULT at an index. -/
theorem res_at (r : Fin 16384) (n : Fin 5760) :
    @Eq EReal (Value.res_main_v26 m c (ix2 r n))
      (lay (fun j => ∑ k : Fin 1024, normed (fun k => m (c.tc.loc main_arg0) (ix2 r k)) (fun k => m (c.tc.loc main_arg1) (ix1 k)) k
        * m (c.tc.loc main_arg2) (ix2 k j)) n) := by
  rw [res_eq, laid_at]
  refine congrArg (fun f => lay f n) (funext fun j => ?_)
  rw [P_at]
  exact Finset.sum_congr rfl fun k _ => congrArg (fun x : EReal => x * m (c.tc.loc main_arg2) (ix2 k j)) (h_at ..)

end Cert.ProjectedIdeal.Math

end
-- ==== Proof.Project.lean ====
/- The projection call's claims: the reference's frame, and equal results. -/
module

public import proofs.«01_k».proof.Defs
public import proofs.«01_k».proof.Proof.ProjectArray
public import proofs.«01_k».proof.Proof.ProjectReference
public import Idealize.ShloMosaic.Adequacy

@[expose] public section

set_option maxRecDepth 16384

noncomputable section

open Idealize.ShloMosaic Idealize.ShloMosaic.TcCoe Idealize.SL.Sem

namespace Cert.Project.Math

open Cert.Layer

/-- The reference of the projection runs, keeps its arguments, and holds no semaphore. -/
theorem reference_frame (m : (ℓ : Loc Cert.ProjectedIdeal.nD Cert.ProjectedIdeal.τ Cert.ProjectedIdeal.sig) → Buf (Elt Ideal) ℓ)
    (g : Dev Cert.ProjectedIdeal.nD → PrngReg) :
    θ_run (Cert.ProjectedIdeal.defs (F := Ideal)) (onTc (τ := Cert.ProjectedIdeal.τ) (Cert.ProjectedIdeal.main (F := Ideal)))
      ⟨m, fun _ => 0, g⟩ (fun r => (∀ c : Dev Cert.ProjectedIdeal.nD,
        r.2.mem (c.tc.loc Cert.ProjectedIdeal.main_arg0) = m (c.tc.loc Cert.ProjectedIdeal.main_arg0)
        ∧ r.2.mem (c.tc.loc Cert.ProjectedIdeal.main_arg1) = m (c.tc.loc Cert.ProjectedIdeal.main_arg1)
        ∧ r.2.mem (c.tc.loc Cert.ProjectedIdeal.main_arg2) = m (c.tc.loc Cert.ProjectedIdeal.main_arg2)) ∧ r.2.sem = fun _ => 0) :=
  (θ_run Cert.ProjectedIdeal.defs _ _).mono
    (fun r h => ⟨fun c => (h c).2, Idealize.ShloMosaic.sem_eq_zero_of_no_sems (by decide) r.2⟩)
    (Cert.ProjectedIdeal.Value.run (F := Ideal) m g)

/-- The projection call and its reference leave equal results. -/
theorem algebraic : Cert.algebraic_ProjectIdeal_ProjectedIdeal (hProjectIdeal := Cert.ProjectIdeal.Gen.facts)
    (hProjectedIdeal := Cert.ProjectedIdeal.Gen.facts) := by
  intro m g m' g' _ hargs
  refine ⟨fun c => Cert.ProjectIdeal.Math.projected m c, ?_, ?_⟩
  · exact (θ_run Cert.ProjectIdeal.defs _ _).mono (fun r h c => ⟨(h c).1.trans (Cert.ProjectIdeal.Math.final m c), (h c).2⟩)
      (Cert.ProjectIdeal.Value.run_blocks m g)
  · refine (θ_run Cert.ProjectedIdeal.defs _ _).mono (fun r h c => ⟨(h c).1.trans ?_, (h c).2⟩) (Cert.ProjectedIdeal.Value.run (F := Ideal) m' g')
    obtain ⟨a0, a1, a2⟩ := hargs c
    funext i
    idx_vars i
    refine (Cert.ProjectedIdeal.Math.res_at m' c _ _).trans ?_
    unfold Cert.ProjectIdeal.Math.projected
    rw [a0, a1, a2]
    rfl

end Cert.Project.Math

end
-- ==== Proof.DenseScratch.lean ====
/- The scratch of one grid point of the dense mixer call: the gated units of its tokens, a slab of 256 columns at a time. -/
module

public import proofs.«01_k».proof.Proof.Gen.DenseIdeal.Value
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem

namespace Cert.DenseIdeal.Math

open Cert.DenseIdeal Cert.DenseIdeal.Gen Cert.Layer

/-- A normalised entry of the block. -/
theorem pay2_at (x : Vec Ideal S1024x1024 .f32) (g : Vec Ideal S1x1024 .f32) (r d : Fin 1024) :
    k0_pay2 (F := Ideal) x g (ix2 r d) = normed (fun k => x (ix2 r k)) (fun k => g (ix2 0 k)) d := by
  pointwise [k0_pay2]
  rfl

/-- The first stretch of gated units. -/
theorem chunk0_at (x : Vec Ideal S1024x1024 .f32) (g : Vec Ideal S1x1024 .f32) (a u : Vec Ideal S1024x256 .bf16) (r : Fin 1024) (n : Fin 256) :
    k0_pay3 (F := Ideal) x g a u (ix3 0 r n)
      = act (fun k => k0_pay2 x g (ix2 r k)) (fun k => a (ix2 k n)) (fun k => u (ix2 k n)) := by
  pointwise [k0_pay3]
  rfl

/-- The second stretch of gated units. -/
theorem chunk1_at (x : Vec Ideal S1024x1024 .f32) (g : Vec Ideal S1x1024 .f32) (a u : Vec Ideal S1024x256 .bf16) (r : Fin 1024) (n : Fin 256) :
    k0_pay7 (F := Ideal) (k0_pay4 x g a) (k0_pay5 x g u) (k0_pay6 x g a) (ix3 0 r n)
      = act (fun k => k0_pay2 x g (ix2 r k)) (fun k => a (ix2 k n)) (fun k => u (ix2 k n)) := by
  pointwise [k0_pay7, k0_pay4, k0_pay5, k0_pay6]
  rfl

/-- The third stretch of gated units. -/
theorem chunk2_at (h : FVec Ideal S1024x1024 .bf16) (a u : Vec Ideal S1024x256 .bf16) (r : Fin 1024) (n : Fin 256) :
    k0_pay8 (F := Ideal) h a u (ix3 0 r n)
      = act (fun k => h (ix2 r k)) (fun k => a (ix2 k n)) (fun k => u (ix2 k n)) := by
  pointwise [k0_pay8]
  rfl

/-- The fourth stretch of gated units. -/
theorem chunk3_at (h : FVec Ideal S1024x1024 .bf16) (a u : Vec Ideal S1024x256 .bf16) (r : Fin 1024) (n : Fin 256) :
    k0_pay9 (F := Ideal) h a u (ix3 0 r n)
      = act (fun k => h (ix2 r k)) (fun k => a (ix2 k n)) (fun k => u (ix2 k n)) := by
  pointwise [k0_pay9]
  rfl

/-- The fifth stretch of gated units. -/
theorem chunk4_at (h : FVec Ideal S1024x1024 .bf16) (a u : Vec Ideal S1024x256 .bf16) (r : Fin 1024) (n : Fin 256) :
    k0_pay11 (F := Ideal) h (k0_pay10 a) u (ix3 0 r n)
      = act (fun k => h (ix2 r k)) (fun k => a (ix2 k n)) (fun k => u (ix2 k n)) := by
  pointwise [k0_pay11, k0_pay10]
  rfl

/-- The sixth stretch of gated units. -/
theorem chunk5_at (h : FVec Ideal S1024x1024 .bf16) (a u : Vec Ideal S1024x256 .bf16) (r : Fin 1024) (n : Fin 256) :
    k0_pay12 (F := Ideal) h a u (ix3 0 r n)
      = act (fun k => h (ix2 r k)) (fun k => a (ix2 k n)) (fun k => u (ix2 k n)) := by
  pointwise [k0_pay12]
  rfl

/-- The seventh stretch of gated units. -/
theorem chunk6_at (h : FVec Ideal S1024x1024 .bf16) (a u : Vec Ideal S1024x256 .bf16) (r : Fin 1024) (n : Fin 256) :
    k0_pay14 (F := Ideal) (k0_pay13 h a u) (ix3 0 r n)
      = act (fun k => h (ix2 r k)) (fun k => a (ix2 k n)) (fun k => u (ix2 k n)) := by
  pointwise [k0_pay14, k0_pay13]
  rfl

/-- The eighth stretch of gated units. -/
theorem chunk7_at (h : FVec Ideal S1024x1024 .bf16) (a u : Vec Ideal S1024x256 .bf16) (r : Fin 1024) (n : Fin 256) :
    k0_pay15 (F := Ideal) h a u (ix3 0 r n)
      = act (fun k => h (ix2 r k)) (fun k => a (ix2 k n)) (fun k => u (ix2 k n)) := by
  pointwise [k0_pay15]
  rfl

/-- The ninth stretch of gated units. -/
theorem chunk8_at (h : FVec Ideal S1024x1024 .bf16) (a u : Vec Ideal S1024x256 .bf16) (r : Fin 1024) (n : Fin 256) :
    k0_pay16 (F := Ideal) h a u (ix3 0 r n)
      = act (fun k => h (ix2 r k)) (fun k => a (ix2 k n)) (fun k => u (ix2 k n)) := by
  pointwise [k0_pay16]
  rfl

/-- The tenth stretch of gated units. -/
theorem chunk9_at (h : FVec Ideal S1024x1024 .bf16) (a u : Vec Ideal S1024x256 .bf16) (r : Fin 1024) (n : Fin 256) :
    k0_pay18 (F := Ideal) h (k0_pay17 h a) u (ix3 0 r n)
      = act (fun k => h (ix2 r k)) (fun k => a (ix2 k n)) (fun k => u (ix2 k n)) := by
  pointwise [k0_pay18, k0_pay17]
  rfl

/-- The eleventh stretch of gated units. -/
theorem chunk10_at (h : FVec Ideal S1024x1024 .bf16) (a u : Vec Ideal S1024x256 .bf16) (r : Fin 1024) (n : Fin 256) :
    k0_pay19 (F := Ideal) h a u (ix3 0 r n)
      = act (fun k => h (ix2 r k)) (fun k => a (ix2 k n)) (fun k => u (ix2 k n)) := by
  pointwise [k0_pay19]
  rfl

/-- A load of 256 weight columns reads the weight at the column moved by the offset. -/
theorem ld_w (w : Vec Ideal S1024x2816 .bf16) (o : ℕ) (inb) (k : Fin 1024) (b : Fin 256) (n : Fin 2816) (e : n.val = o + b.val) :
    @Eq EReal (View.ld w (Rect.unit (s := S1024x2816) ![0, o] ![1024, 256] inb) (ix2 k b)) (w (ix2 k n)) := by
  refine congrArg w (funext fun a => ?_)
  match a with
  | 0 => exact Fin.ext (by show 0 + 1 * k.val = k.val; omega)
  | 1 => exact Fin.ext (by show o + 1 * b.val = n.val; omega)

/-- The stretches the body stores in its scratch, last store first. -/
def stored (x0 : Vec Ideal S1024x1024 .f32) (x1 : Vec Ideal S1x1024 .f32) (x2 x3 : Vec Ideal S1024x2816 .bf16) :
    List (View.Piece (Elt Ideal) S11x1024x256 .bf16) :=
  [⟨Rect.unit ![10, 0, 0] ![1, 1024, 256] inb_S11x1024x256_S1x1024x256_10_0_0, k0_pay19 (k0_pay2 x0 x1) (View.ld x2 (Rect.unit ![0, 2560] ![1024, 256] inb_S1024x2816_S1024x256_0_2560)) (View.ld x3 (Rect.unit ![0, 2560] ![1024, 256] inb_S1024x2816_S1024x256_0_2560))⟩,
    ⟨Rect.unit ![9, 0, 0] ![1, 1024, 256] inb_S11x1024x256_S1x1024x256_9_0_0, k0_pay18 (k0_pay2 x0 x1) (k0_pay17 (k0_pay2 x0 x1) (View.ld x2 (Rect.unit ![0, 2304] ![1024, 256] inb_S1024x2816_S1024x256_0_2304))) (View.ld x3 (Rect.unit ![0, 2304] ![1024, 256] inb_S1024x2816_S1024x256_0_2304))⟩,
    ⟨Rect.unit ![8, 0, 0] ![1, 1024, 256] inb_S11x1024x256_S1x1024x256_8_0_0, k0_pay16 (k0_pay2 x0 x1) (View.ld x2 (Rect.unit ![0, 2048] ![1024, 256] inb_S1024x2816_S1024x256_0_2048)) (View.ld x3 (Rect.unit ![0, 2048] ![1024, 256] inb_S1024x2816_S1024x256_0_2048))⟩,
    ⟨Rect.unit ![7, 0, 0] ![1, 1024, 256] inb_S11x1024x256_S1x1024x256_7_0_0, k0_pay15 (k0_pay2 x0 x1) (View.ld x2 (Rect.unit ![0, 1792] ![1024, 256] inb_S1024x2816_S1024x256_0_1792)) (View.ld x3 (Rect.unit ![0, 1792] ![1024, 256] inb_S1024x2816_S1024x256_0_1792))⟩,
    ⟨Rect.unit ![6, 0, 0] ![1, 1024, 256] inb_S11x1024x256_S1x1024x256_6_0_0, k0_pay14 (k0_pay13 (k0_pay2 x0 x1) (View.ld x2 (Rect.unit ![0, 1536] ![1024, 256] inb_S1024x2816_S1024x256_0_1536)) (View.ld x3 (Rect.unit ![0, 1536] ![1024, 256] inb_S1024x2816_S1024x256_0_1536)))⟩,
    ⟨Rect.unit ![5, 0, 0] ![1, 1024, 256] inb_S11x1024x256_S1x1024x256_5_0_0, k0_pay12 (k0_pay2 x0 x1) (View.ld x2 (Rect.unit ![0, 1280] ![1024, 256] inb_S1024x2816_S1024x256_0_1280)) (View.ld x3 (Rect.unit ![0, 1280] ![1024, 256] inb_S1024x2816_S1024x256_0_1280))⟩,
    ⟨Rect.unit ![4, 0, 0] ![1, 1024, 256] inb_S11x1024x256_S1x1024x256_4_0_0, k0_pay11 (k0_pay2 x0 x1) (k0_pay10 (View.ld x2 (Rect.unit ![0, 1024] ![1024, 256] inb_S1024x2816_S1024x256_0_1024))) (View.ld x3 (Rect.unit ![0, 1024] ![1024, 256] inb_S1024x2816_S1024x256_0_1024))⟩,
    ⟨Rect.unit ![3, 0, 0] ![1, 1024, 256] inb_S11x1024x256_S1x1024x256_3_0_0, k0_pay9 (k0_pay2 x0 x1) (View.ld x2 (Rect.unit ![0, 768] ![1024, 256] inb_S1024x2816_S1024x256_0_768)) (View.ld x3 (Rect.unit ![0, 768] ![1024, 256] inb_S1024x2816_S1024x256_0_768))⟩,
    ⟨Rect.unit ![2, 0, 0] ![1, 1024, 256] inb_S11x1024x256_S1x1024x256_2_0_0, k0_pay8 (k0_pay2 x0 x1) (View.ld x2 (Rect.unit ![0, 512] ![1024, 256] inb_S1024x2816_S1024x256_0_512)) (View.ld x3 (Rect.unit ![0, 512] ![1024, 256] inb_S1024x2816_S1024x256_0_512))⟩,
    ⟨Rect.unit ![1, 0, 0] ![1, 1024, 256] inb_S11x1024x256_S1x1024x256_1_0_0, k0_pay7 (k0_pay4 x0 x1 (View.ld x2 (Rect.unit ![0, 256] ![1024, 256] inb_S1024x2816_S1024x256_0_256))) (k0_pay5 x0 x1 (View.ld x3 (Rect.unit ![0, 256] ![1024, 256] inb_S1024x2816_S1024x256_0_256))) (k0_pay6 x0 x1 (View.ld x2 (Rect.unit ![0, 256] ![1024, 256] inb_S1024x2816_S1024x256_0_256)))⟩,
    ⟨Rect.unit ![0, 0, 0] ![1, 1024, 256] inb_S11x1024x256_S1x1024x256_0_0_0, k0_pay3 x0 x1 (View.ld x2 (Rect.unit ![0, 0] ![1024, 256] inb_S1024x2816_S1024x256_0_0)) (View.ld x3 (Rect.unit ![0, 0] ![1024, 256] inb_S1024x2816_S1024x256_0_0))⟩]

/-- The gated unit of a row and a column of the block. -/
def unit (x0 : Vec Ideal S1024x1024 .f32) (x1 : Vec Ideal S1x1024 .f32) (x2 x3 : Vec Ideal S1024x2816 .bf16) (r : Fin 1024) (n : Fin 2816) : EReal :=
  act (fun k => k0_pay2 (F := Ideal) x0 x1 (ix2 r k)) (fun k => x2 (ix2 k n)) (fun k => x3 (ix2 k n))

/-- The scratch, after the stores: the gated units, 256 columns a slab. -/
theorem stored_at (x0 : Vec Ideal S1024x1024 .f32) (x1 : Vec Ideal S1x1024 .f32) (x2 x3 : Vec Ideal S1024x2816 .bf16) (y : S11x1024x256.Idx)
    (n : Fin 2816) (en : n.val = 256 * (y 0).val + (y 2).val) :
    @Eq EReal (View.canon (stored x0 x1 x2 x3) y) (unit x0 x1 x2 x3 (y 1) n) := by
  unfold stored
  canon_tiles x h
  all_goals obtain ⟨s, a, b, rfl⟩ : ∃ s a b, x = ix3 s a b := ⟨x 0, x 1, x 2, by idx_vars x⟩
  all_goals obtain ⟨j, r, q, rfl⟩ : ∃ j r q, y = ix3 j r q := ⟨y 0, y 1, y 2, by idx_vars y⟩
  all_goals obtain rfl : r = a := Fin.ext h1
  all_goals obtain rfl : s = 0 := Subsingleton.elim _ _
  · refine (chunk10_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk9_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk8_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk7_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk6_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk5_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk4_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk3_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk2_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk1_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)
  · refine (chunk0_at ..).trans ?_
    refine congrArg₂ (act _) (funext fun k => ld_w x2 _ _ k b n ?_) (funext fun k => ld_w x3 _ _ k b n ?_) <;>
      (have e0 : j.val = _ := h0; have e2 : q.val = b.val := h2; have en' : n.val = 256 * j.val + q.val := en; omega)

end Cert.DenseIdeal.Math
end
-- ==== Proof.DenseBlock.lean ====
/- The block one grid point of the dense mixer call stores: its tokens plus the down projection of their gated units. -/
module

public import proofs.«01_k».proof.Proof.DenseScratch

@[expose] public section

set_option maxRecDepth 16384

noncomputable section

open Idealize.ShloMosaic Idealize.ShloMosaic.TcCoe Idealize.SL.Sem

namespace Cert.DenseIdeal.Math

open Cert.DenseIdeal Cert.DenseIdeal.Gen Cert.Layer

/-- A read of a slab of the scratch reads its gated units. -/
theorem slab_at (v : View sig .tc .vmem S11x1024x256 .bf16) (x0 : Vec Ideal S1024x1024 .f32) (x1 : Vec Ideal S1x1024 .f32) (x2 x3 : Vec Ideal S1024x2816 .bf16)
    (j : ℕ) (inb) (r : Fin 1024) (q : Fin 256) (n : Fin 2816) (en : n.val = 256 * j + q.val) :
    @Eq EReal (v.readCov (stored x0 x1 x2 x3) (Rect.unit (s := S11x1024x256) ![j, 0, 0] ![1, 1024, 256] inb).toLoadRect (ix3 0 r q)) (unit x0 x1 x2 x3 r n) := by
  rw [View.readCov_eq_canon']
  have e1 : (Rect.unit (s := S11x1024x256) ![j, 0, 0] ![1, 1024, 256] inb).toLoadRect.idx (ix3 0 r q) 1 = r :=
    Fin.ext (by show 0 + 1 * r.val = r.val; omega)
  refine (stored_at x0 x1 x2 x3 _ n ?_).trans (congrArg (fun r => unit x0 x1 x2 x3 r n) e1)
  show n.val = 256 * (j + 1 * 0) + (0 + 1 * q.val)
  omega

/-- A choice between two equal values. -/
theorem either {p : Prop} [Decidable p] {a : p → EReal} {b : ¬p → EReal} {z : EReal} (ha : ∀ h, a h = z) (hb : ∀ h, b h = z) : dite p a b = z := by
  by_cases h : p
  · rw [dif_pos h, ha]
  · rw [dif_neg h, hb]

set_option maxHeartbeats 1600000 in
/-- The down projection of the slabs, added to the tokens. -/
theorem pay1_at (A : Fin 1024 → Fin 2816 → EReal) (v160 v162 v164 v166 : FVec Ideal S1024x256 .bf16) (v167 v169 v171 v173 v175 v177 v179 : Vec Ideal S1x1024x256 .bf16)
    (x : Vec Ideal S1024x1024 .f32) (w : Vec Ideal S2816x1024 .bf16)
    (e0 : ∀ (r : Fin 1024) (q : Fin 256) (n : Fin 2816), n.val = 0 + q.val → @Eq EReal (v160 (ix2 r q)) (A r n))
    (e1 : ∀ (r : Fin 1024) (q : Fin 256) (n : Fin 2816), n.val = 256 + q.val → @Eq EReal (v162 (ix2 r q)) (A r n))
    (e2 : ∀ (r : Fin 1024) (q : Fin 256) (n : Fin 2816), n.val = 512 + q.val → @Eq EReal (v164 (ix2 r q)) (A r n))
    (e3 : ∀ (r : Fin 1024) (q : Fin 256) (n : Fin 2816), n.val = 768 + q.val → @Eq EReal (v166 (ix2 r q)) (A r n))
    (e4 : ∀ (r : Fin 1024) (q : Fin 256) (n : Fin 2816), n.val = 1024 + q.val → @Eq EReal (v167 (ix3 0 r q)) (A r n))
    (e5 : ∀ (r : Fin 1024) (q : Fin 256) (n : Fin 2816), n.val = 1280 + q.val → @Eq EReal (v169 (ix3 0 r q)) (A r n))
    (e6 : ∀ (r : Fin 1024) (q : Fin 256) (n : Fin 2816), n.val = 1536 + q.val → @Eq EReal (v171 (ix3 0 r q)) (A r n))
    (e7 : ∀ (r : Fin 1024) (q : Fin 256) (n : Fin 2816), n.val = 1792 + q.val → @Eq EReal (v173 (ix3 0 r q)) (A r n))
    (e8 : ∀ (r : Fin 1024) (q : Fin 256) (n : Fin 2816), n.val = 2048 + q.val → @Eq EReal (v175 (ix3 0 r q)) (A r n))
    (e9 : ∀ (r : Fin 1024) (q : Fin 256) (n : Fin 2816), n.val = 2304 + q.val → @Eq EReal (v177 (ix3 0 r q)) (A r n))
    (e10 : ∀ (r : Fin 1024) (q : Fin 256) (n : Fin 2816), n.val = 2560 + q.val → @Eq EReal (v179 (ix3 0 r q)) (A r n))
    (r d : Fin 1024) :
    k0_pay1 (F := Ideal) v160 v162 v164 v166 v167 v169 v171 v173 v175 v177 v179 x w (ix2 r d) = x (ix2 r d) + ∑ n : Fin 2816, A r n * w (ix2 n d) := by
  pointwise [k0_pay1]
  refine congrArg (fun z : EReal => x (ix2 r d) + z) (Finset.sum_congr rfl fun n _ => congrArg (fun z : EReal => z * w (ix2 n d)) ?_)
  refine either (fun h => e0 r _ n (by show n.val = 0 + (n.val); omega)) fun h0 => ?_
  refine either (fun h => e1 r _ n (by show n.val = 256 + (n.val - 256); omega)) fun h1 => ?_
  refine either (fun h => e2 r _ n (by show n.val = 512 + (n.val - 256 - 256); omega)) fun h2 => ?_
  refine either (fun h => e3 r _ n (by show n.val = 768 + (n.val - 256 - 256 - 256); omega)) fun h3 => ?_
  refine either (fun h => e4 r _ n (by show n.val = 1024 + (n.val - 256 - 256 - 256 - 256); omega)) fun h4 => ?_
  refine either (fun h => e5 r _ n (by show n.val = 1280 + (n.val - 256 - 256 - 256 - 256 - 256); omega)) fun h5 => ?_
  refine either (fun h => e6 r _ n (by show n.val = 1536 + (n.val - 256 - 256 - 256 - 256 - 256 - 256); omega)) fun h6 => ?_
  refine either (fun h => e7 r _ n (by show n.val = 1792 + (n.val - 256 - 256 - 256 - 256 - 256 - 256 - 256); omega)) fun h7 => ?_
  refine either (fun h => e8 r _ n (by show n.val = 2048 + (n.val - 256 - 256 - 256 - 256 - 256 - 256 - 256 - 256); omega)) fun h8 => ?_
  refine either (fun h => e9 r _ n (by show n.val = 2304 + (n.val - 256 - 256 - 256 - 256 - 256 - 256 - 256 - 256 - 256); omega)) fun h9 => ?_
  exact e10 r _ n (by show n.val = 2560 + (n.val - 256 - 256 - 256 - 256 - 256 - 256 - 256 - 256 - 256 - 256); omega)

/-- The stored value, read at an index. -/
theorem pay20_at (v : Vec Ideal S1x1024x256 .bf16) (r : Fin 1024) (q : Fin 256) : @Eq EReal (k0_pay20 (F := Ideal) v (ix2 r q)) (v (ix3 0 r q)) := by
  pointwise [k0_pay20]

/-- The stored value, read at an index. -/
theorem pay21_at (v : Vec Ideal S1x1024x256 .bf16) (r : Fin 1024) (q : Fin 256) : @Eq EReal (k0_pay21 (F := Ideal) v (ix2 r q)) (v (ix3 0 r q)) := by
  pointwise [k0_pay21]

/-- The stored value, read at an index. -/
theorem pay22_at (v : Vec Ideal S1x1024x256 .bf16) (r : Fin 1024) (q : Fin 256) : @Eq EReal (k0_pay22 (F := Ideal) v (ix2 r q)) (v (ix3 0 r q)) := by
  pointwise [k0_pay22]

/-- The stored value, read at an index. -/
theorem pay23_at (v : Vec Ideal S1x1024x256 .bf16) (r : Fin 1024) (q : Fin 256) : @Eq EReal (k0_pay23 (F := Ideal) v (ix2 r q)) (v (ix3 0 r q)) := by
  pointwise [k0_pay23]

/-- What a point stores, its reads of the scratch by name. -/
theorem out_open (c : Dev nD) (i : grid0.Coords)
    (arg1 : Memref sig .tc .vmem S1024x1024 .f32) (harg1 : arg1.IsWhole)
    (arg2 : Memref sig .tc .vmem S1x1024 .f32) (harg2 : arg2.IsWhole)
    (arg3 : Memref sig .tc .vmem S1024x2816 .bf16) (harg3 : arg3.IsWhole)
    (arg4 : Memref sig .tc .vmem S1024x2816 .bf16) (harg4 : arg4.IsWhole)
    (arg5 : Memref sig .tc .vmem S2816x1024 .bf16) (harg5 : arg5.IsWhole)
    (arg6 : Memref sig .tc .vmem S1024x1024 .f32) (harg6 : arg6.IsWhole)
    (arg7 : Memref sig .tc .vmem S11x1024x256 .bf16) (harg7 : arg7.IsWhole)
    (x0 : Vec Ideal S1024x1024 .f32) (x1 : Vec Ideal S1x1024 .f32) (x2 x3 : Vec Ideal S1024x2816 .bf16) (x4 : Vec Ideal S2816x1024 .bf16) :
    out0_A_5 (F := Ideal) c i arg1 harg1 arg2 harg2 arg3 harg3 arg4 harg4 arg5 harg5 arg6 harg6 arg7 harg7 x0 x1 x2 x3 x4
      = k0_pay1 (k0_pay20 (arg7.view.readCov (stored x0 x1 x2 x3) (Rect.unit ![0, 0, 0] ![1, 1024, 256] inb_S11x1024x256_S1x1024x256_0_0_0).toLoadRect)) (k0_pay21 (arg7.view.readCov (stored x0 x1 x2 x3) (Rect.unit ![1, 0, 0] ![1, 1024, 256] inb_S11x1024x256_S1x1024x256_1_0_0).toLoadRect)) (k0_pay22 (arg7.view.readCov (stored x0 x1 x2 x3) (Rect.unit ![2, 0, 0] ![1, 1024, 256] inb_S11x1024x256_S1x1024x256_2_0_0).toLoadRect)) (k0_pay23 (arg7.view.readCov (stored x0 x1 x2 x3) (Rect.unit ![3, 0, 0] ![1, 1024, 256] inb_S11x1024x256_S1x1024x256_3_0_0).toLoadRect))
          (arg7.view.readCov (stored x0 x1 x2 x3) (Rect.unit ![4, 0, 0] ![1, 1024, 256] inb_S11x1024x256_S1x1024x256_4_0_0).toLoadRect) (arg7.view.readCov (stored x0 x1 x2 x3) (Rect.unit ![5, 0, 0] ![1, 1024, 256] inb_S11x1024x256_S1x1024x256_5_0_0).toLoadRect) (arg7.view.readCov (stored x0 x1 x2 x3) (Rect.unit ![6, 0, 0] ![1, 1024, 256] inb_S11x1024x256_S1x1024x256_6_0_0).toLoadRect) (arg7.view.readCov (stored x0 x1 x2 x3) (Rect.unit ![7, 0, 0] ![1, 1024, 256] inb_S11x1024x256_S1x1024x256_7_0_0).toLoadRect) (arg7.view.readCov (stored x0 x1 x2 x3) (Rect.unit ![8, 0, 0] ![1, 1024, 256] inb_S11x1024x256_S1x1024x256_8_0_0).toLoadRect) (arg7.view.readCov (stored x0 x1 x2 x3) (Rect.unit ![9, 0, 0] ![1, 1024, 256] inb_S11x1024x256_S1x1024x256_9_0_0).toLoadRect) (arg7.view.readCov (stored x0 x1 x2 x3) (Rect.unit ![10, 0, 0] ![1, 1024, 256] inb_S11x1024x256_S1x1024x256_10_0_0).toLoadRect) x0 x4 := by
  funext y
  frame_out
  rfl

/-- WHAT A POINT STORES: its tokens plus the down projection of their gated units. -/
theorem out_eq (c : Dev nD) (i : grid0.Coords)
    (arg1 : Memref sig .tc .vmem S1024x1024 .f32) (harg1 : arg1.IsWhole)
    (arg2 : Memref sig .tc .vmem S1x1024 .f32) (harg2 : arg2.IsWhole)
    (arg3 : Memref sig .tc .vmem S1024x2816 .bf16) (harg3 : arg3.IsWhole)
    (arg4 : Memref sig .tc .vmem S1024x2816 .bf16) (harg4 : arg4.IsWhole)
    (arg5 : Memref sig .tc .vmem S2816x1024 .bf16) (harg5 : arg5.IsWhole)
    (arg6 : Memref sig .tc .vmem S1024x1024 .f32) (harg6 : arg6.IsWhole)
    (arg7 : Memref sig .tc .vmem S11x1024x256 .bf16) (harg7 : arg7.IsWhole)
    (x0 : Vec Ideal S1024x1024 .f32) (x1 : Vec Ideal S1x1024 .f32) (x2 x3 : Vec Ideal S1024x2816 .bf16) (x4 : Vec Ideal S2816x1024 .bf16) (r d : Fin 1024) :
    out0_A_5 (F := Ideal) c i arg1 harg1 arg2 harg2 arg3 harg3 arg4 harg4 arg5 harg5 arg6 harg6 arg7 harg7 x0 x1 x2 x3 x4 (ix2 r d)
      = x0 (ix2 r d) + ∑ n : Fin 2816, unit x0 x1 x2 x3 r n * x4 (ix2 n d) := by
  rw [out_open]
  refine pay1_at (unit x0 x1 x2 x3) _ _ _ _ _ _ _ _ _ _ _ x0 x4 ?_ ?_ ?_ ?_ ?_ ?_ ?_ ?_ ?_ ?_ ?_ r d
  · exact fun r q n en => (pay20_at ..).trans (slab_at _ _ _ _ _ 0 _ r q n en)
  · exact fun r q n en => (pay21_at ..).trans (slab_at _ _ _ _ _ 1 _ r q n en)
  · exact fun r q n en => (pay22_at ..).trans (slab_at _ _ _ _ _ 2 _ r q n en)
  · exact fun r q n en => (pay23_at ..).trans (slab_at _ _ _ _ _ 3 _ r q n en)
  · exact fun r q n en => slab_at _ _ _ _ _ 4 _ r q n en
  · exact fun r q n en => slab_at _ _ _ _ _ 5 _ r q n en
  · exact fun r q n en => slab_at _ _ _ _ _ 6 _ r q n en
  · exact fun r q n en => slab_at _ _ _ _ _ 7 _ r q n en
  · exact fun r q n en => slab_at _ _ _ _ _ 8 _ r q n en
  · exact fun r q n en => slab_at _ _ _ _ _ 9 _ r q n en
  · exact fun r q n en => slab_at _ _ _ _ _ 10 _ r q n en

end Cert.DenseIdeal.Math

end
-- ==== Proof.DenseArray.lean ====
/- What the dense mixer call leaves in its result array. -/
module

public import proofs.«01_k».proof.Proof.DenseBlock

@[expose] public section

set_option maxRecDepth 16384

noncomputable section

open Idealize.ShloMosaic Idealize.ShloMosaic.TcCoe Idealize.SL.Sem
open Idealize.ShloMosaic.Pipeline (Dat)

namespace Cert.DenseIdeal.Math

open Cert.DenseIdeal Cert.DenseIdeal.Gen Cert.Layer

variable (m : (ℓ : Loc nD τ sig) → Buf (Elt Ideal) ℓ) (c : Dev nD)

/-- The gain the call reads. -/
theorem g_at (k : Fin 1024) : @Eq EReal (V m c main_v0 (ix2 0 k)) (m (c.tc.loc main_arg1) (ix1 k)) := by
  show (shapeCast S1x1024 (m (c.tc.loc main_arg1)) shapeCasts_S1024_S1x1024 : Vec Ideal S1x1024 .f32) (ix2 0 k) = _
  pointwise

/-- Which block of every array a grid point works on. -/
theorem idx : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = t.val ∧ win0_5.index t 1 = 0) ∧ t.val < 16 := by
  decide +kernel

/-- A row of a point's block, among all tokens. -/
def rAt (t : Fin grid0.N) (r : Fin 1024) : Fin 16384 := ⟨t.val * 1024 + r.val, by have := (idx t).2.2.2.2.2.2; omega⟩

/-- The block of tokens. -/
theorem blk_x (t : Fin grid0.N) (r k : Fin 1024) :
    @Eq EReal (iblk m c 0 t (ix2 r k)) (m (c.tc.loc main_arg0) (ix2 (rAt t r) k)) := by
  rw [← V_main_arg0 m c]
  unfold rAt
  blk_ext [iblk, idx t]

/-- The block of the gain. -/
theorem blk_g (t : Fin grid0.N) (k : Fin 1024) : @Eq EReal (iblk m c 1 t (ix2 0 k)) (m (c.tc.loc main_arg1) (ix1 k)) := by
  rw [← g_at m c]
  blk_ext [iblk, idx t]

/-- The block of the gate's weight. -/
theorem blk_wg (t : Fin grid0.N) (k : Fin 1024) (n : Fin 2816) :
    @Eq EReal (iblk m c 2 t (ix2 k n)) (m (c.tc.loc main_arg2) (ix2 k n)) := by
  have e : @Eq EReal (V m c main_v1 (ix2 k n)) (m (c.tc.loc main_arg2) (ix2 k n)) := rfl
  rw [← e]
  blk_ext [iblk, idx t]

/-- The block of the up projection's weight. -/
theorem blk_wu (t : Fin grid0.N) (k : Fin 1024) (n : Fin 2816) :
    @Eq EReal (iblk m c 3 t (ix2 k n)) (m (c.tc.loc main_arg3) (ix2 k n)) := by
  have e : @Eq EReal (V m c main_v2 (ix2 k n)) (m (c.tc.loc main_arg3) (ix2 k n)) := rfl
  rw [← e]
  blk_ext [iblk, idx t]

/-- The block of the down projection's weight. -/
theorem blk_wd (t : Fin grid0.N) (n : Fin 2816) (d : Fin 1024) :
    @Eq EReal (iblk m c 4 t (ix2 n d)) (m (c.tc.loc main_arg4) (ix2 n d)) := by
  have e : @Eq EReal (V m c main_v3 (ix2 n d)) (m (c.tc.loc main_arg4) (ix2 n d)) := rfl
  rw [← e]
  blk_ext [iblk, idx t]

/-- A mixed entry: the token's plus the down projection of its gated units. -/
def entryOf (x : FVec Ideal S16384x1024 .f32) (g : FVec Ideal S1024 .f32) (wg wu : FVec Ideal S1024x2816 .f32) (wd : FVec Ideal S2816x1024 .f32)
    (r : Fin 16384) (d : Fin 1024) : EReal :=
  x (ix2 r d) + ∑ n : Fin 2816, act (normed (fun k => x (ix2 r k)) (fun k => g (ix1 k))) (fun k => wg (ix2 k n)) (fun k => wu (ix2 k n)) * wd (ix2 n d)

/-- The mixed entry of the call's arguments. -/
def entry (r : Fin 16384) (d : Fin 1024) : EReal :=
  entryOf (m (c.tc.loc main_arg0)) (m (c.tc.loc main_arg1)) (m (c.tc.loc main_arg2)) (m (c.tc.loc main_arg3)) (m (c.tc.loc main_arg4)) r d

/-- The entry a block computes, from the blocks it reads. -/
def ofBlock (x0 : Vec Ideal S1024x1024 .f32) (x1 : Vec Ideal S1x1024 .f32) (x2 x3 : Vec Ideal S1024x2816 .bf16) (x4 : Vec Ideal S2816x1024 .bf16)
    (r d : Fin 1024) : EReal :=
  x0 (ix2 r d) + ∑ n : Fin 2816, unit x0 x1 x2 x3 r n * x4 (ix2 n d)

/-- The mixed array. -/
def mixed : S16384x1024.Idx → EReal := fun i => entry m c (i 0) (i 1)

/-- What a point stores, from the arguments. -/
theorem point (t : Fin grid0.N) (r d : Fin 1024) :
    ofBlock (iblk m c 0 t) (iblk m c 1 t) (iblk m c 2 t) (iblk m c 3 t) (iblk m c 4 t) r d
      = entry m c (rAt t r) d := by
  refine congrArg₂ (fun x y : EReal => x + y) (blk_x m c t r d) (Finset.sum_congr rfl fun n _ =>
    congrArg₂ (fun x y : EReal => x * y) ?_ (blk_wd m c t n d))
  unfold unit
  have eh : (fun k => k0_pay2 (F := Ideal) (iblk m c 0 t) (iblk m c 1 t) (ix2 r k))
      = normed (fun k => m (c.tc.loc main_arg0) (ix2 (rAt t r) k)) (fun k => m (c.tc.loc main_arg1) (ix1 k)) := by
    funext k
    rw [pay2_at]
    exact congrArg₂ (fun f g => normed f g k) (funext fun k => blk_x m c t r k) (funext fun k => blk_g m c t k)
  rw [eh]
  exact congrArg₂ (act _) (funext fun k => blk_wg m c t k n) (funext fun k => blk_wu m c t k n)

/-- THE RESULT ARRAY is the mixed array. -/
theorem final : (dats m 0 c).arrAt 5 (cfgs 0).N = mixed m c := by
  refine (dats m 0 c).arrAt_eq_of_covers 5 _ (by decide +kernel) fun t _ y => ?_
  blk_simp
  rw [after0_5]
  show outsAt0 m c t y = _
  obtain ⟨r, d, rfl⟩ : ∃ r d, y = ix2 r d := ⟨y 0, y 1, by idx_vars y⟩
  unfold outsAt0
  rw [out_eq]
  refine (point m c t r d).trans ?_
  have e0 : (win0_5.blk t).view.emb (ix2 r d) 0 = rAt t r := Fin.ext (by blk_simp [rAt, idx t] <;> try omega)
  have e1 : (win0_5.blk t).view.emb (ix2 r d) 1 = d := Fin.ext (by blk_simp [idx t] <;> try omega)
  unfold mixed
  rw [e0, e1]

end Cert.DenseIdeal.Math

end
-- ==== Proof.DenseReference.lean ====
/- The dense mixer reference, read at an index. -/
module

public import proofs.«01_k».proof.Proof.Gen.MixedIdeal.Run
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem

namespace Cert.MixedIdeal.Math

open Cert.MixedIdeal Cert.MixedIdeal.Gen Cert.Layer

variable (m : (ℓ : Loc nD τ sig) → Buf (Elt Ideal) ℓ) (c : Dev nD)

/-- The normalised tokens. -/
def h (x : FVec Ideal S16384x1024 .f32) (g : FVec Ideal S1024 .f32) : FVec Ideal S16384x1024 .f32 := (mulf (mulf x (broadcastInDim S16384x1024 ![0, 1] bcast_S16384x1_S16384x1024_0_1 (Host.rsqrt (addf (Host.divf (broadcastInDim S16384x1 ![0] bcast_S16384_S16384x1_0 (Host.reduceAdd (mulf x x) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 g)))

/-- A normalised entry. -/
theorem h_at (x : FVec Ideal S16384x1024 .f32) (g : FVec Ideal S1024 .f32) (r : Fin 16384) (d : Fin 1024) :
    h x g (ix2 r d) = normed (fun k => x (ix2 r k)) (fun k => g (ix1 k)) d := by
  pointwise [h]
  rfl

/-- The gated units. -/
def gated (y : FVec Ideal S16384x1024 .f32) (wg wu : FVec Ideal S1024x2816 .f32) : FVec Ideal S16384x2816 .f32 :=
  (mulf (mulf (Host.dotGeneral dot_S16384x1024_S1024x2816_S16384x2816_1_0_0_1_n_n none y wg) (Host.divf (broadcastInDim S16384x2816 ![] bcast_S_S16384x2816 (constant (F := Ideal) S_ .f32 0x3F800000#32)) (addf (broadcastInDim S16384x2816 ![] bcast_S_S16384x2816 (constant (F := Ideal) S_ .f32 0x3F800000#32)) (Host.exp (Host.negf (Host.dotGeneral dot_S16384x1024_S1024x2816_S16384x2816_1_0_0_1_n_n none y wg)))))) (Host.dotGeneral dot_S16384x1024_S1024x2816_S16384x2816_1_0_0_1_n_n none y wu))

/-- A gated unit. -/
theorem gated_at (y : FVec Ideal S16384x1024 .f32) (wg wu : FVec Ideal S1024x2816 .f32) (r : Fin 16384) (n : Fin 2816) :
    gated y wg wu (ix2 r n) = act (fun k => y (ix2 r k)) (fun k => wg (ix2 k n)) (fun k => wu (ix2 k n)) := by
  pointwise [gated]
  rfl

/-- The result. -/
def res (x : FVec Ideal S16384x1024 .f32) (g : FVec Ideal S1024 .f32) (wg wu : FVec Ideal S1024x2816 .f32) (wd : FVec Ideal S2816x1024 .f32) : FVec Ideal S16384x1024 .f32 :=
  addf x (Host.dotGeneral dot_S16384x2816_S2816x1024_S16384x1024_1_0_0_1_n_n none (gated (h x g) wg wu) wd)

/-- THE REFERENCE'S RESULT at an index. -/
theorem res_at (x : FVec Ideal S16384x1024 .f32) (g : FVec Ideal S1024 .f32) (wg wu : FVec Ideal S1024x2816 .f32) (wd : FVec Ideal S2816x1024 .f32)
    (r : Fin 16384) (d : Fin 1024) :
    res x g wg wu wd (ix2 r d) = x (ix2 r d)
      + ∑ n : Fin 2816, act (normed (fun k => x (ix2 r k)) (fun k => g (ix1 k))) (fun k => wg (ix2 k n)) (fun k => wu (ix2 k n)) * wd (ix2 n d) := by
  pointwise [res]
  refine congrArg (fun z : EReal => x (ix2 r d) + z) (Finset.sum_congr rfl fun n _ => congrArg (fun z : EReal => z * wd (ix2 n d)) ?_)
  rw [gated_at]
  exact congrArg (fun f => act f (fun k => wg (ix2 k n)) (fun k => wu (ix2 k n))) (funext fun k => h_at x g r k)

end Cert.MixedIdeal.Math

end
-- ==== Proof.Dense.lean ====
/- The dense mixer call's claims: the reference's frame, and equal results. -/
module

public import proofs.«01_k».proof.Defs
public import proofs.«01_k».proof.Proof.DenseArray
public import proofs.«01_k».proof.Proof.DenseReference
public import Idealize.ShloMosaic.Adequacy

@[expose] public section

set_option maxRecDepth 16384

noncomputable section

open Idealize.ShloMosaic Idealize.ShloMosaic.TcCoe Idealize.SL.Sem

namespace Cert.Dense.Math

open Cert.Layer

/-- The reference of the dense mixer runs, keeps its arguments, and holds no semaphore. -/
theorem reference_frame (m : (ℓ : Loc Cert.MixedIdeal.nD Cert.MixedIdeal.τ Cert.MixedIdeal.sig) → Buf (Elt Ideal) ℓ)
    (g : Dev Cert.MixedIdeal.nD → PrngReg) :
    θ_run (Cert.MixedIdeal.defs (F := Ideal)) (onTc (τ := Cert.MixedIdeal.τ) (Cert.MixedIdeal.main (F := Ideal)))
      ⟨m, fun _ => 0, g⟩ (fun r => (∀ c : Dev Cert.MixedIdeal.nD,
        r.2.mem (c.tc.loc Cert.MixedIdeal.main_arg0) = m (c.tc.loc Cert.MixedIdeal.main_arg0)
        ∧ r.2.mem (c.tc.loc Cert.MixedIdeal.main_arg1) = m (c.tc.loc Cert.MixedIdeal.main_arg1)
        ∧ r.2.mem (c.tc.loc Cert.MixedIdeal.main_arg2) = m (c.tc.loc Cert.MixedIdeal.main_arg2)
        ∧ r.2.mem (c.tc.loc Cert.MixedIdeal.main_arg3) = m (c.tc.loc Cert.MixedIdeal.main_arg3)
        ∧ r.2.mem (c.tc.loc Cert.MixedIdeal.main_arg4) = m (c.tc.loc Cert.MixedIdeal.main_arg4)) ∧ r.2.sem = fun _ => 0) :=
  (θ_run Cert.MixedIdeal.defs _ _).mono
    (fun r h => ⟨fun c => (h c).2, Idealize.ShloMosaic.sem_eq_zero_of_no_sems (by decide) r.2⟩)
    (Cert.MixedIdeal.Value.run (F := Ideal) m g)

/-- The dense mixer call and its reference leave equal results. -/
theorem algebraic : Cert.algebraic_DenseIdeal_MixedIdeal (hDenseIdeal := Cert.DenseIdeal.Gen.facts)
    (hMixedIdeal := Cert.MixedIdeal.Gen.facts) := by
  intro m g m' g' _ hargs
  refine ⟨fun c => Cert.DenseIdeal.Math.mixed m c, ?_, ?_⟩
  · exact (θ_run Cert.DenseIdeal.defs _ _).mono (fun r h c => ⟨(h c).1.trans (Cert.DenseIdeal.Math.final m c), (h c).2⟩)
      (Cert.DenseIdeal.Value.run_blocks m g)
  · refine (θ_run Cert.MixedIdeal.defs _ _).mono (fun r h c => ⟨(h c).1.trans ?_, (h c).2⟩) (Cert.MixedIdeal.Value.run (F := Ideal) m' g')
    obtain ⟨a0, a1, a2, a3, a4⟩ := hargs c
    funext i
    idx_vars i
    refine (Cert.MixedIdeal.Math.res_at (m' (c.tc.loc Cert.MixedIdeal.main_arg0)) (m' (c.tc.loc Cert.MixedIdeal.main_arg1))
      (m' (c.tc.loc Cert.MixedIdeal.main_arg2)) (m' (c.tc.loc Cert.MixedIdeal.main_arg3)) (m' (c.tc.loc Cert.MixedIdeal.main_arg4)) _ _).trans ?_
    rw [a0, a1, a2, a3, a4]
    rfl

end Cert.Dense.Math

end
-- ==== Proof.MergeSpec.lean ====
/- The arithmetic of the merge: pooling over trailing windows, the gated branches, and a window as a product with a band. -/
module

public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Layer

/-- A channel along the sequence, with sixteen zeros before it. -/
def padded (u : Fin 4096 → EReal) (q : ℕ) : EReal := if h : 16 ≤ q ∧ q < 4112 then u ⟨q - 16, by omega⟩ else 0

/-- The trailing mean over `W` tokens, shorter at the start, minus the token; `cap` is the window's length as a number. -/
def pooled (W : ℕ) (cap : EReal) (u : Fin 4096 → EReal) (p : Fin 4096) : EReal :=
  Ideal.div (∑ j ∈ Finset.range W, padded u (p.val + 17 - W + j)) (min (((p.val + 1 : ℕ) : ℝ) : EReal) cap) - u p

/-- The window of a group of channels. -/
def win : Fin 4 → ℕ := ![2, 4, 8, 16]

/-- The window of a group, as the number the programs compare with. -/
def cap : Fin 4 → EReal :=
  ![Ideal.ofBits .f32 0x40000000#32, Ideal.ofBits .f32 0x40800000#32, Ideal.ofBits .f32 0x41000000#32, Ideal.ofBits .f32 0x41800000#32]

/-- Channel `x` of group `g`. -/
def chan (g : Fin 4) (x : Fin 128) : Fin 512 := ⟨128 * g.val + x.val, by omega⟩

/-- Every channel is one of a group. -/
theorem exists_chan (n : Fin 512) : ∃ g x, n = chan g x :=
  ⟨⟨n.val / 128, by omega⟩, ⟨n.val % 128, by omega⟩, Fin.ext (by show n.val = 128 * (n.val / 128) + n.val % 128; omega)⟩

/-- Two sums over the channels agree when they agree group by group. -/
theorem sum_chan (f h : Fin 512 → EReal) (e : ∀ g x, f (chan g x) = h (chan g x)) : ∑ n, f n = ∑ n, h n :=
  Finset.sum_congr rfl fun n _ => by obtain ⟨g, x, rfl⟩ := exists_chan n; exact e g x

/-- The pooling branch: the pooled channels of a group through the group's weight, times the scale. -/
def branch (u : Fin 512 → Fin 4096 → EReal) (wp : Fin 4 → Fin 128 → Fin 128 → EReal) (ps : Fin 512 → EReal) (p : Fin 4096)
    (g : Fin 4) (x : Fin 128) : EReal :=
  (∑ k : Fin 128, pooled (win g) (cap g) (u (chan g k)) p * wp g k x) * ps (chan g x)

/-- A family over groups and channels of a group, as one over all channels. -/
def flat (f : Fin 4 → Fin 128 → EReal) (n : Fin 512) : EReal := f ⟨n.val / 128, by omega⟩ ⟨n.val % 128, by omega⟩

theorem flat_chan (f : Fin 4 → Fin 128 → EReal) (g : Fin 4) (x : Fin 128) : flat f (chan g x) = f g x :=
  congrArg₂ f (Fin.ext (by show (128 * g.val + x.val) / 128 = g.val; omega)) (Fin.ext (by show (128 * g.val + x.val) % 128 = x.val; omega))

/-- The column of a gate: three for every unit of the width. -/
def gateCol (j : Fin 3) (e : Fin 1024) : Fin 5760 := ⟨1024 * j.val + e.val, by omega⟩

/-- The column of a pooling channel. -/
def poolCol (n : Fin 512) : Fin 5760 := ⟨5120 + n.val, by omega⟩

/-- A choice whose two sides both are `z` is `z`. -/
theorem split_if {p : Prop} [Decidable p] {f : p → EReal} {g : ¬p → EReal} {z : EReal} (h : ∀ a, f a = z) (h' : ∀ a, g a = z) :
    dite p f g = z := by
  by_cases a : p
  · exact (dif_pos a).trans (h a)
  · exact (dif_neg a).trans (h' a)

/-- One unit of the merged width: the three branches through their weights, each times its gate. -/
def unitOf (g0 g1 g2 : EReal) (ya yb yc w0 w1 w2 : Fin 512 → EReal) : EReal :=
  Ideal.logistic g0 * ∑ n, ya n * w0 n + Ideal.logistic g1 * ∑ n, yb n * w1 n + Ideal.logistic g2 * ∑ n, yc n * w2 n

/-- One at the columns of the window, the tokens from `r + 17 - W` to `r + 16` of the stretch with sixteen earlier ones, zero elsewhere. -/
def band (W r x : ℕ) : EReal := if x ≤ r + 16 ∧ r + 16 < x + W then 1 else 0

/-- A product with the band is the sum over the window. -/
theorem band_sum (W r : ℕ) (hW : W ≤ 16) (hr : r < 512) (f : ℕ → EReal) :
    (∑ x : Fin 16, band W r x.val * f x.val) + ∑ x : Fin 512, band W r (16 + x.val) * f (16 + x.val)
      = ∑ j ∈ Finset.range W, f (r + 17 - W + j) := by
  rw [Fin.sum_univ_eq_sum_range (fun x => band W r x * f x) 16, Fin.sum_univ_eq_sum_range (fun x => band W r (16 + x) * f (16 + x)) 512,
    ← Finset.sum_range_add (fun x => band W r x * f x) 16 512]
  have e : ∀ x ∈ Finset.range (16 + 512), band W r x * f x = if x ∈ Finset.Ico (r + 17 - W) (r + 17) then f x else 0 := by
    intro x _
    unfold band
    by_cases h : x ≤ r + 16 ∧ r + 16 < x + W
    · rw [if_pos h, if_pos (Finset.mem_Ico.mpr (by omega)), one_mul]
    · rw [if_neg h, if_neg (fun h' => h (by have := Finset.mem_Ico.mp h'; omega)), zero_mul]
  rw [Finset.sum_congr rfl e, Finset.sum_ite_mem,
    Finset.inter_eq_right.mpr (fun x hx => Finset.mem_range.mpr (by have := Finset.mem_Ico.mp hx; omega)), Finset.sum_Ico_eq_sum_range]
  exact Finset.sum_congr (congrArg _ (by omega)) fun _ _ => rfl

/-- The mask of the band, as the program computes it on words. -/
theorem band_bit (W r x : ℕ) (hW : W ≤ 16) (hr : r < 512) (hx : x < 528) :
    @Eq EReal (FloatOps.sitofp (F := Ideal) .f32 (BitVec.setWidth 32 (IntOp.andi
      (IntOp.cmpi CmpIPredicate.sle (BitVec.ofNat 32 x) (IntOp.addi (BitVec.ofNat 32 r) 16#32))
      (IntOp.cmpi CmpIPredicate.sgt (BitVec.ofNat 32 x) (IntOp.subi (IntOp.addi (BitVec.ofNat 32 r) 16#32) (BitVec.ofNat 32 W))))))
      (band W r x) := by
  have e1 : IntOp.addi (BitVec.ofNat 32 r) 16#32 = BitVec.ofNat 32 (r + 16) := (BitVec.ofNat_add ..).symm
  have e2 : IntOp.subi (BitVec.ofNat 32 (r + 16)) (BitVec.ofNat 32 W) = BitVec.ofNat 32 (r + 16 - W) := by
    apply BitVec.eq_of_toNat_eq
    show (BitVec.ofNat 32 (r + 16) - BitVec.ofNat 32 W).toNat = _
    rw [BitVec.toNat_sub, BitVec.toNat_ofNat, BitVec.toNat_ofNat, BitVec.toNat_ofNat]
    omega
  rw [e1, e2, WordCmp.cmpi_sle_ofNat (by omega) (by omega), WordCmp.cmpi_sgt_ofNat (by omega) (by omega)]
  have one : @Eq EReal (FloatOps.sitofp (F := Ideal) .f32 1#32) 1 := by
    show (((1#32 : BitVec 32).toInt : ℝ) : EReal) = 1
    rw [show (1#32 : BitVec 32).toInt = 1 by decide]
    norm_num
  have zero : @Eq EReal (FloatOps.sitofp (F := Ideal) .f32 0#32) 0 := by
    show (((0#32 : BitVec 32).toInt : ℝ) : EReal) = 0
    rw [show (0#32 : BitVec 32).toInt = 0 by decide]
    norm_num
  unfold band
  by_cases h1 : x ≤ r + 16
  · by_cases h2 : r + 16 < x + W
    · rw [if_pos ⟨h1, h2⟩, decide_eq_true h1, decide_eq_true (show r + 16 - W < x by omega)]
      exact one
    · rw [if_neg (fun h => h2 h.2), decide_eq_true h1, decide_eq_false (show ¬ r + 16 - W < x by omega)]
      exact zero
  · rw [if_neg (fun h => h1 h.1), decide_eq_false h1]
    cases decide (r + 16 - W < x) <;> exact zero

end Cert.Layer

end
-- ==== Proof.MergePool.lean ====
/- The pieces of the merge call one grid point computes. -/
module

public import proofs.«01_k».proof.Proof.Gen.MergeIdeal.Value
public import Idealize.ShloMosaic.Lib.Pipeline.ValueKit
public import Idealize.ShloMosaic.Lib.Pointwise
public import proofs.«01_k».proof.Proof.MergeSpec

@[expose] public section

set_option maxRecDepth 16384

noncomputable section

open Idealize.ShloMosaic Idealize.ShloMosaic.TcCoe Idealize.SL.Sem

namespace Cert.MergeIdeal.Math

open Cert.MergeIdeal Cert.MergeIdeal.Gen Cert.Layer

/-- How many tokens there are up to the block's row, as a number. -/
theorem pay2_at (i : grid0.Coords) (r : Fin 512) :
    @Eq EReal (k0_pay2 (F := Ideal) i (ix2 r 0)) (((512 * (i 1).val + r.val + 1 : ℕ) : ℝ) : EReal) := by
  have hi : (i 1).val < 8 := (i 1).isLt
  pointwise [k0_pay2]
  have e : ∀ n < 8, (BitVec.ofNat 32 n * 512#32 + BitVec.ofNat 32 r.val) + 1#32 = BitVec.ofNat 32 (512 * n + r.val + 1) := by
    intro n hn
    apply BitVec.eq_of_toNat_eq
    simp only [BitVec.toNat_add, BitVec.toNat_mul, BitVec.toNat_ofNat]
    omega
  show ((((BitVec.ofNat 32 (i 1).val * 512#32 + BitVec.ofNat 32 r.val) + 1#32 : BitVec 32).toInt : ℝ) : EReal) = _
  rw [e _ hi, BitVec.toInt_eq_toNat_of_lt (by rw [BitVec.toNat_ofNat]; omega), BitVec.toNat_ofNat, Nat.mod_eq_of_lt (by omega)]
  norm_num

/-- A pooled entry, from the form the program computes it in. -/
theorem pool_eq (i : grid0.Coords) (W : ℕ) (h0 : 0 < W) (hW : W ≤ 16) (c : EReal) (u : Fin 512 → EReal) (h : Fin 16 → EReal) (r : Fin 512)
    (v : Fin 4096 → EReal) (p : Fin 4096) (hp : p.val = 512 * (i 1).val + r.val)
    (hh : (i 1).val ≠ 0 → ∀ x : Fin 16, h x = padded v (512 * (i 1).val + x.val))
    (hu : ∀ x : Fin 512, u x = padded v (512 * (i 1).val + 16 + x.val)) :
    Ideal.div ((∑ x : Fin 16, Scalar.select (Scalar.cmpi CmpIPredicate.sgt (BitVec.ofNat 32 (i 1).val) 0#32)
          ((FloatOps.sitofp (F := Ideal) FTy.f32 (BitVec.setWidth 32 (IntOp.andi
            (IntOp.cmpi CmpIPredicate.sle (BitVec.ofNat 32 x.val) (IntOp.addi (BitVec.ofNat 32 r.val) 16#32))
            (IntOp.cmpi CmpIPredicate.sgt (BitVec.ofNat 32 x.val) (IntOp.subi (IntOp.addi (BitVec.ofNat 32 r.val) 16#32) (BitVec.ofNat 32 W))))) : EReal) * h x)
          (0 : EReal))
        + ∑ x : Fin 512, (FloatOps.sitofp (F := Ideal) FTy.f32 (BitVec.setWidth 32 (IntOp.andi
            (IntOp.cmpi CmpIPredicate.sle (BitVec.ofNat 32 (16 + x.val)) (IntOp.addi (BitVec.ofNat 32 r.val) 16#32))
            (IntOp.cmpi CmpIPredicate.sgt (BitVec.ofNat 32 (16 + x.val)) (IntOp.subi (IntOp.addi (BitVec.ofNat 32 r.val) 16#32) (BitVec.ofNat 32 W))))) : EReal) * u x)
      (min (k0_pay2 (F := Ideal) i (ix2 r 0) : EReal) c) - u r = pooled W c v p := by
  have hi : (i 1).val < 8 := (i 1).isLt
  have hr := r.isLt
  have e1 : ∀ x : Fin 16, Scalar.select (Scalar.cmpi CmpIPredicate.sgt (BitVec.ofNat 32 (i 1).val) 0#32)
          ((FloatOps.sitofp (F := Ideal) FTy.f32 (BitVec.setWidth 32 (IntOp.andi
            (IntOp.cmpi CmpIPredicate.sle (BitVec.ofNat 32 x.val) (IntOp.addi (BitVec.ofNat 32 r.val) 16#32))
            (IntOp.cmpi CmpIPredicate.sgt (BitVec.ofNat 32 x.val) (IntOp.subi (IntOp.addi (BitVec.ofNat 32 r.val) 16#32) (BitVec.ofNat 32 W))))) : EReal) * h x)
          (0 : EReal) = band W r.val x.val * padded v (512 * (i 1).val + x.val) := by
    intro x
    have hb := band_bit W r.val x.val hW hr (by omega)
    rw [hb]
    by_cases hz : (i 1).val = 0
    · have ez : padded v (512 * (i 1).val + x.val) = 0 := dif_neg (by have := x.isLt; omega)
      rw [ez, hz, mul_zero]
      rfl
    · rw [← hh hz x]
      have es : Scalar.cmpi CmpIPredicate.sgt (BitVec.ofNat 32 (i 1).val) 0#32 = 1#1 := by
        refine (WordCmp.cmpi_sgt_ofNat (w := 32) (a := (i 1).val) (b := 0) (by omega) (by omega)).trans ?_
        rw [decide_eq_true (by omega)]
        rfl
      rw [es]
      rfl
  have e2 : ∀ x : Fin 512, (FloatOps.sitofp (F := Ideal) FTy.f32 (BitVec.setWidth 32 (IntOp.andi
            (IntOp.cmpi CmpIPredicate.sle (BitVec.ofNat 32 (16 + x.val)) (IntOp.addi (BitVec.ofNat 32 r.val) 16#32))
            (IntOp.cmpi CmpIPredicate.sgt (BitVec.ofNat 32 (16 + x.val)) (IntOp.subi (IntOp.addi (BitVec.ofNat 32 r.val) 16#32) (BitVec.ofNat 32 W))))) : EReal) * u x
        = band W r.val (16 + x.val) * padded v (512 * (i 1).val + (16 + x.val)) := by
    intro x
    have hb := band_bit W r.val (16 + x.val) hW hr (by omega)
    rw [hb, hu x, Nat.add_assoc]
  rw [Finset.sum_congr rfl fun x _ => e1 x, Finset.sum_congr rfl fun x _ => e2 x,
    band_sum W r.val hW hr fun x => padded v (512 * (i 1).val + x), pay2_at, hu r]
  unfold pooled
  have ep : padded v (512 * (i 1).val + 16 + r.val) = v p := by
    unfold padded
    rw [dif_pos (by omega)]
    exact congrArg v (Fin.ext (by show 512 * (i 1).val + 16 + r.val - 16 = p.val; omega))
  rw [ep, hp]
  refine congrArg (fun z : EReal => Ideal.div z _ - v p) (Finset.sum_congr rfl fun j _ => congrArg _ ?_)
  omega

/-- The first group, pooled. -/
theorem pay3_at (i : grid0.Coords) (u : Vec Ideal S1x512x128 .bf16) (h : Vec Ideal S1x16x128 .bf16) (r : Fin 512) (d : Fin 128)
    (v : Fin 4096 → EReal) (p : Fin 4096) (hp : p.val = 512 * (i 1).val + r.val)
    (hh : (i 1).val ≠ 0 → ∀ x : Fin 16, @Eq EReal (h (ix3 0 x d)) (padded v (512 * (i 1).val + x.val)))
    (hu : ∀ x : Fin 512, @Eq EReal (u (ix3 0 x d)) (padded v (512 * (i 1).val + 16 + x.val))) :
    k0_pay3 (F := Ideal) i u h (ix2 r d) = pooled 2 (cap 0) v p := by
  pointwise [k0_pay3]
  exact pool_eq i 2 (by omega) (by omega) (cap 0) (fun x => u (ix3 0 x d)) (fun x => h (ix3 0 x d)) r v p hp hh hu

/-- The first group, through its weight and times its scale. -/
theorem pay5_at (y : FVec Ideal S512x128 .bf16) (w : Vec Ideal S1x128x128 .bf16) (s : Vec Ideal S1x128 .f32) (r : Fin 512) (d : Fin 128) :
    k0_pay5 (F := Ideal) y (k0_pay4 w) (constant S512x128 FTy.f32 0#32) s (ix2 r d)
      = (∑ k : Fin 128, y (ix2 r k) * w (ix3 0 k d)) * s (ix2 0 d) := by
  pointwise [k0_pay5, k0_pay4]

/-- The second group, pooled, through its weight and times its scale. -/
theorem pay8_at (i : grid0.Coords) (u : Vec Ideal S1x512x128 .bf16) (h : Vec Ideal S1x16x128 .bf16) (w : Vec Ideal S1x128x128 .bf16)
    (s : Vec Ideal S1x128 .f32) (r : Fin 512) (d : Fin 128)
    (v : Fin 128 → Fin 4096 → EReal) (p : Fin 4096) (hp : p.val = 512 * (i 1).val + r.val)
    (hh : (i 1).val ≠ 0 → ∀ (d : Fin 128) (x : Fin 16), @Eq EReal (h (ix3 0 x d)) (padded (v d) (512 * (i 1).val + x.val)))
    (hu : ∀ (d : Fin 128) (x : Fin 512), @Eq EReal (u (ix3 0 x d)) (padded (v d) (512 * (i 1).val + 16 + x.val))) :
    k0_pay8 (F := Ideal) (k0_pay6 (BitVec.ofNat 32 (i 1).val) (iota Kind.tc S512x528 32 [0] iota_S512x528_d0_w32)
      (iota Kind.tc S512x528 32 [1] iota_S512x528_d1_w32) (k0_pay2 i) u h w) (k0_pay7 s) (ix2 r d)
      = (∑ k : Fin 128, pooled 4 (cap 1) (v k) p * w (ix3 0 k d)) * s (ix2 0 d) := by
  pointwise [k0_pay8, k0_pay6, k0_pay7]
  refine congrArg (fun z : EReal => z * s (ix2 0 d)) (Finset.sum_congr rfl fun k _ => congrArg (fun z : EReal => z * w (ix3 0 k d)) ?_)
  exact pool_eq i 4 (by omega) (by omega) (cap 1) (fun x => u (ix3 0 x k)) (fun x => h (ix3 0 x k)) r (v k) p hp (fun hz => hh hz k) (hu k)

/-- The third group, pooled, through its weight and times its scale. -/
theorem pay9_at (i : grid0.Coords) (u : Vec Ideal S1x512x128 .bf16) (h : Vec Ideal S1x16x128 .bf16) (w : Vec Ideal S1x128x128 .bf16)
    (s : Vec Ideal S1x128 .f32) (r : Fin 512) (d : Fin 128)
    (v : Fin 128 → Fin 4096 → EReal) (p : Fin 4096) (hp : p.val = 512 * (i 1).val + r.val)
    (hh : (i 1).val ≠ 0 → ∀ (d : Fin 128) (x : Fin 16), @Eq EReal (h (ix3 0 x d)) (padded (v d) (512 * (i 1).val + x.val)))
    (hu : ∀ (d : Fin 128) (x : Fin 512), @Eq EReal (u (ix3 0 x d)) (padded (v d) (512 * (i 1).val + 16 + x.val))) :
    k0_pay9 (F := Ideal) (BitVec.ofNat 32 (i 1).val) (iota Kind.tc S512x528 32 [0] iota_S512x528_d0_w32)
      (iota Kind.tc S512x528 32 [1] iota_S512x528_d1_w32) (k0_pay2 i) u h w s (ix2 r d)
      = (∑ k : Fin 128, pooled 8 (cap 2) (v k) p * w (ix3 0 k d)) * s (ix2 0 d) := by
  pointwise [k0_pay9]
  refine congrArg (fun z : EReal => z * s (ix2 0 d)) (Finset.sum_congr rfl fun k _ => congrArg (fun z : EReal => z * w (ix3 0 k d)) ?_)
  exact pool_eq i 8 (by omega) (by omega) (cap 2) (fun x => u (ix3 0 x k)) (fun x => h (ix3 0 x k)) r (v k) p hp (fun hz => hh hz k) (hu k)

/-- The pooling branch: the four groups side by side, the last one's entries computed here. -/
theorem pay10_at (i : grid0.Coords) (y0 y1 y2 : FVec Ideal S512x128 .bf16) (u : Vec Ideal S1x512x128 .bf16) (h : Vec Ideal S1x16x128 .bf16)
    (w : Vec Ideal S1x128x128 .bf16) (s : Vec Ideal S1x128 .f32) (r n : Fin 512)
    (v : Fin 128 → Fin 4096 → EReal) (p : Fin 4096) (hp : p.val = 512 * (i 1).val + r.val)
    (hh : (i 1).val ≠ 0 → ∀ (d : Fin 128) (x : Fin 16), @Eq EReal (h (ix3 0 x d)) (padded (v d) (512 * (i 1).val + x.val)))
    (hu : ∀ (d : Fin 128) (x : Fin 512), @Eq EReal (u (ix3 0 x d)) (padded (v d) (512 * (i 1).val + 16 + x.val)))
    (f : Fin 512 → EReal) (f0 : ∀ x, @Eq EReal (y0 (ix2 r x)) (f (chan 0 x))) (f1 : ∀ x, @Eq EReal (y1 (ix2 r x)) (f (chan 1 x)))
    (f2 : ∀ x, @Eq EReal (y2 (ix2 r x)) (f (chan 2 x)))
    (f3 : ∀ x, (∑ k : Fin 128, pooled 16 (cap 3) (v k) p * w (ix3 0 k x)) * s (ix2 0 x) = f (chan 3 x)) :
    k0_pay10 (F := Ideal) (BitVec.ofNat 32 (i 1).val) (iota Kind.tc S512x528 32 [0] iota_S512x528_d0_w32)
      (iota Kind.tc S512x528 32 [1] iota_S512x528_d1_w32) (k0_pay2 i) y0 y1 y2 u h w s (ix2 r n) = f n := by
  pointwise [k0_pay10]
  refine split_if (fun a => ?_) fun a => split_if (fun b => ?_) fun b => split_if (fun c => ?_) fun c => ?_
  · exact (f0 _).trans (congrArg f (Fin.ext (by show 128 * 0 + n.val = n.val; omega)))
  · exact (f1 _).trans (congrArg f (Fin.ext (by show 128 * 1 + (n.val - 128) = n.val; omega)))
  · exact (f2 _).trans (congrArg f (Fin.ext (by show 128 * 2 + (n.val - 128 - 128) = n.val; omega)))
  · refine Eq.trans ?_ ((f3 ⟨n.val - 128 - 128 - 128, by omega⟩).trans
      (congrArg f (Fin.ext (by show 128 * 3 + (n.val - 128 - 128 - 128) = n.val; omega))))
    refine congrArg (fun z : EReal => z * s (ix2 0 _)) (Finset.sum_congr rfl fun k _ => congrArg (fun z : EReal => z * w (ix3 0 k _)) ?_)
    exact pool_eq i 16 (by omega) (by omega) (cap 3) (fun x => u (ix3 0 x k)) (fun x => h (ix3 0 x k)) r (v k) p hp (fun hz => hh hz k) (hu k)

/-- The merged width: the three branches through their weights, each times its gate. -/
theorem pay13_at (y : FVec Ideal S512x512 .bf16) (a : Vec Ideal S1x512x512 .bf16) (w0 : Vec Ideal S1x512x1024 .bf16) (b : Vec Ideal S1x512x512 .bf16)
    (w1 w2 g0 g1 g2 : Vec Ideal S1x512x1024 .bf16) (r : Fin 512) (e : Fin 1024) :
    k0_pay13 (F := Ideal) y (k0_pay11 a) w0 b w1 w2 g0 g1 g2 (ix2 r e)
      = unitOf (g0 (ix3 0 r e)) (g1 (ix3 0 r e)) (g2 (ix3 0 r e)) (fun n => a (ix3 0 n r)) (fun n => b (ix3 0 r n)) (fun n => y (ix2 r n))
          (fun n => w0 (ix3 0 n e)) (fun n => w1 (ix3 0 n e)) (fun n => w2 (ix3 0 n e)) := by
  pointwise [k0_pay13, k0_pay11]
  rfl

/-- The stored entry: the merged width through the output weight, added to the token. -/
theorem pay1_at (x : Vec Ideal S1x512x1024 .f32) (z : FVec Ideal S512x1024 .bf16) (w : Vec Ideal S1024x1024 .bf16) (r : Fin 512) (d : Fin 1024) :
    k0_pay1 (F := Ideal) (k0_pay12 x) z w (ix3 0 r d) = x (ix3 0 r d) + ∑ e : Fin 1024, z (ix2 r e) * w (ix2 e d) := by
  pointwise [k0_pay1, k0_pay12]

end Cert.MergeIdeal.Math

end
-- ==== Proof.MergeBlock.lean ====
/- The block one grid point of the merge call stores. -/
module

public import proofs.«01_k».proof.Proof.MergePool

@[expose] public section

set_option maxRecDepth 16384

noncomputable section

open Idealize.ShloMosaic Idealize.ShloMosaic.TcCoe Idealize.SL.Sem

namespace Cert.MergeIdeal.Math

open Cert.MergeIdeal Cert.MergeIdeal.Gen Cert.Layer

/-- A load of a group of the pooling channels of the block. -/
theorem ld_u (x : Vec Ideal S1x512x512 .bf16) (o : ℕ) (inb) (k : Fin 512) (b : Fin 128) (n : Fin 512) (e : n.val = o + b.val) :
    @Eq EReal (View.ld x (Rect.unit (s := S1x512x512) ![0, 0, o] ![1, 512, 128] inb) (ix3 0 k b)) (x (ix3 0 k n)) := by
  refine congrArg x (funext fun a => ?_)
  match a with
  | 0 => exact Fin.ext rfl
  | 1 => exact Fin.ext (by show 0 + 1 * k.val = k.val; omega)
  | 2 => exact Fin.ext (by show o + 1 * b.val = n.val; omega)

/-- A load of a group of the earlier sixteen tokens. -/
theorem ld_h (x : Vec Ideal S1x16x512 .bf16) (o : ℕ) (inb) (k : Fin 16) (b : Fin 128) (n : Fin 512) (e : n.val = o + b.val) :
    @Eq EReal (View.ld x (Rect.unit (s := S1x16x512) ![0, 0, o] ![1, 16, 128] inb) (ix3 0 k b)) (x (ix3 0 k n)) := by
  refine congrArg x (funext fun a => ?_)
  match a with
  | 0 => exact Fin.ext rfl
  | 1 => exact Fin.ext (by show 0 + 1 * k.val = k.val; omega)
  | 2 => exact Fin.ext (by show o + 1 * b.val = n.val; omega)

/-- A load of a group's weight. -/
theorem ld_p (x : Vec Ideal S4x128x128 .bf16) (g : Fin 4) (inb) (k b : Fin 128) :
    @Eq EReal (View.ld x (Rect.unit (s := S4x128x128) ![g.val, 0, 0] ![1, 128, 128] inb) (ix3 0 k b)) (x (ix3 g k b)) := by
  refine congrArg x (funext fun a => ?_)
  match a with
  | 0 => exact Fin.ext (by show g.val + 1 * 0 = g.val; omega)
  | 1 => exact Fin.ext (by show 0 + 1 * k.val = k.val; omega)
  | 2 => exact Fin.ext (by show 0 + 1 * b.val = b.val; omega)

/-- A load of a group's scale. -/
theorem ld_s (x : Vec Ideal S1x512 .f32) (o : ℕ) (inb) (b : Fin 128) (n : Fin 512) (e : n.val = o + b.val) :
    @Eq EReal (View.ld x (Rect.unit (s := S1x512) ![0, o] ![1, 128] inb) (ix2 0 b)) (x (ix2 0 n)) := by
  refine congrArg x (funext fun a => ?_)
  match a with
  | 0 => exact Fin.ext rfl
  | 1 => exact Fin.ext (by show o + 1 * b.val = n.val; omega)

/-- A load of a branch's weight. -/
theorem ld_b (x : Vec Ideal S3x512x1024 .bf16) (g : Fin 3) (inb) (k : Fin 512) (b : Fin 1024) :
    @Eq EReal (View.ld x (Rect.unit (s := S3x512x1024) ![g.val, 0, 0] ![1, 512, 1024] inb) (ix3 0 k b)) (x (ix3 g k b)) := by
  refine congrArg x (funext fun a => ?_)
  match a with
  | 0 => exact Fin.ext (by show g.val + 1 * 0 = g.val; omega)
  | 1 => exact Fin.ext (by show 0 + 1 * k.val = k.val; omega)
  | 2 => exact Fin.ext (by show 0 + 1 * b.val = b.val; omega)

/-- WHAT A POINT STORES: the branches through their weights, gated, summed, through the output weight, added to the tokens. `v` is the
    pooling branch's input along the whole sequence, of which the point reads its tokens and the sixteen before. -/
theorem out_eq (c : Dev nD) (i : grid0.Coords)
  (arg2 : Memref sig .tc .vmem S1x512x1024 .f32) (harg2 : arg2.IsWhole) (arg3 : Memref sig .tc .vmem S1x512x512 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x16x512 .bf16) (harg6 : arg6.IsWhole) (arg7 : Memref sig .tc .vmem S1x512x1024 .bf16) (harg7 : arg7.IsWhole)
  (arg8 : Memref sig .tc .vmem S1x512x1024 .bf16) (harg8 : arg8.IsWhole) (arg9 : Memref sig .tc .vmem S1x512x1024 .bf16) (harg9 : arg9.IsWhole)
  (arg10 : Memref sig .tc .vmem S4x128x128 .bf16) (harg10 : arg10.IsWhole) (arg11 : Memref sig .tc .vmem S1x512 .f32) (harg11 : arg11.IsWhole)
  (arg12 : Memref sig .tc .vmem S3x512x1024 .bf16) (harg12 : arg12.IsWhole) (arg13 : Memref sig .tc .vmem S1024x1024 .bf16) (harg13 : arg13.IsWhole)
  (arg14 : Memref sig .tc .vmem S1x512x1024 .f32) (harg14 : arg14.IsWhole)
  (x0 : Vec Ideal S1x512x1024 .f32) (x1 x2 x3 : Vec Ideal S1x512x512 .bf16) (x4 : Vec Ideal S1x16x512 .bf16)
  (x5 x6 x7 : Vec Ideal S1x512x1024 .bf16) (x8 : Vec Ideal S4x128x128 .bf16) (x9 : Vec Ideal S1x512 .f32) (x10 : Vec Ideal S3x512x1024 .bf16)
  (x11 : Vec Ideal S1024x1024 .bf16)
  (v : Fin 512 → Fin 4096 → EReal) (f : Fin 512 → EReal) (r : Fin 512) (p : Fin 4096) (hp : p.val = 512 * (i 1).val + r.val)
  (hh : (i 1).val ≠ 0 → ∀ (n : Fin 512) (x : Fin 16), @Eq EReal (x4 (ix3 0 x n)) (padded (v n) (512 * (i 1).val + x.val)))
  (hu : ∀ (n x : Fin 512), @Eq EReal (x3 (ix3 0 x n)) (padded (v n) (512 * (i 1).val + 16 + x.val)))
  (hf : ∀ g x, f (chan g x) = branch v (fun g k x => x8 (ix3 g k x)) (fun n => x9 (ix2 0 n)) p g x)
  (d : Fin 1024) :
    out0_A_12 (F := Ideal) c i arg2 harg2 arg3 harg3 arg4 harg4 arg5 harg5 arg6 harg6 arg7 harg7 arg8 harg8 arg9 harg9 arg10 harg10
        arg11 harg11 arg12 harg12 arg13 harg13 arg14 harg14 x0 x1 x2 x3 x4 x5 x6 x7 x8 x9 x10 x11 (ix3 0 r d)
      = x0 (ix3 0 r d) + ∑ e : Fin 1024, unitOf (x5 (ix3 0 r e)) (x6 (ix3 0 r e)) (x7 (ix3 0 r e)) (fun n => x1 (ix3 0 n r))
          (fun n => x2 (ix3 0 r n)) f (fun n => x10 (ix3 0 n e)) (fun n => x10 (ix3 1 n e)) (fun n => x10 (ix3 2 n e)) * x11 (ix2 e d) := by
  frame_out
  rw [pay1_at]
  refine congrArg (fun z : EReal => x0 (ix3 0 r d) + z) (Finset.sum_congr rfl fun e _ => congrArg (fun z : EReal => z * x11 (ix2 e d)) ?_)
  rw [pay13_at]
  refine congr (congr (congr (congrArg _ (funext fun n => ?_)) (funext fun n => ld_b x10 0 _ n e)) (funext fun n => ld_b x10 1 _ n e))
    (funext fun n => ld_b x10 2 _ n e)
  refine pay10_at i _ _ _ _ _ _ _ r n (fun d => v (chan 3 d)) p hp (fun hz d x => (ld_h x4 384 _ x d (chan 3 d) rfl).trans (hh hz _ x))
    (fun d x => (ld_u x3 384 _ x d (chan 3 d) rfl).trans (hu _ x)) f (fun x => ?_) (fun x => ?_) (fun x => ?_) (fun x => ?_)
  · refine (pay5_at _ _ _ r x).trans ?_
    refine Eq.trans (congrArg₂ (fun x y : EReal => x * y) (Finset.sum_congr rfl fun k _ => congrArg₂ (fun x y : EReal => x * y)
      (pay3_at i _ _ r k (v (chan 0 k)) p hp (fun hz y => (ld_h x4 0 _ y k (chan 0 k) rfl).trans (hh hz _ y))
        (fun y => (ld_u x3 0 _ y k (chan 0 k) rfl).trans (hu _ y))) (ld_p x8 0 _ k x)) (ld_s x9 0 _ x (chan 0 x) rfl)) (hf 0 x).symm
  · refine (pay8_at i _ _ _ _ r x (fun d => v (chan 1 d)) p hp (fun hz d x => (ld_h x4 128 _ x d (chan 1 d) rfl).trans (hh hz _ x))
      (fun d x => (ld_u x3 128 _ x d (chan 1 d) rfl).trans (hu _ x))).trans ?_
    exact (congrArg₂ (fun x y : EReal => x * y) (Finset.sum_congr rfl fun k _ => congrArg (fun z : EReal => _ * z) (ld_p x8 1 _ k x)) (ld_s x9 128 _ x (chan 1 x) rfl)).trans (hf 1 x).symm
  · refine (pay9_at i _ _ _ _ r x (fun d => v (chan 2 d)) p hp (fun hz d x => (ld_h x4 256 _ x d (chan 2 d) rfl).trans (hh hz _ x))
      (fun d x => (ld_u x3 256 _ x d (chan 2 d) rfl).trans (hu _ x))).trans ?_
    exact (congrArg₂ (fun x y : EReal => x * y) (Finset.sum_congr rfl fun k _ => congrArg (fun z : EReal => _ * z) (ld_p x8 2 _ k x)) (ld_s x9 256 _ x (chan 2 x) rfl)).trans (hf 2 x).symm
  · exact (congrArg₂ (fun x y : EReal => x * y) (Finset.sum_congr rfl fun k _ => congrArg (fun z : EReal => _ * z) (ld_p x8 3 _ k x)) (ld_s x9 384 _ x (chan 3 x) rfl)).trans (hf 3 x).symm

end Cert.MergeIdeal.Math

end
-- ==== Proof.MergeArray.lean ====
/- What the merge call leaves in its result array. -/
module

public import proofs.«01_k».proof.Proof.MergeBlock

@[expose] public section

set_option maxRecDepth 16384

noncomputable section

open Idealize.ShloMosaic Idealize.ShloMosaic.TcCoe Idealize.SL.Sem
open Idealize.ShloMosaic.Pipeline (Dat)

namespace Cert.MergeIdeal.Math

open Cert.MergeIdeal Cert.MergeIdeal.Gen Cert.Layer

variable (m : (ℓ : Loc nD τ sig) → Buf (Elt Ideal) ℓ) (c : Dev nD)

/-- The scale the call reads. -/
theorem ps_at (n : Fin 512) : @Eq EReal (V m c main_v1 (ix2 0 n)) (m (c.tc.loc main_arg5) (ix1 n)) := by
  show (shapeCast S1x512 (m (c.tc.loc main_arg5)) shapeCasts_S512_S1x512 : Vec Ideal S1x512 .f32) (ix2 0 n) = _
  pointwise

/-- Which block of every array a grid point works on. -/
theorem idx : ∀ t : Fin grid0.N,
    (win0_0.index t 0 = t.val / 8 ∧ win0_0.index t 1 = t.val % 8 ∧ win0_0.index t 2 = 0) ∧
    (win0_1.index t 0 = t.val / 8 ∧ win0_1.index t 1 = 0 ∧ win0_1.index t 2 = t.val % 8) ∧
    (win0_2.index t 0 = t.val / 8 ∧ win0_2.index t 1 = t.val % 8 ∧ win0_2.index t 2 = 0) ∧
    (win0_3.index t 0 = t.val / 8 ∧ win0_3.index t 1 = t.val % 8 ∧ win0_3.index t 2 = 10) ∧
    (win0_4.index t 0 = t.val / 8 ∧ win0_4.index t 1 = 32 * (t.val % 8) - 1 ∧ win0_4.index t 2 = 10) ∧
    (win0_5.index t 0 = t.val / 8 ∧ win0_5.index t 1 = t.val % 8 ∧ win0_5.index t 2 = 0) ∧
    (win0_6.index t 0 = t.val / 8 ∧ win0_6.index t 1 = t.val % 8 ∧ win0_6.index t 2 = 1) ∧
    (win0_7.index t 0 = t.val / 8 ∧ win0_7.index t 1 = t.val % 8 ∧ win0_7.index t 2 = 2) ∧
    (win0_8.index t 0 = 0 ∧ win0_8.index t 1 = 0 ∧ win0_8.index t 2 = 0) ∧
    (win0_9.index t 0 = 0 ∧ win0_9.index t 1 = 0) ∧
    (win0_10.index t 0 = 0 ∧ win0_10.index t 1 = 0 ∧ win0_10.index t 2 = 0) ∧
    (win0_11.index t 0 = 0 ∧ win0_11.index t 1 = 0) ∧
    (win0_12.index t 0 = t.val / 8 ∧ win0_12.index t 1 = t.val % 8 ∧ win0_12.index t 2 = 0) ∧
    (grid0.coords t 1).val = t.val % 8 ∧ t.val < 32 := by
  decide +kernel

/-- A point's batch. -/
def bAt (t : Fin grid0.N) : Fin 4 := ⟨t.val / 8, by have : t.val < 32 := t.isLt; omega⟩

/-- A row of a point's block, among the tokens. -/
def rAt (t : Fin grid0.N) (r : Fin 512) : Fin 4096 := ⟨t.val % 8 * 512 + r.val, by omega⟩

/-- One of the sixteen tokens before a point's block. -/
def hAt (t : Fin grid0.N) (x : Fin 16) (hz : t.val % 8 ≠ 0) : Fin 4096 := ⟨(32 * (t.val % 8) - 1) * 16 + x.val, by omega⟩

/-- The block of tokens. -/
theorem blk_x (t : Fin grid0.N) (r : Fin 512) (d : Fin 1024) :
    @Eq EReal (iblk m c 0 t (ix3 0 r d)) (m (c.tc.loc main_arg0) (ix3 (bAt t) (rAt t r) d)) := by
  rw [← V_main_arg0 m c]
  unfold bAt rAt
  blk_ext [iblk, idx t]

/-- The block of the first branch, transposed. -/
theorem blk_ya (t : Fin grid0.N) (n r : Fin 512) :
    @Eq EReal (iblk m c 1 t (ix3 0 n r)) (m (c.tc.loc main_arg1) (ix3 (bAt t) n (rAt t r))) := by
  rw [← V_main_arg1 m c]
  unfold bAt rAt
  blk_ext [iblk, idx t]

/-- The block of the second branch. -/
theorem blk_yb (t : Fin grid0.N) (r n : Fin 512) :
    @Eq EReal (iblk m c 2 t (ix3 0 r n)) (m (c.tc.loc main_arg2) (ix3 (bAt t) (rAt t r) n)) := by
  rw [← V_main_arg2 m c]
  unfold bAt rAt
  blk_ext [iblk, idx t]

/-- The block of the pooling channels. -/
theorem blk_u (t : Fin grid0.N) (r n : Fin 512) :
    @Eq EReal (X0_3 m c t (ix3 0 r n)) (m (c.tc.loc main_arg3) (ix3 (bAt t) (rAt t r) (poolCol n))) := by
  rw [← V_main_arg3 m c]
  unfold bAt rAt poolCol
  unfold X0_3 Pipeline.Window.fill
  rw [dif_pos (moved0_3 t _)]
  blk_ext [iblk, idx t]

/-- The block of the gates of branch one. -/
theorem blk_g0 (t : Fin grid0.N) (r : Fin 512) (e : Fin 1024) :
    @Eq EReal (X0_5 m c t (ix3 0 r e)) (m (c.tc.loc main_arg3) (ix3 (bAt t) (rAt t r) (gateCol 0 e))) := by
  rw [← V_main_arg3 m c]
  unfold bAt rAt gateCol
  unfold X0_5 Pipeline.Window.fill
  rw [dif_pos (moved0_5 t _)]
  blk_ext [iblk, idx t]

/-- The block of the gates of branch two. -/
theorem blk_g1 (t : Fin grid0.N) (r : Fin 512) (e : Fin 1024) :
    @Eq EReal (X0_6 m c t (ix3 0 r e)) (m (c.tc.loc main_arg3) (ix3 (bAt t) (rAt t r) (gateCol 1 e))) := by
  rw [← V_main_arg3 m c]
  unfold bAt rAt gateCol
  unfold X0_6 Pipeline.Window.fill
  rw [dif_pos (moved0_6 t _)]
  blk_ext [iblk, idx t]

/-- The block of the gates of branch three. -/
theorem blk_g2 (t : Fin grid0.N) (r : Fin 512) (e : Fin 1024) :
    @Eq EReal (X0_7 m c t (ix3 0 r e)) (m (c.tc.loc main_arg3) (ix3 (bAt t) (rAt t r) (gateCol 2 e))) := by
  rw [← V_main_arg3 m c]
  unfold bAt rAt gateCol
  unfold X0_7 Pipeline.Window.fill
  rw [dif_pos (moved0_7 t _)]
  blk_ext [iblk, idx t]

/-- The sixteen tokens before the block. -/
theorem blk_h (t : Fin grid0.N) (x : Fin 16) (n : Fin 512) (hz : t.val % 8 ≠ 0) :
    @Eq EReal (X0_4 m c t (ix3 0 x n)) (m (c.tc.loc main_arg3) (ix3 (bAt t) (hAt t x hz) (poolCol n))) := by
  rw [← V_main_arg3 m c]
  unfold bAt hAt poolCol
  unfold X0_4 Pipeline.Window.fill
  rw [dif_pos (moved0_4 t _)]
  blk_ext [iblk, idx t]

/-- The groups' weights. -/
theorem blk_wp (t : Fin grid0.N) (g : Fin 4) (k x : Fin 128) :
    @Eq EReal (iblk m c 8 t (ix3 g k x)) (m (c.tc.loc main_arg4) (ix3 g k x)) := by
  have e : @Eq EReal (V m c main_v0 (ix3 g k x)) (m (c.tc.loc main_arg4) (ix3 g k x)) := rfl
  rw [← e]
  blk_ext [iblk, idx t]

/-- The groups' scales. -/
theorem blk_ps (t : Fin grid0.N) (n : Fin 512) :
    @Eq EReal (iblk m c 9 t (ix2 0 n)) (m (c.tc.loc main_arg5) (ix1 n)) := by
  have e : @Eq EReal (V m c main_v1 (ix2 0 n)) (m (c.tc.loc main_arg5) (ix1 n)) := ps_at m c n
  rw [← e]
  blk_ext [iblk, idx t]

/-- The branches' weights. -/
theorem blk_wb (t : Fin grid0.N) (j : Fin 3) (n : Fin 512) (e : Fin 1024) :
    @Eq EReal (iblk m c 10 t (ix3 j n e)) (m (c.tc.loc main_arg6) (ix3 j n e)) := by
  have e : @Eq EReal (V m c main_v2 (ix3 j n e)) (m (c.tc.loc main_arg6) (ix3 j n e)) := rfl
  rw [← e]
  blk_ext [iblk, idx t]

/-- The output weight. -/
theorem blk_wo (t : Fin grid0.N) (e d : Fin 1024) :
    @Eq EReal (iblk m c 11 t (ix2 e d)) (m (c.tc.loc main_arg7) (ix2 e d)) := by
  have e : @Eq EReal (V m c main_v3 (ix2 e d)) (m (c.tc.loc main_arg7) (ix2 e d)) := rfl
  rw [← e]
  blk_ext [iblk, idx t]

/-- A merged entry. -/
def entryOf (x : FVec Ideal S4x4096x1024 .f32) (ya : FVec Ideal S4x512x4096 .bf16) (yb : FVec Ideal S4x4096x512 .bf16) (proj : FVec Ideal S4x4096x5760 .bf16)
    (wp : FVec Ideal S4x128x128 .f32) (ps : FVec Ideal S512 .f32) (wb : FVec Ideal S3x512x1024 .f32) (wo : FVec Ideal S1024x1024 .f32)
    (b : Fin 4) (p : Fin 4096) (d : Fin 1024) : EReal :=
  x (ix3 b p d) + ∑ e : Fin 1024, unitOf (proj (ix3 b p (gateCol 0 e))) (proj (ix3 b p (gateCol 1 e))) (proj (ix3 b p (gateCol 2 e)))
    (fun n => ya (ix3 b n p)) (fun n => yb (ix3 b p n))
    (flat (branch (fun n s => proj (ix3 b s (poolCol n))) (fun g k x => wp (ix3 g k x)) (fun n => ps (ix1 n)) p))
    (fun n => wb (ix3 0 n e)) (fun n => wb (ix3 1 n e)) (fun n => wb (ix3 2 n e)) * wo (ix2 e d)

/-- The merged entry of the call's arguments. -/
def entry (b : Fin 4) (p : Fin 4096) (d : Fin 1024) : EReal :=
  entryOf (m (c.tc.loc main_arg0)) (m (c.tc.loc main_arg1)) (m (c.tc.loc main_arg2)) (m (c.tc.loc main_arg3)) (m (c.tc.loc main_arg4))
    (m (c.tc.loc main_arg5)) (m (c.tc.loc main_arg6)) (m (c.tc.loc main_arg7)) b p d

/-- The merged array. -/
def merged : S4x4096x1024.Idx → EReal := fun i => entry m c (i 0) (i 1) (i 2)

/-- What a point stores, from the arguments. -/
theorem point (t : Fin grid0.N) (r : Fin 512) (d : Fin 1024) : @Eq EReal (outsAt0 m c t (ix3 0 r d)) (entry m c (bAt t) (rAt t r) d) := by
  have hc := (idx t).2.2.2.2.2.2.2.2.2.2.2.2.2.1
  unfold outsAt0
  refine (out_eq c (grid0.coords t) _ _ _ _ _ _ _ _ _ _ _ _ _ _ _ _ _ _ _ _ _ _ _ _ _ _ _ _ _ _ _ _ _ _ _ _ _ _
    (fun n s => m (c.tc.loc main_arg3) (ix3 (bAt t) s (poolCol n)))
    (flat (branch (fun n s => m (c.tc.loc main_arg3) (ix3 (bAt t) s (poolCol n))) (fun g k x => m (c.tc.loc main_arg4) (ix3 g k x))
      (fun n => m (c.tc.loc main_arg5) (ix1 n)) (rAt t r))) r (rAt t r) ?_ ?_ ?_ ?_ d).trans ?_
  · show t.val % 8 * 512 + r.val = _
    omega
  · intro hz n x
    rw [hc] at hz ⊢
    refine (blk_h m c t x n hz).trans ?_
    unfold padded
    rw [dif_pos (by omega)]
    exact congrArg (fun s => m (c.tc.loc main_arg3) (ix3 (bAt t) s (poolCol n))) (Fin.ext (by
      show (32 * (t.val % 8) - 1) * 16 + x.val = 512 * (t.val % 8) + x.val - 16; omega))
  · intro n x
    rw [hc]
    refine (blk_u m c t x n).trans ?_
    unfold padded
    rw [dif_pos (by omega)]
    exact congrArg (fun s => m (c.tc.loc main_arg3) (ix3 (bAt t) s (poolCol n))) (Fin.ext (by
      show t.val % 8 * 512 + x.val = 512 * (t.val % 8) + 16 + x.val - 16; omega))
  · intro g x
    rw [flat_chan]
    unfold branch
    refine congrArg₂ (fun x y : EReal => x * y) (Finset.sum_congr rfl fun k _ => congrArg₂ (fun x y : EReal => x * y) rfl ?_) ?_
    · exact (blk_wp m c t g k x).symm
    · exact (blk_ps m c t (chan g x)).symm
  · refine congrArg₂ (fun x y : EReal => x + y) (blk_x m c t r d) (Finset.sum_congr rfl fun e _ =>
      congrArg₂ (fun x y : EReal => x * y) ?_ (blk_wo m c t e d))
    rw [blk_g0 m c t r e, blk_g1 m c t r e, blk_g2 m c t r e, funext fun n => blk_ya m c t n r, funext fun n => blk_yb m c t r n,
      funext fun n => blk_wb m c t 0 n e, funext fun n => blk_wb m c t 1 n e, funext fun n => blk_wb m c t 2 n e]

/-- THE RESULT ARRAY is the merged array. -/
theorem final : (dats m 0 c).arrAt 12 (cfgs 0).N = merged m c := by
  refine (dats m 0 c).arrAt_eq_of_covers 12 _ (by decide +kernel) fun t _ y => ?_
  blk_simp
  rw [after0_12]
  show outsAt0 m c t y = _
  obtain ⟨z, r, d, rfl⟩ : ∃ z r d, y = ix3 z r d := ⟨y 0, y 1, y 2, by idx_vars y⟩
  obtain rfl : z = 0 := Subsingleton.elim _ _
  refine (point m c t r d).trans ?_
  have e0 : (win0_12.blk t).view.emb (ix3 0 r d) 0 = bAt t := Fin.ext (by blk_simp [bAt, idx t] <;> rfl)
  have e1 : (win0_12.blk t).view.emb (ix3 0 r d) 1 = rAt t r := Fin.ext (by blk_simp [rAt, idx t] <;> try omega)
  have e2 : (win0_12.blk t).view.emb (ix3 0 r d) 2 = d := Fin.ext (by blk_simp [idx t] <;> try omega)
  unfold merged
  rw [e0, e1, e2]

end Cert.MergeIdeal.Math

end
-- ==== Proof.MergeReference.lean ====
/- The reference of the merge, read at an index. -/
module

public import proofs.«01_k».proof.Proof.Gen.MergedIdeal.Run
public import Idealize.ShloMosaic.Lib.Pipeline.ValueKit
public import Idealize.ShloMosaic.Lib.Pointwise
public import proofs.«01_k».proof.Proof.MergeSpec

@[expose] public section

set_option maxRecDepth 16384

noncomputable section

open Idealize.ShloMosaic Idealize.ShloMosaic.TcCoe Idealize.SL.Sem

namespace Cert.MergedIdeal.Math

open Cert.MergedIdeal Cert.MergedIdeal.Gen Cert.Layer

variable (x0 : FVec Ideal S4x4096x1024 .f32) (x1 : FVec Ideal S4x512x4096 .bf16) (x2 : FVec Ideal S4x4096x512 .bf16) (x3 : FVec Ideal S4x4096x5760 .bf16)
  (x4 : FVec Ideal S4x128x128 .f32) (x5 : FVec Ideal S512 .f32) (x6 : FVec Ideal S3x512x1024 .f32) (x7 : FVec Ideal S1024x1024 .f32)
  (b : Fin 4) (p : Fin 4096)

/-- A left fold of additions is the start plus the sum. -/
theorem foldl_sum {N : ℕ} (f : Fin N → EReal) (a : EReal) : (List.finRange N).foldl (fun r n => r + f n) a = a + ∑ n, f n := by
  rw [Fin.sum_univ_def]
  generalize List.finRange N = l
  induction l generalizing a with
  | nil => simp
  | cons n l ih => rw [List.foldl_cons, ih, List.map_cons, List.sum_cons, add_assoc]

/-- The sum over a window of `l + 1` tokens that ends at token `p`, the tokens before the first standing as zero. -/
theorem window_at (l : ℕ) (hl : l ≤ 16) (h : S4x4096x1x128.ReduceWindows ![1, l + 1, 1, 1] ![1, 1, 1, 1] ![0, l, 0, 0] ![0, 0, 0, 0] S4x4096x1x128)
    (u : FVec Ideal S4x4096x1x128 .f32) (z : FVec Ideal S_ .f32) (hz : z (Shape.Idx.first h_S_) = (0 : EReal)) (k : Fin 128) :
    Host.reduceWindowAdd ![1, l + 1, 1, 1] ![1, 1, 1, 1] ![0, l, 0, 0] ![0, 0, 0, 0] u z h h_S_ (ix4 b p 0 k)
      = ∑ j ∈ Finset.range (l + 1), padded (fun s => u (ix4 b s 0 k)) (p.val + 17 - (l + 1) + j) := by
  show Ideal.hostReduceWindowAdd ![1, l + 1, 1, 1] ![1, 1, 1, 1] ![0, l, 0, 0] ![0, 0, 0, 0] h u (z (Shape.Idx.first h_S_)) (ix4 b p 0 k) = _
  rw [hz]
  unfold Ideal.hostReduceWindowAdd Host.reduceWindow
  rw [foldl_sum, zero_add]
  refine (Finset.sum_congr rfl fun n _ => ?_).trans ((Equiv.sum_comp (Shape.rowMajor (⟨4, ![1, l + 1, 1, 1]⟩ : Shape)).symm
    (fun q : (⟨4, ![1, l + 1, 1, 1]⟩ : Shape).Idx => padded (fun s => u (ix4 b s 0 k)) (p.val + 17 - (l + 1) + (q 1).val))).trans ?_)
  · change _ = padded (fun s => u (ix4 b s 0 k)) (p.val + 17 - (l + 1) + ((Shape.rowMajor (⟨S4x4096x1x128.rank, ![1, l + 1, 1, 1]⟩ : Shape)).symm n 1).val)
    let q : (⟨4, ![1, l + 1, 1, 1]⟩ : Shape).Idx := (Shape.rowMajor (⟨4, ![1, l + 1, 1, 1]⟩ : Shape)).symm n
    change _ = padded (fun s => u (ix4 b s 0 k)) (p.val + 17 - (l + 1) + (q 1).val)
    have h0 : (q 0).val = 0 := Nat.lt_one_iff.mp (q 0).isLt
    have h1 : (q 1).val < l + 1 := (q 1).isLt
    have h2 : (q 2).val = 0 := Nat.lt_one_iff.mp (q 2).isLt
    have h3 : (q 3).val = 0 := Nat.lt_one_iff.mp (q 3).isLt
    have hp := p.isLt
    by_cases hc : l ≤ p.val + (q 1).val
    · rw [dif_pos (by
        intro a
        fin_cases a
        · exact ⟨Nat.zero_le _, by show b.val * 1 + (q 0).val - 0 < 4; omega⟩
        · exact ⟨by show l ≤ p.val * 1 + (q 1).val; omega, by show p.val * 1 + (q 1).val - l < 4096; omega⟩
        · exact ⟨Nat.zero_le _, by show 0 * 1 + (q 2).val - 0 < 1; omega⟩
        · exact ⟨Nat.zero_le _, by show k.val * 1 + (q 3).val - 0 < 128; omega⟩), padded, dif_pos ⟨by omega, by omega⟩]
      refine congrArg u (funext fun a => Fin.ext ?_)
      fin_cases a
      · show b.val * 1 + (q 0).val - 0 = b.val; omega
      · show p.val * 1 + (q 1).val - l = p.val + 17 - (l + 1) + (q 1).val - 16; omega
      · show 0 * 1 + (q 2).val - 0 = 0; omega
      · show k.val * 1 + (q 3).val - 0 = k.val; omega
    · rw [dif_neg (fun hin => hc (by have : l ≤ p.val * 1 + (q 1).val := (hin 1).1; omega)), padded, dif_neg (by omega)]
  · rw [sum_idx4, Finset.sum_range]
    simp only [Fin.sum_univ_one]
    rfl

/-- The pooling channels, by group. -/
def groups : FVec Ideal S4x4096x4x128 .f32 :=
  shapeCast S4x4096x4x128 (extf .f32 (extractStridedSlice S4x4096x512 ![0, 0, 5120] x3 slices_S4x4096x5760_S4x4096x512_0_0_5120) bitsLt_bf16_f32) shapeCasts_S4x4096x512_S4x4096x4x128

/-- A pooling channel, by group, is the column of the projection that holds it. -/
theorem groups_at (g : Fin 4) (k : Fin 128) : groups x3 (ix4 b p g k) = x3 (ix3 b p (poolCol (chan g k))) := by
  pointwise [groups]
  exact congrArg (fun n => x3 (ix3 b p n)) (Fin.ext (by show 5120 + (g.val * 128 + k.val) = 5120 + (128 * g.val + k.val); omega))

/-- The first group's window sums. -/
def sum0 (u : FVec Ideal S4x4096x4x128 .f32) : FVec Ideal S4x4096x1x128 .f32 :=
  Host.reduceWindowAdd ![1, 2, 1, 1] ![1, 1, 1, 1] ![0, 1, 0, 0] ![0, 0, 0, 0] (extractStridedSlice S4x4096x1x128 ![0, 0, 0, 0] u slices_S4x4096x4x128_S4x4096x1x128_0_0_0_0) (broadcastInDim S_ ![] bcast_S_S_ (constant (F := Ideal) S_ .f32 0x00000000#32)) reduceWindows_S4x4096x1x128_S4x4096x1x128_w1s1p0_0_w2s1p1_0_w1s1p0_0_w1s1p0_0 h_S_

/-- A group's window sum at a token adds the tokens of the window. -/
theorem sum0_at (u : FVec Ideal S4x4096x4x128 .f32) (k : Fin 128) :
    sum0 u (ix4 b p 0 k) = ∑ j ∈ Finset.range (win 0), padded (fun s => u (ix4 b s 0 k)) (p.val + 17 - win 0 + j) := by
  refine (window_at b p 1 (by decide) reduceWindows_S4x4096x1x128_S4x4096x1x128_w1s1p0_0_w2s1p1_0_w1s1p0_0_w1s1p0_0 _
    (broadcastInDim S_ ![] bcast_S_S_ (constant (F := Ideal) S_ .f32 0x00000000#32)) Ideal.ofBits_zero_f32 k).trans
    (Finset.sum_congr rfl fun j _ => congrArg (fun v => padded v _) (funext fun s => ?_))
  pointwise []

/-- The second group's window sums. -/
def sum1 (u : FVec Ideal S4x4096x4x128 .f32) : FVec Ideal S4x4096x1x128 .f32 :=
  Host.reduceWindowAdd ![1, 4, 1, 1] ![1, 1, 1, 1] ![0, 3, 0, 0] ![0, 0, 0, 0] (extractStridedSlice S4x4096x1x128 ![0, 0, 1, 0] u slices_S4x4096x4x128_S4x4096x1x128_0_0_1_0) (broadcastInDim S_ ![] bcast_S_S_ (constant (F := Ideal) S_ .f32 0x00000000#32)) reduceWindows_S4x4096x1x128_S4x4096x1x128_w1s1p0_0_w4s1p3_0_w1s1p0_0_w1s1p0_0 h_S_

/-- A group's window sum at a token adds the tokens of the window. -/
theorem sum1_at (u : FVec Ideal S4x4096x4x128 .f32) (k : Fin 128) :
    sum1 u (ix4 b p 0 k) = ∑ j ∈ Finset.range (win 1), padded (fun s => u (ix4 b s 1 k)) (p.val + 17 - win 1 + j) := by
  refine (window_at b p 3 (by decide) reduceWindows_S4x4096x1x128_S4x4096x1x128_w1s1p0_0_w4s1p3_0_w1s1p0_0_w1s1p0_0 _
    (broadcastInDim S_ ![] bcast_S_S_ (constant (F := Ideal) S_ .f32 0x00000000#32)) Ideal.ofBits_zero_f32 k).trans
    (Finset.sum_congr rfl fun j _ => congrArg (fun v => padded v _) (funext fun s => ?_))
  pointwise []

/-- The third group's window sums. -/
def sum2 (u : FVec Ideal S4x4096x4x128 .f32) : FVec Ideal S4x4096x1x128 .f32 :=
  Host.reduceWindowAdd ![1, 8, 1, 1] ![1, 1, 1, 1] ![0, 7, 0, 0] ![0, 0, 0, 0] (extractStridedSlice S4x4096x1x128 ![0, 0, 2, 0] u slices_S4x4096x4x128_S4x4096x1x128_0_0_2_0) (broadcastInDim S_ ![] bcast_S_S_ (constant (F := Ideal) S_ .f32 0x00000000#32)) reduceWindows_S4x4096x1x128_S4x4096x1x128_w1s1p0_0_w8s1p7_0_w1s1p0_0_w1s1p0_0 h_S_

/-- A group's window sum at a token adds the tokens of the window. -/
theorem sum2_at (u : FVec Ideal S4x4096x4x128 .f32) (k : Fin 128) :
    sum2 u (ix4 b p 0 k) = ∑ j ∈ Finset.range (win 2), padded (fun s => u (ix4 b s 2 k)) (p.val + 17 - win 2 + j) := by
  refine (window_at b p 7 (by decide) reduceWindows_S4x4096x1x128_S4x4096x1x128_w1s1p0_0_w8s1p7_0_w1s1p0_0_w1s1p0_0 _
    (broadcastInDim S_ ![] bcast_S_S_ (constant (F := Ideal) S_ .f32 0x00000000#32)) Ideal.ofBits_zero_f32 k).trans
    (Finset.sum_congr rfl fun j _ => congrArg (fun v => padded v _) (funext fun s => ?_))
  pointwise []

/-- The fourth group's window sums. -/
def sum3 (u : FVec Ideal S4x4096x4x128 .f32) : FVec Ideal S4x4096x1x128 .f32 :=
  Host.reduceWindowAdd ![1, 16, 1, 1] ![1, 1, 1, 1] ![0, 15, 0, 0] ![0, 0, 0, 0] (extractStridedSlice S4x4096x1x128 ![0, 0, 3, 0] u slices_S4x4096x4x128_S4x4096x1x128_0_0_3_0) (broadcastInDim S_ ![] bcast_S_S_ (constant (F := Ideal) S_ .f32 0x00000000#32)) reduceWindows_S4x4096x1x128_S4x4096x1x128_w1s1p0_0_w16s1p15_0_w1s1p0_0_w1s1p0_0 h_S_

/-- A group's window sum at a token adds the tokens of the window. -/
theorem sum3_at (u : FVec Ideal S4x4096x4x128 .f32) (k : Fin 128) :
    sum3 u (ix4 b p 0 k) = ∑ j ∈ Finset.range (win 3), padded (fun s => u (ix4 b s 3 k)) (p.val + 17 - win 3 + j) := by
  refine (window_at b p 15 (by decide) reduceWindows_S4x4096x1x128_S4x4096x1x128_w1s1p0_0_w16s1p15_0_w1s1p0_0_w1s1p0_0 _
    (broadcastInDim S_ ![] bcast_S_S_ (constant (F := Ideal) S_ .f32 0x00000000#32)) Ideal.ofBits_zero_f32 k).trans
    (Finset.sum_congr rfl fun j _ => congrArg (fun v => padded v _) (funext fun s => ?_))
  pointwise []

/-- The four groups side by side. -/
def stack4 (y0 y1 y2 y3 : FVec Ideal S4x4096x1x128 .f32) : FVec Ideal S4x4096x4x128 .f32 :=
  ((concatenate S4x4096x4x128 2 [⟨S4x4096x1x128, (y0 : (⟨S4x4096x1x128, .f32⟩ : BufTy).Contents (Elt Ideal))⟩, ⟨S4x4096x1x128, (y1 : (⟨S4x4096x1x128, .f32⟩ : BufTy).Contents (Elt Ideal))⟩, ⟨S4x4096x1x128, (y2 : (⟨S4x4096x1x128, .f32⟩ : BufTy).Contents (Elt Ideal))⟩, ⟨S4x4096x1x128, (y3 : (⟨S4x4096x1x128, .f32⟩ : BufTy).Contents (Elt Ideal))⟩] concatenates_S4x4096x1x128_S4x4096x1x128_S4x4096x1x128_S4x4096x1x128_S4x4096x4x128_d2 : (⟨S4x4096x4x128, .f32⟩ : BufTy).Contents (Elt Ideal)))

/-- The groups side by side, read in one group. -/
theorem stack4_at0 (y0 y1 y2 y3 : FVec Ideal S4x4096x1x128 .f32) (k : Fin 128) : stack4 y0 y1 y2 y3 (ix4 b p 0 k) = y0 (ix4 b p 0 k) := by
  pointwise [stack4]

/-- The groups side by side, read in one group. -/
theorem stack4_at1 (y0 y1 y2 y3 : FVec Ideal S4x4096x1x128 .f32) (k : Fin 128) : stack4 y0 y1 y2 y3 (ix4 b p 1 k) = y1 (ix4 b p 0 k) := by
  pointwise [stack4]

/-- The groups side by side, read in one group. -/
theorem stack4_at2 (y0 y1 y2 y3 : FVec Ideal S4x4096x1x128 .f32) (k : Fin 128) : stack4 y0 y1 y2 y3 (ix4 b p 2 k) = y2 (ix4 b p 0 k) := by
  pointwise [stack4]

/-- The groups side by side, read in one group. -/
theorem stack4_at3 (y0 y1 y2 y3 : FVec Ideal S4x4096x1x128 .f32) (k : Fin 128) : stack4 y0 y1 y2 y3 (ix4 b p 3 k) = y3 (ix4 b p 0 k) := by
  pointwise [stack4]

/-- The windows' lengths. -/
def lengths : FVec Ideal S4x4096x4x128 .f32 :=
  broadcastInDim S4x4096x4x128 ![0, 1, 2, 3] bcast_S1x4096x4x1_S4x4096x4x128_0_1_2_3 (broadcastInDim S1x4096x4x1 ![1, 2] bcast_S4096x4_S1x4096x4x1_1_2 (minimumf (broadcastInDim S4096x4 ![0, 1] bcast_S4096x1_S4096x4_0_1 (broadcastInDim S4096x1 ![0] bcast_S4096_S4096x1_0 (sitofp (F := Ideal) .f32 (addi (broadcastInDim S4096 ![] bcast_S_S4096 (constantI S_ 32 1#32)) (iotaInDim S4096 32 0))))) (broadcastInDim S4096x4 ![0, 1] bcast_S1x4_S4096x4_0_1 (broadcastInDim S1x4 ![1] bcast_S4_S1x4_1 ((fun i => FloatOps.ofBits (F := Ideal) .f32 (lit0 (S4.rowMajor i))))))))

/-- A window's length is the number of tokens so far, at most the window. -/
theorem lengths_at (g : Fin 4) (k : Fin 128) : lengths (ix4 b p g k) = min (((p.val + 1 : ℕ) : ℝ) : EReal) (cap g) := by
  pointwise [lengths]
  refine congrArg₂ (fun x y : EReal => min x y) ?_ ?_
  · have hp := p.isLt
    have hn : (IntOp.addi 1#32 (BitVec.ofNat 32 p.val)).toNat = p.val + 1 := by
      show (1#32 + BitVec.ofNat 32 p.val).toNat = _
      rw [BitVec.toNat_add, BitVec.toNat_ofNat, BitVec.toNat_ofNat]; omega
    show (((IntOp.addi 1#32 (BitVec.ofNat 32 p.val)).toInt : ℝ) : EReal) = _
    rw [BitVec.toInt_eq_toNat_of_lt (by rw [hn]; omega), hn]
    norm_cast
  · have e : S4.rowMajor (ix1 g) = g := by fin_cases g <;> rfl
    rw [e]
    fin_cases g <;> rfl

/-- The trailing means minus the token. -/
def pooling (u : FVec Ideal S4x4096x4x128 .f32) : FVec Ideal S4x4096x4x128 .f32 :=
  subf (Host.divf (stack4 (sum0 u) (sum1 u) (sum2 u) (sum3 u)) lengths) u

/-- A pooled entry: the trailing mean minus the token. -/
theorem pooling_at (u : FVec Ideal S4x4096x4x128 .f32) (g : Fin 4) (k : Fin 128) :
    pooling u (ix4 b p g k) = pooled (win g) (cap g) (fun s => u (ix4 b s g k)) p := by
  pointwise [pooling]
  rw [lengths_at]
  fin_cases g
  · exact congrArg (fun z : EReal => Ideal.div z _ - _) ((stack4_at0 ..).trans (sum0_at ..))
  · exact congrArg (fun z : EReal => Ideal.div z _ - _) ((stack4_at1 ..).trans (sum1_at ..))
  · exact congrArg (fun z : EReal => Ideal.div z _ - _) ((stack4_at2 ..).trans (sum2_at ..))
  · exact congrArg (fun z : EReal => Ideal.div z _ - _) ((stack4_at3 ..).trans (sum3_at ..))

/-- The pooling branch, from its pooled groups. -/
def branchOf (z : FVec Ideal S4x4096x4x128 .f32) (x4 : FVec Ideal S4x128x128 .f32) (x5 : FVec Ideal S512 .f32) : FVec Ideal S4x4096x512 .f32 :=
  mulf (shapeCast S4x4096x512 (transpose S4x4096x4x128 [2, 3, 0, 1] (Host.dotGeneral dot_S4x128x128_S4x4096x4x128_S4x128x4x4096_1_3_2_01_0_2 none x4 z) transposes_S4x128x4x4096_S4x4096x4x128_2_3_0_1) shapeCasts_S4x4096x4x128_S4x4096x512) (broadcastInDim S4x4096x512 ![0, 1, 2] bcast_S1x1x512_S4x4096x512_0_1_2 (broadcastInDim S1x1x512 ![2] bcast_S512_S1x1x512_2 x5))

/-- The pooling branch at a channel of a group. -/
theorem branchOf_at (z : FVec Ideal S4x4096x4x128 .f32) (g : Fin 4) (x : Fin 128) :
    branchOf z x4 x5 (ix3 b p (chan g x)) = (∑ k : Fin 128, z (ix4 b p g k) * x4 (ix3 g k x)) * x5 (ix1 (chan g x)) := by
  pointwise [branchOf]
  refine congrArg (fun z : EReal => z * x5 (ix1 (chan g x))) (Finset.sum_congr rfl fun k _ => ?_)
  have hg : (⟨(chan g x).val / 128, by omega⟩ : Fin 4) = g := Fin.ext (by show (128 * g.val + x.val) / 128 = g.val; omega)
  have hx : (⟨(chan g x).val % 128, by omega⟩ : Fin 128) = x := Fin.ext (by show (128 * g.val + x.val) % 128 = x.val; omega)
  rw [hg, hx]
  exact mul_comm ..

/-- The three branches side by side. -/
def stack3 (y0 y1 y2 : FVec Ideal S4x4096x512 .f32) : FVec Ideal S4x4096x3x512 .f32 :=
  ((concatenate S4x4096x3x512 2 [⟨S4x4096x1x512, ((broadcastInDim S4x4096x1x512 ![0, 1, 3] bcast_S4x4096x512_S4x4096x1x512_0_1_3 y0) : (⟨S4x4096x1x512, .f32⟩ : BufTy).Contents (Elt Ideal))⟩, ⟨S4x4096x1x512, ((broadcastInDim S4x4096x1x512 ![0, 1, 3] bcast_S4x4096x512_S4x4096x1x512_0_1_3 y1) : (⟨S4x4096x1x512, .f32⟩ : BufTy).Contents (Elt Ideal))⟩, ⟨S4x4096x1x512, ((broadcastInDim S4x4096x1x512 ![0, 1, 3] bcast_S4x4096x512_S4x4096x1x512_0_1_3 y2) : (⟨S4x4096x1x512, .f32⟩ : BufTy).Contents (Elt Ideal))⟩] concatenates_S4x4096x1x512_S4x4096x1x512_S4x4096x1x512_S4x4096x3x512_d2 : (⟨S4x4096x3x512, .f32⟩ : BufTy).Contents (Elt Ideal)))

/-- The branches side by side, read in one branch. -/
theorem stack3_at0 (y0 y1 y2 : FVec Ideal S4x4096x512 .f32) (n : Fin 512) : stack3 y0 y1 y2 (ix4 b p 0 n) = y0 (ix3 b p n) := by
  pointwise [stack3]

/-- The branches side by side, read in one branch. -/
theorem stack3_at1 (y0 y1 y2 : FVec Ideal S4x4096x512 .f32) (n : Fin 512) : stack3 y0 y1 y2 (ix4 b p 1 n) = y1 (ix3 b p n) := by
  pointwise [stack3]

/-- The branches side by side, read in one branch. -/
theorem stack3_at2 (y0 y1 y2 : FVec Ideal S4x4096x512 .f32) (n : Fin 512) : stack3 y0 y1 y2 (ix4 b p 2 n) = y2 (ix3 b p n) := by
  pointwise [stack3]

/-- The gates. -/
def gates : FVec Ideal S4x4096x3x1024 .f32 :=
  Host.divf (broadcastInDim S4x4096x3x1024 ![] bcast_S_S4x4096x3x1024 (constant (F := Ideal) S_ .f32 0x3F800000#32)) (addf (broadcastInDim S4x4096x3x1024 ![] bcast_S_S4x4096x3x1024 (constant (F := Ideal) S_ .f32 0x3F800000#32)) (Host.exp (Host.negf (shapeCast S4x4096x3x1024 (extf .f32 (extractStridedSlice S4x4096x3072 ![0, 0, 0] x3 slices_S4x4096x5760_S4x4096x3072_0_0_0) bitsLt_bf16_f32) shapeCasts_S4x4096x3072_S4x4096x3x1024))))

/-- A gate is the logistic function of its column. -/
theorem gates_at (j : Fin 3) (e : Fin 1024) : gates x3 (ix4 b p j e) = Ideal.logistic (x3 (ix3 b p (gateCol j e))) := by
  pointwise [gates]
  have h : (⟨j.val * 1024 + e.val, by omega⟩ : Fin 5760) = gateCol j e := Fin.ext (by show j.val * 1024 + e.val = 1024 * j.val + e.val; omega)
  rw [h]
  rfl

/-- The branches through their weights. -/
def wide (y : FVec Ideal S4x4096x3x512 .f32) (x6 : FVec Ideal S3x512x1024 .f32) : FVec Ideal S4x4096x3x1024 .f32 :=
  transpose S4x4096x3x1024 [2, 3, 0, 1] (Host.dotGeneral dot_S3x512x1024_S4x4096x3x512_S3x1024x4x4096_1_3_2_01_0_2 none x6 y) transposes_S3x1024x4x4096_S4x4096x3x1024_2_3_0_1

/-- A branch at a unit of the width. -/
theorem wide_at (y : FVec Ideal S4x4096x3x512 .f32) (j : Fin 3) (e : Fin 1024) :
    wide y x6 (ix4 b p j e) = ∑ n : Fin 512, y (ix4 b p j n) * x6 (ix3 j n e) := by
  pointwise [wide]
  exact Finset.sum_congr rfl fun n _ => mul_comm ..

/-- The result, from the gates and the branches. -/
def mergedOf (g y : FVec Ideal S4x4096x3x1024 .f32) (x0 : FVec Ideal S4x4096x1024 .f32) (x7 : FVec Ideal S1024x1024 .f32) : FVec Ideal S4x4096x1024 .f32 :=
  addf x0 (Host.dotGeneral dot_S4x4096x1024_S1024x1024_S4x4096x1024_2_0_01_1_n_n none (Host.reduceAdd (mulf g y) (constant (F := Ideal) S_ .f32 0x00000000#32) reducesTo_S4x4096x3x1024_S4x4096x1024_d2 h_S_) x7)

/-- The result at a token and a channel, from the gates and the branches. -/
theorem mergedOf_at (g y : FVec Ideal S4x4096x3x1024 .f32) (d : Fin 1024) :
    mergedOf g y x0 x7 (ix3 b p d) = x0 (ix3 b p d)
      + ∑ e : Fin 1024, (g (ix4 b p 0 e) * y (ix4 b p 0 e) + g (ix4 b p 1 e) * y (ix4 b p 1 e) + g (ix4 b p 2 e) * y (ix4 b p 2 e)) * x7 (ix2 e d) := by
  pointwise [mergedOf]
  refine congrArg (fun z : EReal => x0 (ix3 b p d) + z) (Finset.sum_congr rfl fun e _ => ?_)
  rw [Fin.sum_univ_three]

/-- The result. -/
def res : FVec Ideal S4x4096x1024 .f32 := mergedOf (gates x3) (wide (stack3 (transpose S4x4096x512 [0, 2, 1] (extf .f32 x1 bitsLt_bf16_f32) transposes_S4x512x4096_S4x4096x512_0_2_1) (extf .f32 x2 bitsLt_bf16_f32) (branchOf (pooling (groups x3)) x4 x5)) x6) x0 x7

/-- The pooling branch at a channel. -/
theorem pooled_branch_at (n : Fin 512) : branchOf (pooling (groups x3)) x4 x5 (ix3 b p n)
    = flat (branch (fun n s => x3 (ix3 b s (poolCol n))) (fun g k x => x4 (ix3 g k x)) (fun n => x5 (ix1 n)) p) n := by
  obtain ⟨g, x, rfl⟩ := exists_chan n
  rw [branchOf_at, flat_chan]
  refine congrArg (fun z : EReal => z * x5 (ix1 (chan g x))) (Finset.sum_congr rfl fun k _ => ?_)
  refine congrArg (fun z : EReal => z * x4 (ix3 g k x)) ?_
  rw [pooling_at]
  exact congrArg (fun u => pooled (win g) (cap g) u p) (funext fun s => groups_at x3 b s g k)

/-- The result, read at a token and a channel. -/
theorem res_at (d : Fin 1024) : res x0 x1 x2 x3 x4 x5 x6 x7 (ix3 b p d) = x0 (ix3 b p d) + ∑ e : Fin 1024,
    unitOf (x3 (ix3 b p (gateCol 0 e))) (x3 (ix3 b p (gateCol 1 e))) (x3 (ix3 b p (gateCol 2 e)))
      (fun n => x1 (ix3 b n p)) (fun n => x2 (ix3 b p n))
      (flat (branch (fun n s => x3 (ix3 b s (poolCol n))) (fun g k x => x4 (ix3 g k x)) (fun n => x5 (ix1 n)) p))
      (fun n => x6 (ix3 0 n e)) (fun n => x6 (ix3 1 n e)) (fun n => x6 (ix3 2 n e)) * x7 (ix2 e d) := by
  refine (mergedOf_at ..).trans (congrArg (fun z : EReal => x0 (ix3 b p d) + z) (Finset.sum_congr rfl fun e _ => ?_))
  refine congrArg (fun z : EReal => z * x7 (ix2 e d)) ?_
  unfold unitOf
  refine congrArg₂ (fun y z : EReal => y + z) (congrArg₂ (fun y z : EReal => y + z) ?_ ?_) ?_ <;>
    refine congrArg₂ (fun y z : EReal => y * z) (gates_at ..) ((wide_at ..).trans (Finset.sum_congr rfl fun n _ =>
      congrArg₂ (fun y z : EReal => y * z) ?_ rfl))
  · refine (stack3_at0 ..).trans ?_
    pointwise []
  · refine (stack3_at1 ..).trans ?_
    pointwise []
  · exact (stack3_at2 ..).trans (pooled_branch_at ..)

end Cert.MergedIdeal.Math

end
-- ==== Proof.Merge.lean ====
/- The merge call's claims: the reference's frame, and equal results. -/
module

public import proofs.«01_k».proof.Defs
public import proofs.«01_k».proof.Proof.Gen.MergeIdeal.Value
public import proofs.«01_k».proof.Proof.Gen.MergedIdeal.Run
public import proofs.«01_k».proof.Proof.MergeArray
public import proofs.«01_k».proof.Proof.MergeReference
public import Idealize.ShloMosaic.Lib.Pointwise
public import Idealize.ShloMosaic.Adequacy

@[expose] public section

set_option maxRecDepth 16384

noncomputable section

open Idealize.ShloMosaic Idealize.ShloMosaic.TcCoe Idealize.SL.Sem

namespace Cert.Merge.Math

/-- The reference of the merge runs, keeps its arguments, and holds no semaphore. -/
theorem reference_frame (m : (ℓ : Loc Cert.MergedIdeal.nD Cert.MergedIdeal.τ Cert.MergedIdeal.sig) → Buf (Elt Ideal) ℓ)
    (g : Dev Cert.MergedIdeal.nD → PrngReg) :
    θ_run (Cert.MergedIdeal.defs (F := Ideal)) (onTc (τ := Cert.MergedIdeal.τ) (Cert.MergedIdeal.main (F := Ideal)))
      ⟨m, fun _ => 0, g⟩ (fun r => (∀ c : Dev Cert.MergedIdeal.nD,
        r.2.mem (c.tc.loc Cert.MergedIdeal.main_arg0) = m (c.tc.loc Cert.MergedIdeal.main_arg0)
        ∧ r.2.mem (c.tc.loc Cert.MergedIdeal.main_arg1) = m (c.tc.loc Cert.MergedIdeal.main_arg1)
        ∧ r.2.mem (c.tc.loc Cert.MergedIdeal.main_arg2) = m (c.tc.loc Cert.MergedIdeal.main_arg2)
        ∧ r.2.mem (c.tc.loc Cert.MergedIdeal.main_arg3) = m (c.tc.loc Cert.MergedIdeal.main_arg3)
        ∧ r.2.mem (c.tc.loc Cert.MergedIdeal.main_arg4) = m (c.tc.loc Cert.MergedIdeal.main_arg4)
        ∧ r.2.mem (c.tc.loc Cert.MergedIdeal.main_arg5) = m (c.tc.loc Cert.MergedIdeal.main_arg5)
        ∧ r.2.mem (c.tc.loc Cert.MergedIdeal.main_arg6) = m (c.tc.loc Cert.MergedIdeal.main_arg6)
        ∧ r.2.mem (c.tc.loc Cert.MergedIdeal.main_arg7) = m (c.tc.loc Cert.MergedIdeal.main_arg7)) ∧ r.2.sem = fun _ => 0) :=
  (θ_run Cert.MergedIdeal.defs _ _).mono
    (fun r h => ⟨fun c => (h c).2, Idealize.ShloMosaic.sem_eq_zero_of_no_sems (by decide) r.2⟩)
    (Cert.MergedIdeal.Value.run (F := Ideal) m g)

/-- The merge call and its reference leave equal results. -/
theorem algebraic : Cert.algebraic_MergeIdeal_MergedIdeal (hMergeIdeal := Cert.MergeIdeal.Gen.facts)
    (hMergedIdeal := Cert.MergedIdeal.Gen.facts) := by
  intro m g m' g' _ hargs
  refine ⟨fun c => Cert.MergeIdeal.Math.merged m c, ?_, ?_⟩
  · exact (θ_run Cert.MergeIdeal.defs _ _).mono (fun r h c => ⟨(h c).1.trans (Cert.MergeIdeal.Math.final m c), (h c).2⟩)
      (Cert.MergeIdeal.Value.run_blocks m g)
  · refine (θ_run Cert.MergedIdeal.defs _ _).mono (fun r h c => ⟨(h c).1.trans ?_, (h c).2⟩) (Cert.MergedIdeal.Value.run (F := Ideal) m' g')
    obtain ⟨a0, a1, a2, a3, a4, a5, a6, a7⟩ := hargs c
    funext i
    idx_vars i
    refine (Cert.MergedIdeal.Math.res_at (m' (c.tc.loc Cert.MergedIdeal.main_arg0)) (m' (c.tc.loc Cert.MergedIdeal.main_arg1)) (m' (c.tc.loc Cert.MergedIdeal.main_arg2)) (m' (c.tc.loc Cert.MergedIdeal.main_arg3))
      (m' (c.tc.loc Cert.MergedIdeal.main_arg4)) (m' (c.tc.loc Cert.MergedIdeal.main_arg5)) (m' (c.tc.loc Cert.MergedIdeal.main_arg6)) (m' (c.tc.loc Cert.MergedIdeal.main_arg7)) _ _ _).trans ?_
    rw [a0, a1, a2, a3, a4, a5, a6, a7]
    rfl

end Cert.Merge.Math

end
-- ==== Proof.PrepSpec.lean ====
/- What the call that prepares queries, keys and values computes from, over the extended reals: normalised latents, normalised heads, the rotation of a head's last features. -/
module

public import Idealize.ShloMosaic.Lib.Pointwise

@[expose] public section

set_option maxRecDepth 16384

noncomputable section

open Idealize.ShloMosaic

namespace Cert.Layer

/-- A latent row `x` divided by its root mean square (the mean offset by the program's word for 1e-6), times the gain `g`. -/
def latent (x g : Fin 256 → EReal) (d : Fin 256) : EReal :=
  x d * Ideal.rsqrt (Ideal.div (∑ k : Fin 256, x k * x k) (Ideal.ofBits .f32 0x43800000#32) + Ideal.ofBits .f32 0x358637BD#32) * g d

/-- A feature of a row of weights applied to a normalised latent row. -/
def feature (x g w : Fin 256 → EReal) : EReal := ∑ k : Fin 256, w k * latent x g k

/-- The reciprocal root mean square of a head's features. -/
def headRms (q : Fin 96 → EReal) : EReal :=
  Ideal.rsqrt (Ideal.div (∑ k : Fin 96, q k * q k) (Ideal.ofBits .f32 0x42C00000#32) + Ideal.ofBits .f32 0x358637BD#32)

/-- The frequency of a pair of rotated features. -/
def freq (j : Fin 16) : EReal :=
  Ideal.pow (Ideal.ofBits .f32 0x461C4000#32) (Ideal.div (-FloatOps.sitofp (F := Ideal) .f32 (BitVec.ofNat 32 j.val)) (Ideal.ofBits .f32 0x41800000#32))

/-- The angle of a position for a frequency. -/
def angle (p : BitVec 32) (j : Fin 16) : EReal := FloatOps.sitofp (F := Ideal) .f32 p * freq j

/-- A head's features with the last thirty-two rotated by the angles whose cosines are `c` and sines `s`, then zeros. -/
def rotated (n : Fin 96 → EReal) (c s : Fin 16 → EReal) (d : Fin 128) : EReal :=
  if h : d.val < 64 then n ⟨d.val, by omega⟩
  else
    if h : d.val - 64 < 16 then
      n ⟨64 + (d.val - 64), by omega⟩ * c ⟨d.val - 64, h⟩ - n ⟨64 + (16 + (d.val - 64)), by omega⟩ * s ⟨d.val - 64, h⟩
    else
      if h : d.val - 64 - 16 < 16 then
        n ⟨64 + (16 + (d.val - 64 - 16)), by omega⟩ * c ⟨d.val - 64 - 16, h⟩ + n ⟨64 + (d.val - 64 - 16), by omega⟩ * s ⟨d.val - 64 - 16, h⟩
      else 0

/-- A head's value features, then a one and zeros. -/
def valued (v : Fin 64 → EReal) (d : Fin 80) : EReal :=
  if h : d.val < 64 then v ⟨d.val, h⟩ else if d.val = 64 then 1 else 0

end Cert.Layer

end
-- ==== Proof.PrepBlock.lean ====
/- What one grid point of the preparing call computes for a head. -/
module

public import proofs.«01_k».proof.Proof.Gen.PrepIdeal.Value
public import Idealize.ShloMosaic.Lib.Pipeline.ValueKit
public import Idealize.ShloMosaic.Lib.Pointwise
public import proofs.«01_k».proof.Proof.PrepSpec

@[expose] public section

set_option maxRecDepth 16384

noncomputable section

open Idealize.ShloMosaic Idealize.ShloMosaic.TcCoe Idealize.SL.Sem

namespace Cert.PrepIdeal.Math

open Cert.PrepIdeal Cert.PrepIdeal.Gen Cert.Layer

/-- What a point stores for one head's queries, from the head's features. -/
def headQ (v351 : FVec Ideal S96x512 .f32) (v8 v9 : FVec Ideal S16x512 .f32) (v61 : FVec Ideal S96x1 .f32) (v64 : FVec Ideal S32x512 .f32) : FVec Ideal S1x1x128x512 .bf16 :=
  have v352 : FVec Ideal S96x512 .f32 := mulf v351 v351
  have v353 : FVec Ideal S512 .f32 := multiReduction .add [0] S512 v352 0x00000000#32 reduces_S96x512_S512 (.inl rfl) rfl
  have v354 : FVec Ideal S1x512 .f32 := shapeCast S1x512 v353 shapeCasts_S512_S1x512
  have cst_114 : Ideal .f32 := Scalar.ofBits (F := Ideal) .f32 0x42C00000#32
  have v355 : FVec Ideal S1x512 .f32 := broadcast S1x512 cst_114
  have v356 : FVec Ideal S1x512 .f32 := divf v354 v355
  have cst_115 : Ideal .f32 := Scalar.ofBits (F := Ideal) .f32 0x358637BD#32
  have v357 : FVec Ideal S1x512 .f32 := broadcast S1x512 cst_115
  have v358 : FVec Ideal S1x512 .f32 := addf v356 v357
  have v359 : FVec Ideal S1x512 .f32 := rsqrt v358
  have v360 : FVec Ideal S96x512 .f32 := broadcastTo S96x512 v359 broadcasts_S1x512_S96x512
  have v361 : FVec Ideal S96x512 .f32 := mulf v351 v360
  have cst_116 : Ideal .f32 := Named.named (F := Ideal) κ "scale" 0x3E16C740#32
  have v362 : FVec Ideal S96x1 .f32 := broadcast S96x1 cst_116
  have v363 : FVec Ideal S96x1 .f32 := mulf v61 v362
  have v364 : FVec Ideal S96x512 .f32 := broadcastTo S96x512 v363 broadcasts_S96x1_S96x512
  have v365 : FVec Ideal S96x512 .f32 := mulf v361 v364
  have v366 : FVec Ideal S32x512 .f32 := extractStridedSlice S32x512 ![64, 0] v365 slices_S96x512_o64_0_S32x512
  have v367 : FVec Ideal S16x512 .f32 := extractStridedSlice S16x512 ![0, 0] v366 slices_S32x512_o0_0_S16x512
  have v368 : FVec Ideal S16x512 .f32 := extractStridedSlice S16x512 ![16, 0] v366 slices_S32x512_o16_0_S16x512
  have v369 : FVec Ideal S16x512 .f32 := mulf v367 v8
  have v370 : FVec Ideal S16x512 .f32 := mulf v368 v9
  have v371 : FVec Ideal S16x512 .f32 := subf v369 v370
  have v372 : FVec Ideal S16x512 .f32 := mulf v368 v8
  have v373 : FVec Ideal S16x512 .f32 := mulf v367 v9
  have v374 : FVec Ideal S16x512 .f32 := addf v372 v373
  have v375 : FVec Ideal S64x512 .f32 := extractStridedSlice S64x512 ![0, 0] v365 slices_S96x512_o0_0_S64x512
  have v376 : FVec Ideal S128x512 .f32 := concatenate S128x512 0 [⟨S64x512, v375⟩, ⟨S16x512, v371⟩, ⟨S16x512, v374⟩, ⟨S32x512, v64⟩] concatenates_S64x512_S16x512_S16x512_S32x512_S128x512_d0
  have v377 : FVec Ideal S128x512 .bf16 := truncf .bf16 v376 bitsLt_bf16_f32
  have v380 : FVec Ideal S1x1x128x512 .bf16 := shapeCast S1x1x128x512 v377 shapeCasts_S128x512_S1x1x128x512
  v380

/-- What a point stores for one head's keys, from the head's own features. -/
def headK (v311 : FVec Ideal S64x512 .f32) (v8 v9 : FVec Ideal S16x512 .f32) (v56 : FVec Ideal S32x512 .f32) (v59 : FVec Ideal S1x512 .f32) (v63 : FVec Ideal S96x1 .f32) (v64 : FVec Ideal S32x512 .f32) : FVec Ideal S1x1x512x128 .bf16 :=
  have v312 : FVec Ideal S64x512 .f32 := mulf v311 v311
  have v313 : FVec Ideal S512 .f32 := multiReduction .add [0] S512 v312 0x00000000#32 reduces_S64x512_S512 (.inl rfl) rfl
  have v314 : FVec Ideal S1x512 .f32 := shapeCast S1x512 v313 shapeCasts_S512_S1x512
  have v315 : FVec Ideal S1x512 .f32 := addf v314 v59
  have cst_102 : Ideal .f32 := Named.named (F := Ideal) κ "inv_features" 0x3C2AAAAB#32
  have v316 : FVec Ideal S1x512 .f32 := broadcast S1x512 cst_102
  have v317 : FVec Ideal S1x512 .f32 := mulf v315 v316
  have cst_103 : Ideal .f32 := Scalar.ofBits (F := Ideal) .f32 0x358637BD#32
  have v318 : FVec Ideal S1x512 .f32 := broadcast S1x512 cst_103
  have v319 : FVec Ideal S1x512 .f32 := addf v317 v318
  have v320 : FVec Ideal S1x512 .f32 := rsqrt v319
  have v321 : FVec Ideal S32x512 .f32 := broadcastTo S32x512 v320 broadcasts_S1x512_S32x512
  have v322 : FVec Ideal S32x512 .f32 := mulf v56 v321
  have v323 : FVec Ideal S32x1 .f32 := extractStridedSlice S32x1 ![64, 0] v63 slices_S96x1_o64_0_S32x1
  have v324 : FVec Ideal S32x512 .f32 := broadcastTo S32x512 v323 broadcasts_S32x1_S32x512
  have v325 : FVec Ideal S32x512 .f32 := mulf v322 v324
  have v326 : FVec Ideal S16x512 .f32 := extractStridedSlice S16x512 ![0, 0] v325 slices_S32x512_o0_0_S16x512
  have v327 : FVec Ideal S16x512 .f32 := extractStridedSlice S16x512 ![16, 0] v325 slices_S32x512_o16_0_S16x512
  have v328 : FVec Ideal S16x512 .f32 := mulf v326 v8
  have v329 : FVec Ideal S16x512 .f32 := mulf v327 v9
  have v330 : FVec Ideal S16x512 .f32 := subf v328 v329
  have v331 : FVec Ideal S16x512 .f32 := mulf v327 v8
  have v332 : FVec Ideal S16x512 .f32 := mulf v326 v9
  have v333 : FVec Ideal S16x512 .f32 := addf v331 v332
  have v334 : FVec Ideal S64x512 .f32 := broadcastTo S64x512 v320 broadcasts_S1x512_S64x512
  have v335 : FVec Ideal S64x512 .f32 := mulf v311 v334
  have v336 : FVec Ideal S64x1 .f32 := extractStridedSlice S64x1 ![0, 0] v63 slices_S96x1_o0_0_S64x1
  have v337 : FVec Ideal S64x512 .f32 := broadcastTo S64x512 v336 broadcasts_S64x1_S64x512
  have v338 : FVec Ideal S64x512 .f32 := mulf v335 v337
  have v339 : FVec Ideal S128x512 .f32 := concatenate S128x512 0 [⟨S64x512, v338⟩, ⟨S16x512, v330⟩, ⟨S16x512, v333⟩, ⟨S32x512, v64⟩] concatenates_S64x512_S16x512_S16x512_S32x512_S128x512_d0
  have v340 : FVec Ideal S512x128 .f32 := transpose S512x128 [1, 0] v339 transposes_S128x512_p1_0_S512x128
  have v341 : FVec Ideal S512x128 .bf16 := truncf .bf16 v340 bitsLt_bf16_f32
  have v344 : FVec Ideal S1x1x512x128 .bf16 := shapeCast S1x1x512x128 v341 shapeCasts_S512x128_S1x1x512x128
  v344

/-- What a point stores for one head's values, from the head's features. -/
def headV (v135 : FVec Ideal S64x512 .f32) (v70 : FVec Ideal S16x512 .f32) : FVec Ideal S1x1x1x80x512 .bf16 :=
  have v136 : FVec Ideal S80x512 .f32 := concatenate S80x512 0 [⟨S64x512, v135⟩, ⟨S16x512, v70⟩] concatenates_S64x512_S16x512_S80x512_d0
  have v137 : FVec Ideal S80x512 .bf16 := truncf .bf16 v136 bitsLt_bf16_f32
  have v140 : FVec Ideal S1x1x1x80x512 .bf16 := shapeCast S1x1x1x80x512 v137 shapeCasts_S80x512_S1x1x1x80x512
  v140

/-- A head's stored query. -/
theorem headQ_at (q : FVec Ideal S96x512 .f32) (c s : FVec Ideal S16x512 .f32) (g : FVec Ideal S96x1 .f32) (d : Fin 128) (r : Fin 512) :
    headQ q c s g k0_pay15 (ix4 0 0 d r) = rotated (fun k => q (ix2 k r) * headRms (fun k => q (ix2 k r)) * (g (ix2 k 0) * Named.named (F := Ideal) κ "scale" (φ := .f32) 0x3E16C740#32))
      (fun j => c (ix2 j r)) (fun j => s (ix2 j r)) d := by
  pointwise [headQ, k0_pay15, rotated, headRms]

/-- A head's stored key. -/
theorem headK_at (kn : FVec Ideal S64x512 .f32) (c s : FVec Ideal S16x512 .f32) (kr : FVec Ideal S32x512 .f32) (ss : FVec Ideal S1x512 .f32) (g : FVec Ideal S96x1 .f32) (d : Fin 128) (r : Fin 512) :
    headK kn c s kr ss g k0_pay15 (ix4 0 0 r d) = rotated (fun k => (if h : k.val < 64 then kn (ix2 ⟨k.val, h⟩ r) else kr (ix2 ⟨k.val - 64, by omega⟩ r)) *
      Ideal.rsqrt (((∑ k : Fin 64, kn (ix2 k r) * kn (ix2 k r)) + ss (ix2 0 r)) * Named.named (F := Ideal) κ "inv_features" (φ := .f32) 0x3C2AAAAB#32 + Ideal.ofBits .f32 0x358637BD#32) * g (ix2 k 0))
      (fun j => c (ix2 j r)) (fun j => s (ix2 j r)) d := by
  pointwise [headK, k0_pay15, rotated]
  have e1 : ∀ x, ¬ 64 + x < 64 := fun x => by omega
  have e2 : ∀ x, 64 + x - 64 = x := fun x => by omega
  refine dite_congr rfl (fun h => ?_) (fun h => rfl)
  rw [dif_pos h]

/-- A head's stored value. -/
theorem headV_at (v : FVec Ideal S64x512 .f32) (d : Fin 80) (r : Fin 512) :
    headV v k0_pay16 (ix5 0 0 0 d r) = valued (fun k => v (ix2 k r)) d := by
  pointwise [headV, k0_pay16, valued]
  have hd := d.isLt
  by_cases h : d.val < 64
  · rw [dif_pos h, dif_pos h]
  · rw [dif_neg h, dif_neg h]
    have e : ∀ k : Fin 16, (Scalar.select (IntOp.cmpi CmpIPredicate.eq (BitVec.ofNat 32 k.val) 0#32) 1 0 : EReal) = if k.val = 0 then 1 else 0 := by
      intro k
      fin_cases k <;> rfl
    refine (e ⟨d.val - 64, by omega⟩).trans ?_
    by_cases h0 : d.val = 64
    · rw [if_pos h0, if_pos (by show d.val - 64 = 0; omega)]
    · rw [if_neg h0, if_neg (by show ¬ d.val - 64 = 0; omega)]

/-- The angles' cosines. -/
theorem pay4_at (f : Vec Ideal S16x1 .f32) (p : Vec Ideal S1x1x512 .i32) (j : Fin 16) (r : Fin 512) :
    k0_pay4 (F := Ideal) f p (ix2 j r) = Ideal.cos (f (ix2 j 0) * FloatOps.sitofp (F := Ideal) FTy.f32 (p (ix3 0 0 r))) := by
  pointwise [k0_pay4, k0_pay3]

/-- The angles' sines. -/
theorem pay5_at (f : Vec Ideal S16x1 .f32) (p : Vec Ideal S1x1x512 .i32) (j : Fin 16) (r : Fin 512) :
    k0_pay5 (F := Ideal) f p (ix2 j r) = Ideal.sin (f (ix2 j 0) * FloatOps.sitofp (F := Ideal) FTy.f32 (p (ix3 0 0 r))) := by
  pointwise [k0_pay5, k0_pay3]

/-- A normalised latent. -/
theorem pay6_at (x : Vec Ideal S1x512x256 .bf16) (g : Vec Ideal S1x256 .f32) (r : Fin 512) (d : Fin 256) :
    k0_pay6 (F := Ideal) x g (ix2 r d) = latent (fun k => x (ix3 0 r k)) (fun k => g (ix2 0 k)) d := by
  pointwise [k0_pay6, latent]

/-- The queries' features. -/
theorem pay9_at (h : FVec Ideal S512x256 .bf16) (w : Vec Ideal S768x256 .bf16) (n : Fin 768) (r : Fin 512) :
    k0_pay9 (F := Ideal) h w (ix2 n r) = ∑ k : Fin 256, w (ix2 n k) * h (ix2 r k) := by
  pointwise [k0_pay9]

/-- The features of keys and values. -/
theorem pay10_at (x : Vec Ideal S1x512x256 .bf16) (g : Vec Ideal S1x256 .f32) (w : Vec Ideal S1024x256 .bf16) (n : Fin 1024) (r : Fin 512) :
    k0_pay10 (F := Ideal) (k0_pay7 x) (k0_pay8 x) g w (ix2 n r) = feature (fun k => x (ix3 0 r k)) (fun k => g (ix2 0 k)) (fun k => w (ix2 n k)) := by
  pointwise [k0_pay10, k0_pay7, k0_pay8, feature, latent]

/-- The shared rotary key. -/
theorem pay11_at (x : Vec Ideal S1x512x128 .bf16) (j : Fin 32) (r : Fin 512) :
    k0_pay11 (F := Ideal) x (ix2 j r) = x (ix3 0 r ⟨j.val, by omega⟩) := by
  pointwise [k0_pay11]

/-- Its squares' sum. -/
theorem pay12_at (x : Vec Ideal S1x512x128 .bf16) (r : Fin 512) :
    k0_pay12 (F := Ideal) x (ix2 0 r) = ∑ j : Fin 32, x (ix3 0 r ⟨j.val, by omega⟩) * x (ix3 0 r ⟨j.val, by omega⟩) := by
  pointwise [k0_pay12, k0_pay11]

/-- A gain, as it is read. -/
theorem pay13_at (x : Vec Ideal S96x1 .f32) (k : Fin 96) : k0_pay13 (F := Ideal) x (ix2 k 0) = x (ix2 k 0) := by
  pointwise [k0_pay13]

/-- A gain, as it is read. -/
theorem pay14_at (x : Vec Ideal S96x1 .f32) (k : Fin 96) : k0_pay14 (F := Ideal) x (ix2 k 0) = x (ix2 k 0) := by
  pointwise [k0_pay14]

end Cert.PrepIdeal.Math

end
-- ==== Proof.PrepHeads.lean ====
/- Every head's stored query, key and value is the same function of the head's features. -/
module

public import proofs.«01_k».proof.Proof.PrepBlock

@[expose] public section

set_option maxRecDepth 16384

noncomputable section

open Idealize.ShloMosaic Idealize.ShloMosaic.TcCoe Idealize.SL.Sem

namespace Cert.PrepIdeal.Math

open Cert.PrepIdeal Cert.PrepIdeal.Gen Cert.Layer

variable (v8 v9 : FVec Ideal S16x512 .f32) (v27 : FVec Ideal S512x256 .bf16) (v46 : Vec Ideal S768x256 .bf16) (v48 : FVec Ideal S768x512 .f32) (v51 : FVec Ideal S1024x512 .f32)
  (v56 : FVec Ideal S32x512 .f32) (v59 : FVec Ideal S1x512 .f32) (v61 v63 : FVec Ideal S96x1 .f32) (v64 : FVec Ideal S32x512 .f32) (v70 : FVec Ideal S16x512 .f32)

/-- The first head's query. -/
theorem q0 : k0_pay19 (F := Ideal) v8 v9 v61 v64 (k0_pay17 (F := Ideal) v27 v46) (k0_pay18 (F := Ideal) v27 v46) = headQ (extractStridedSlice S96x512 ![0, 0] (k0_pay9 (F := Ideal) v27 v46) slices_S768x512_o0_0_S96x512) v8 v9 v61 v64 := rfl

/-- The first head's key. -/
theorem k0 : k0_pay29 (F := Ideal) v64 (k0_pay25 (F := Ideal) v8 v9 v51 v56 v59 v63) (k0_pay26 (F := Ideal) v8 v9 v51 v56 v59 v63) (k0_pay27 (F := Ideal) v51 v59) (k0_pay28 (F := Ideal) v63) = headK (extractStridedSlice S64x512 ![0, 0] v51 slices_S1024x512_o0_0_S64x512) v8 v9 v56 v59 v63 v64 := rfl

/-- The first head's value. -/
theorem v0 : k0_pay30 (F := Ideal) v51 v70 = headV (extractStridedSlice S64x512 ![64, 0] v51 slices_S1024x512_o64_0_S64x512) v70 := rfl

/-- The second head's query. -/
theorem q1 : k0_pay32 (F := Ideal) (k0_pay31 (F := Ideal) v8 v9 v48 v61 v64) = headQ (extractStridedSlice S96x512 ![96, 0] v48 slices_S768x512_o96_0_S96x512) v8 v9 v61 v64 := rfl

/-- The second head's key. -/
theorem k1 : k0_pay33 (F := Ideal) v8 v9 v51 v56 v59 v63 v64 = headK (extractStridedSlice S64x512 ![128, 0] v51 slices_S1024x512_o128_0_S64x512) v8 v9 v56 v59 v63 v64 := rfl

/-- The second head's value. -/
theorem v1 : k0_pay34 (F := Ideal) v51 v70 = headV (extractStridedSlice S64x512 ![192, 0] v51 slices_S1024x512_o192_0_S64x512) v70 := rfl

/-- The third head's query. -/
theorem q2 : k0_pay37 (F := Ideal) v8 v9 v61 v64 (k0_pay35 (F := Ideal) v48) (k0_pay36 (F := Ideal) v48) = headQ (extractStridedSlice S96x512 ![192, 0] v48 slices_S768x512_o192_0_S96x512) v8 v9 v61 v64 := rfl

/-- The third head's key. -/
theorem k2 : k0_pay44 (F := Ideal) v8 v9 v63 v64 (k0_pay38 (F := Ideal) v51) (k0_pay39 (F := Ideal) v51 v59) (k0_pay41 (F := Ideal) v51 v56 v59 v63) (k0_pay42 (F := Ideal) v51 v56 v59 v63) (k0_pay43 (F := Ideal) v8 v9 v51 v56 v59 v63) = headK (extractStridedSlice S64x512 ![256, 0] v51 slices_S1024x512_o256_0_S64x512) v8 v9 v56 v59 v63 v64 := rfl

/-- The third head's value. -/
theorem v2 : k0_pay45 (F := Ideal) v51 v70 = headV (extractStridedSlice S64x512 ![320, 0] v51 slices_S1024x512_o320_0_S64x512) v70 := rfl

/-- The fourth head's query. -/
theorem q3 : k0_pay53 (F := Ideal) v64 (k0_pay50 (F := Ideal) v8 v9 v48 v61) (k0_pay51 (F := Ideal) v8 v9 v48 v61) (k0_pay52 (F := Ideal) v48 v61) = headQ (extractStridedSlice S96x512 ![288, 0] v48 slices_S768x512_o288_0_S96x512) v8 v9 v61 v64 := rfl

/-- The fourth head's key. -/
theorem k3 : k0_pay54 (F := Ideal) v8 v9 v51 v56 v59 v63 v64 = headK (extractStridedSlice S64x512 ![384, 0] v51 slices_S1024x512_o384_0_S64x512) v8 v9 v56 v59 v63 v64 := rfl

/-- The fourth head's value. -/
theorem v3 : k0_pay56 (F := Ideal) (k0_pay55 (F := Ideal) v51 v70) = headV (extractStridedSlice S64x512 ![448, 0] v51 slices_S1024x512_o448_0_S64x512) v70 := rfl

/-- The fifth head's query. -/
theorem q4 : k0_pay57 (F := Ideal) v8 v9 v48 v61 v64 = headQ (extractStridedSlice S96x512 ![384, 0] v48 slices_S768x512_o384_0_S96x512) v8 v9 v61 v64 := rfl

/-- The fifth head's key. -/
theorem k4 : k0_pay62 (F := Ideal) v8 v9 v63 v64 (k0_pay58 (F := Ideal) v51) (k0_pay59 (F := Ideal) v51 v59) (k0_pay60 (F := Ideal) v51 v56 v59) (k0_pay61 (F := Ideal) v63) = headK (extractStridedSlice S64x512 ![512, 0] v51 slices_S1024x512_o512_0_S64x512) v8 v9 v56 v59 v63 v64 := rfl

/-- The fifth head's value. -/
theorem v4 : k0_pay63 (F := Ideal) v51 v70 = headV (extractStridedSlice S64x512 ![576, 0] v51 slices_S1024x512_o576_0_S64x512) v70 := rfl

/-- The sixth head's query. -/
theorem q5 : k0_pay69 (F := Ideal) v8 v9 v64 (k0_pay64 (F := Ideal) v48 v61) (k0_pay66 (F := Ideal) v48 v61) (k0_pay67 (F := Ideal) v48 v61) (k0_pay68 (F := Ideal) v8 v48 v61) = headQ (extractStridedSlice S96x512 ![480, 0] v48 slices_S768x512_o480_0_S96x512) v8 v9 v61 v64 := rfl

/-- The sixth head's key. -/
theorem k5 : k0_pay70 (F := Ideal) v8 v9 v51 v56 v59 v63 v64 = headK (extractStridedSlice S64x512 ![640, 0] v51 slices_S1024x512_o640_0_S64x512) v8 v9 v56 v59 v63 v64 := rfl

/-- The sixth head's value. -/
theorem v5 : k0_pay72 (F := Ideal) (k0_pay71 (F := Ideal) v51 v70) = headV (extractStridedSlice S64x512 ![704, 0] v51 slices_S1024x512_o704_0_S64x512) v70 := rfl

/-- The seventh head's query. -/
theorem q6 : k0_pay73 (F := Ideal) v8 v9 v48 v61 v64 = headQ (extractStridedSlice S96x512 ![576, 0] v48 slices_S768x512_o576_0_S96x512) v8 v9 v61 v64 := rfl

/-- The seventh head's key. -/
theorem k6 : k0_pay77 (F := Ideal) v8 v9 v56 v63 v64 (k0_pay74 (F := Ideal) v51) (k0_pay75 (F := Ideal) v51 v59) (k0_pay76 (F := Ideal)) = headK (extractStridedSlice S64x512 ![768, 0] v51 slices_S1024x512_o768_0_S64x512) v8 v9 v56 v59 v63 v64 := rfl

/-- The seventh head's value. -/
theorem v6 : k0_pay78 (F := Ideal) v51 v70 = headV (extractStridedSlice S64x512 ![832, 0] v51 slices_S1024x512_o832_0_S64x512) v70 := rfl

/-- The eighth head's query. -/
theorem q7 : k0_pay81 (F := Ideal) v8 v9 v64 (k0_pay79 (F := Ideal) v48) (k0_pay80 (F := Ideal) v61) = headQ (extractStridedSlice S96x512 ![672, 0] v48 slices_S768x512_o672_0_S96x512) v8 v9 v61 v64 := rfl

/-- The eighth head's key. -/
theorem k7 : k0_pay1 (F := Ideal) (k0_pay82 (F := Ideal) v8 v9 v51 v56 v59 v63 v64) = headK (extractStridedSlice S64x512 ![896, 0] v51 slices_S1024x512_o896_0_S64x512) v8 v9 v56 v59 v63 v64 := rfl

/-- The eighth head's value. -/
theorem v7 : k0_pay2 (F := Ideal) v51 v70 = headV (extractStridedSlice S64x512 ![960, 0] v51 slices_S1024x512_o960_0_S64x512) v70 := rfl

/-- A stretch of rows reads the rows moved by the offset. -/
theorem rows_at {R r0 : ℕ} (v : FVec Ideal ⟨2, ![R, 512]⟩ .f32) (o : ℕ) (hs : Shape.Slices ⟨2, ![R, 512]⟩ ![o, 0] ⟨2, ![r0, 512]⟩) (k : Fin r0) (r : Fin 512) (n : Fin R)
    (e : n.val = o + k.val) : extractStridedSlice ⟨2, ![r0, 512]⟩ ![o, 0] v hs (ix2 k r) = v (ix2 n r) := by
  refine congrArg v (funext fun a => ?_)
  match a with
  | 0 => exact Fin.ext (by show o + k.val = n.val; omega)
  | 1 => exact Fin.ext (by show 0 + r.val = r.val; omega)

/-- A head's stored query, from its features. -/
def query (q : Fin 96 → EReal) (g : Fin 96 → EReal) (c s : Fin 16 → EReal) (d : Fin 128) : EReal :=
  rotated (fun k => q k * headRms q * (g k * Named.named (F := Ideal) κ "scale" (φ := .f32) 0x3E16C740#32)) c s d

/-- A head's stored key, from its own features and the shared ones. -/
def key (kn : Fin 64 → EReal) (kr : Fin 32 → EReal) (g : Fin 96 → EReal) (c s : Fin 16 → EReal) (d : Fin 128) : EReal :=
  rotated (fun k => (if h : k.val < 64 then kn ⟨k.val, h⟩ else kr ⟨k.val - 64, by omega⟩) *
    Ideal.rsqrt (((∑ k : Fin 64, kn k * kn k) + ∑ k : Fin 32, kr k * kr k) * Named.named (F := Ideal) κ "inv_features" (φ := .f32) 0x3C2AAAAB#32 + Ideal.ofBits .f32 0x358637BD#32) * g k) c s d

/-- A head's stored query, in the block. -/
theorem headQ_eq (v : FVec Ideal S768x512 .f32) (o : ℕ) (hs : S768x512.Slices ![o, 0] S96x512) (h : Fin 8) (e : o = 96 * h.val) (d : Fin 128) (r : Fin 512) :
    headQ (extractStridedSlice S96x512 ![o, 0] v hs) v8 v9 v61 k0_pay15 (ix4 0 0 d r)
      = query (fun k => v (ix2 ⟨h.val * 96 + k.val, by omega⟩ r)) (fun k => v61 (ix2 k 0)) (fun j => v8 (ix2 j r)) (fun j => v9 (ix2 j r)) d := by
  have e' : ∀ k : Fin 96, extractStridedSlice S96x512 ![o, 0] v hs (ix2 k r) = v (ix2 ⟨h.val * 96 + k.val, by omega⟩ r) :=
    fun k => rows_at v o hs k r _ (by show h.val * 96 + k.val = o + k.val; omega)
  rw [headQ_at]
  simp only [e']
  rfl

/-- A head's stored key, in the block. -/
theorem headK_eq (v : FVec Ideal S1024x512 .f32) (o : ℕ) (hs : S1024x512.Slices ![o, 0] S64x512) (h : Fin 8) (e : o = 128 * h.val) (x3 : Vec Ideal S1x512x128 .bf16) (d : Fin 128) (r : Fin 512) :
    headK (extractStridedSlice S64x512 ![o, 0] v hs) v8 v9 (k0_pay11 (F := Ideal) x3) (k0_pay12 (F := Ideal) x3) v63 k0_pay15 (ix4 0 0 r d)
      = key (fun k => v (ix2 ⟨h.val * 128 + k.val, by omega⟩ r)) (fun k => x3 (ix3 0 r ⟨k.val, by omega⟩)) (fun k => v63 (ix2 k 0)) (fun j => v8 (ix2 j r)) (fun j => v9 (ix2 j r)) d := by
  have e' : ∀ k : Fin 64, extractStridedSlice S64x512 ![o, 0] v hs (ix2 k r) = v (ix2 ⟨h.val * 128 + k.val, by omega⟩ r) :=
    fun k => rows_at v o hs k r _ (by show h.val * 128 + k.val = o + k.val; omega)
  rw [headK_at]
  simp only [e', pay11_at, pay12_at]
  rfl

/-- A head's stored value, in the block. -/
theorem headV_eq (v : FVec Ideal S1024x512 .f32) (o : ℕ) (hs : S1024x512.Slices ![o, 0] S64x512) (h : Fin 8) (e : o = 128 * h.val + 64) (d : Fin 80) (r : Fin 512) :
    headV (extractStridedSlice S64x512 ![o, 0] v hs) k0_pay16 (ix5 0 0 0 d r) = valued (fun k => v (ix2 ⟨h.val * 128 + (64 + k.val), by omega⟩ r)) d := by
  have e' : ∀ k : Fin 64, extractStridedSlice S64x512 ![o, 0] v hs (ix2 k r) = v (ix2 ⟨h.val * 128 + (64 + k.val), by omega⟩ r) :=
    fun k => rows_at v o hs k r _ (by show h.val * 128 + (64 + k.val) = o + k.val; omega)
  rw [headV_at]
  simp only [e']

end Cert.PrepIdeal.Math

end
-- ==== Proof.PrepStored.lean ====
/- What one grid point of the preparing call stores. -/
module

public import proofs.«01_k».proof.Proof.PrepHeads

@[expose] public section

set_option maxRecDepth 16384

noncomputable section

open Idealize.ShloMosaic Idealize.ShloMosaic.TcCoe Idealize.SL.Sem

namespace Cert.PrepIdeal.Math

open Cert.PrepIdeal Cert.PrepIdeal.Gen Cert.Layer

/-- WHAT A POINT STORES for the queries. -/
theorem out_q (c : Dev nD) (i : grid0.Coords)
  (arg2 : Memref sig .tc .vmem S1x1x512 .i32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x128 .bf16) (harg5 : arg5.IsWhole)
  (arg6 : Memref sig .tc .vmem S1x256 .f32) (harg6 : arg6.IsWhole) (arg7 : Memref sig .tc .vmem S768x256 .bf16) (harg7 : arg7.IsWhole)
  (arg8 : Memref sig .tc .vmem S1x256 .f32) (harg8 : arg8.IsWhole) (arg9 : Memref sig .tc .vmem S1024x256 .bf16) (harg9 : arg9.IsWhole)
  (arg10 : Memref sig .tc .vmem S96x1 .f32) (harg10 : arg10.IsWhole) (arg11 : Memref sig .tc .vmem S96x1 .f32) (harg11 : arg11.IsWhole)
  (arg12 : Memref sig .tc .vmem S16x1 .f32) (harg12 : arg12.IsWhole) (arg13 : Memref sig .tc .vmem S1x8x128x512 .bf16) (harg13 : arg13.IsWhole)
  (arg14 : Memref sig .tc .vmem S1x8x512x128 .bf16) (harg14 : arg14.IsWhole) (arg15 : Memref sig .tc .vmem S1x8x1x80x512 .bf16) (harg15 : arg15.IsWhole)
  (x0 : Vec Ideal S1x1x512 .i32) (x1 : Vec Ideal S1x512x256 .bf16) (x2 : Vec Ideal S1x512x256 .bf16) (x3 : Vec Ideal S1x512x128 .bf16)
  (x4 : Vec Ideal S1x256 .f32) (x5 : Vec Ideal S768x256 .bf16) (x6 : Vec Ideal S1x256 .f32) (x7 : Vec Ideal S1024x256 .bf16)
  (x8 : Vec Ideal S96x1 .f32) (x9 : Vec Ideal S96x1 .f32) (x10 : Vec Ideal S16x1 .f32)
  (h : Fin 8) (d : Fin 128) (r : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix4 0 h d r)
      = query (fun k => k0_pay9 (F := Ideal) (k0_pay6 (F := Ideal) x1 x4) x5 (ix2 ⟨h.val * 96 + k.val, by omega⟩ r)) (fun k => k0_pay13 (F := Ideal) x8 (ix2 k 0)) (fun j => k0_pay4 (F := Ideal) x10 x0 (ix2 j r)) (fun j => k0_pay5 (F := Ideal) x10 x0 (ix2 j r)) d := by
  generalize hy : (ix4 0 h d r : S1x8x128x512.Idx) = y
  frame_out
  canon_tiles x h'
  all_goals obtain ⟨a, b, d', r', rfl⟩ : ∃ a b d' r', x = ix4 a b d' r' := ⟨x 0, x 1, x 2, x 3, by idx_vars x⟩
  all_goals subst hy
  all_goals obtain rfl : a = 0 := Subsingleton.elim _ _
  all_goals obtain rfl : b = 0 := Subsingleton.elim _ _
  all_goals obtain rfl : d = d' := Fin.ext (by simpa using h'2)
  all_goals obtain rfl : r = r' := Fin.ext (by simpa using h'3)
  · exact (congrFun (q7 ..) _).trans (headQ_eq _ _ _ _ _ _ h (by have e : h.val = 7 := h'1; omega) d r)
  · exact (congrFun (q6 ..) _).trans (headQ_eq _ _ _ _ _ _ h (by have e : h.val = 6 := h'1; omega) d r)
  · exact (congrFun (q5 ..) _).trans (headQ_eq _ _ _ _ _ _ h (by have e : h.val = 5 := h'1; omega) d r)
  · exact (congrFun (q4 ..) _).trans (headQ_eq _ _ _ _ _ _ h (by have e : h.val = 4 := h'1; omega) d r)
  · exact (congrFun (q3 ..) _).trans (headQ_eq _ _ _ _ _ _ h (by have e : h.val = 3 := h'1; omega) d r)
  · exact (congrFun (q2 ..) _).trans (headQ_eq _ _ _ _ _ _ h (by have e : h.val = 2 := h'1; omega) d r)
  · exact (congrFun (q1 ..) _).trans (headQ_eq _ _ _ _ _ _ h (by have e : h.val = 1 := h'1; omega) d r)
  · exact (congrFun (q0 ..) _).trans (headQ_eq _ _ _ _ _ _ h (by have e : h.val = 0 := h'1; omega) d r)

/-- WHAT A POINT STORES for the keys. -/
theorem out_k (c : Dev nD) (i : grid0.Coords)
  (arg2 : Memref sig .tc .vmem S1x1x512 .i32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x128 .bf16) (harg5 : arg5.IsWhole)
  (arg6 : Memref sig .tc .vmem S1x256 .f32) (harg6 : arg6.IsWhole) (arg7 : Memref sig .tc .vmem S768x256 .bf16) (harg7 : arg7.IsWhole)
  (arg8 : Memref sig .tc .vmem S1x256 .f32) (harg8 : arg8.IsWhole) (arg9 : Memref sig .tc .vmem S1024x256 .bf16) (harg9 : arg9.IsWhole)
  (arg10 : Memref sig .tc .vmem S96x1 .f32) (harg10 : arg10.IsWhole) (arg11 : Memref sig .tc .vmem S96x1 .f32) (harg11 : arg11.IsWhole)
  (arg12 : Memref sig .tc .vmem S16x1 .f32) (harg12 : arg12.IsWhole) (arg13 : Memref sig .tc .vmem S1x8x128x512 .bf16) (harg13 : arg13.IsWhole)
  (arg14 : Memref sig .tc .vmem S1x8x512x128 .bf16) (harg14 : arg14.IsWhole) (arg15 : Memref sig .tc .vmem S1x8x1x80x512 .bf16) (harg15 : arg15.IsWhole)
  (x0 : Vec Ideal S1x1x512 .i32) (x1 : Vec Ideal S1x512x256 .bf16) (x2 : Vec Ideal S1x512x256 .bf16) (x3 : Vec Ideal S1x512x128 .bf16)
  (x4 : Vec Ideal S1x256 .f32) (x5 : Vec Ideal S768x256 .bf16) (x6 : Vec Ideal S1x256 .f32) (x7 : Vec Ideal S1024x256 .bf16)
  (x8 : Vec Ideal S96x1 .f32) (x9 : Vec Ideal S96x1 .f32) (x10 : Vec Ideal S16x1 .f32)
  (h : Fin 8) (r : Fin 512) (d : Fin 128) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix4 0 h r d)
      = key (fun k => k0_pay10 (F := Ideal) (k0_pay7 x2) (k0_pay8 x2) x6 x7 (ix2 ⟨h.val * 128 + k.val, by omega⟩ r)) (fun k => x3 (ix3 0 r ⟨k.val, by omega⟩)) (fun k => k0_pay14 (F := Ideal) x9 (ix2 k 0)) (fun j => k0_pay4 (F := Ideal) x10 x0 (ix2 j r)) (fun j => k0_pay5 (F := Ideal) x10 x0 (ix2 j r)) d := by
  generalize hy : (ix4 0 h r d : S1x8x512x128.Idx) = y
  frame_out
  canon_tiles x h'
  all_goals obtain ⟨a, b, r', d', rfl⟩ : ∃ a b r' d', x = ix4 a b r' d' := ⟨x 0, x 1, x 2, x 3, by idx_vars x⟩
  all_goals subst hy
  all_goals obtain rfl : a = 0 := Subsingleton.elim _ _
  all_goals obtain rfl : b = 0 := Subsingleton.elim _ _
  all_goals obtain rfl : r = r' := Fin.ext (by simpa using h'2)
  all_goals obtain rfl : d = d' := Fin.ext (by simpa using h'3)
  · exact (congrFun (k7 ..) _).trans (headK_eq _ _ _ _ _ _ h (by have e : h.val = 7 := h'1; omega) x3 d r)
  · exact (congrFun (k6 ..) _).trans (headK_eq _ _ _ _ _ _ h (by have e : h.val = 6 := h'1; omega) x3 d r)
  · exact (congrFun (k5 ..) _).trans (headK_eq _ _ _ _ _ _ h (by have e : h.val = 5 := h'1; omega) x3 d r)
  · exact (congrFun (k4 ..) _).trans (headK_eq _ _ _ _ _ _ h (by have e : h.val = 4 := h'1; omega) x3 d r)
  · exact (congrFun (k3 ..) _).trans (headK_eq _ _ _ _ _ _ h (by have e : h.val = 3 := h'1; omega) x3 d r)
  · exact (congrFun (k2 ..) _).trans (headK_eq _ _ _ _ _ _ h (by have e : h.val = 2 := h'1; omega) x3 d r)
  · exact (congrFun (k1 ..) _).trans (headK_eq _ _ _ _ _ _ h (by have e : h.val = 1 := h'1; omega) x3 d r)
  · exact (congrFun (k0 ..) _).trans (headK_eq _ _ _ _ _ _ h (by have e : h.val = 0 := h'1; omega) x3 d r)

/-- WHAT A POINT STORES for the values. -/
theorem out_v (c : Dev nD) (i : grid0.Coords)
  (arg2 : Memref sig .tc .vmem S1x1x512 .i32) (harg2 : arg2.IsWhole) (arg3 : Memref sig .tc .vmem S1x512x256 .bf16) (harg3 : arg3.IsWhole)
  (arg4 : Memref sig .tc .vmem S1x512x256 .bf16) (harg4 : arg4.IsWhole) (arg5 : Memref sig .tc .vmem S1x512x128 .bf16) (harg5 : arg5.IsWhole)
  (arg6 : Memref sig .tc .vmem S1x256 .f32) (harg6 : arg6.IsWhole) (arg7 : Memref sig .tc .vmem S768x256 .bf16) (harg7 : arg7.IsWhole)
  (arg8 : Memref sig .tc .vmem S1x256 .f32) (harg8 : arg8.IsWhole) (arg9 : Memref sig .tc .vmem S1024x256 .bf16) (harg9 : arg9.IsWhole)
  (arg10 : Memref sig .tc .vmem S96x1 .f32) (harg10 : arg10.IsWhole) (arg11 : Memref sig .tc .vmem S96x1 .f32) (harg11 : arg11.IsWhole)
  (arg12 : Memref sig .tc .vmem S16x1 .f32) (harg12 : arg12.IsWhole) (arg13 : Memref sig .tc .vmem S1x8x128x512 .bf16) (harg13 : arg13.IsWhole)
  (arg14 : Memref sig .tc .vmem S1x8x512x128 .bf16) (harg14 : arg14.IsWhole) (arg15 : Memref sig .tc .vmem S1x8x1x80x512 .bf16) (harg15 : arg15.IsWhole)
  (x0 : Vec Ideal S1x1x512 .i32) (x1 : Vec Ideal S1x512x256 .bf16) (x2 : Vec Ideal S1x512x256 .bf16) (x3 : Vec Ideal S1x512x128 .bf16)
  (x4 : Vec Ideal S1x256 .f32) (x5 : Vec Ideal S768x256 .bf16) (x6 : Vec Ideal S1x256 .f32) (x7 : Vec Ideal S1024x256 .bf16)
  (x8 : Vec Ideal S96x1 .f32) (x9 : Vec Ideal S96x1 .f32) (x10 : Vec Ideal S16x1 .f32)
  (h : Fin 8) (d : Fin 80) (r : Fin 512) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix5 0 h 0 d r) = valued (fun k => k0_pay10 (F := Ideal) (k0_pay7 x2) (k0_pay8 x2) x6 x7 (ix2 ⟨h.val * 128 + (64 + k.val), by omega⟩ r)) d := by
  generalize hy : (ix5 0 h 0 d r : S1x8x1x80x512.Idx) = y
  frame_out
  canon_tiles x h'
  all_goals obtain ⟨a, b, z, d', r', rfl⟩ : ∃ a b z d' r', x = ix5 a b z d' r' := ⟨x 0, x 1, x 2, x 3, x 4, by idx_vars x⟩
  all_goals subst hy
  all_goals obtain rfl : a = 0 := Subsingleton.elim _ _
  all_goals obtain rfl : b = 0 := Subsingleton.elim _ _
  all_goals obtain rfl : z = 0 := Subsingleton.elim _ _
  all_goals obtain rfl : d = d' := Fin.ext (by simpa using h'3)
  all_goals obtain rfl : r = r' := Fin.ext (by simpa using h'4)
  · exact (congrFun (v7 ..) _).trans (headV_eq _ _ _ h (by have e : h.val = 7 := h'1; omega) d r)
  · exact (congrFun (v6 ..) _).trans (headV_eq _ _ _ h (by have e : h.val = 6 := h'1; omega) d r)
  · exact (congrFun (v5 ..) _).trans (headV_eq _ _ _ h (by have e : h.val = 5 := h'1; omega) d r)
  · exact (congrFun (v4 ..) _).trans (headV_eq _ _ _ h (by have e : h.val = 4 := h'1; omega) d r)
  · exact (congrFun (v3 ..) _).trans (headV_eq _ _ _ h (by have e : h.val = 3 := h'1; omega) d r)
  · exact (congrFun (v2 ..) _).trans (headV_eq _ _ _ h (by have e : h.val = 2 := h'1; omega) d r)
  · exact (congrFun (v1 ..) _).trans (headV_eq _ _ _ h (by have e : h.val = 1 := h'1; omega) d r)
  · exact (congrFun (v0 ..) _).trans (headV_eq _ _ _ h (by have e : h.val = 0 := h'1; omega) d r)

end Cert.PrepIdeal.Math

end
-- ==== Proof.PrepReads.lean ====
/- What the preparing call's points read. -/
module

public import proofs.«01_k».proof.Proof.PrepStored

@[expose] public section

set_option maxRecDepth 16384

noncomputable section

open Idealize.ShloMosaic Idealize.ShloMosaic.TcCoe Idealize.SL.Sem

namespace Cert.PrepIdeal.Math

open Cert.PrepIdeal Cert.PrepIdeal.Gen Cert.Layer

variable (m : (ℓ : Loc nD τ sig) → Buf (Elt Ideal) ℓ) (c : Dev nD)

/-- Which block of every array a grid point works on. -/
theorem idx : ∀ t : Fin grid0.N,
    (win0_0.index t 0 = t.val ∧ win0_0.index t 1 = 0 ∧ win0_0.index t 2 = 0) ∧
    (win0_1.index t 0 = t.val / 8 ∧ win0_1.index t 1 = t.val % 8 ∧ win0_1.index t 2 = 12) ∧
    (win0_2.index t 0 = t.val / 8 ∧ win0_2.index t 1 = t.val % 8 ∧ win0_2.index t 2 = 13) ∧
    (win0_3.index t 0 = t.val / 8 ∧ win0_3.index t 1 = t.val % 8 ∧ win0_3.index t 2 = 44) ∧
    (win0_4.index t 0 = 0 ∧ win0_4.index t 1 = 0) ∧
    (win0_5.index t 0 = 0 ∧ win0_5.index t 1 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0) ∧
    (win0_11.index t 0 = t.val / 8 ∧ win0_11.index t 1 = 0 ∧ win0_11.index t 2 = 0 ∧ win0_11.index t 3 = t.val % 8) ∧
    (win0_12.index t 0 = t.val / 8 ∧ win0_12.index t 1 = 0 ∧ win0_12.index t 2 = t.val % 8 ∧ win0_12.index t 3 = 0) ∧
    (win0_13.index t 0 = t.val / 8 ∧ win0_13.index t 1 = 0 ∧ win0_13.index t 2 = t.val % 8 ∧ win0_13.index t 3 = 0 ∧ win0_13.index t 4 = 0) ∧ t.val < 32 := by
  decide +kernel

/-- A point's batch. -/
def bAt (t : Fin grid0.N) : Fin 4 := ⟨t.val / 8, by have : t.val < 32 := t.isLt; omega⟩

/-- A point's stretch of tokens. -/
def zAt (t : Fin grid0.N) : Fin 8 := ⟨t.val % 8, by omega⟩

/-- A row of a point's block, among the tokens. -/
def rAt (t : Fin grid0.N) (r : Fin 512) : Fin 4096 := ⟨t.val % 8 * 512 + r.val, by omega⟩

/-- The positions, as the call cuts them. -/
theorem pos_at (i : Fin 32) (r : Fin 512) : V m c main_v0 (ix3 i 0 r) = m (c.tc.loc main_arg1) (ix2 ⟨i.val / 8, by omega⟩ ⟨i.val % 8 * 512 + r.val, by omega⟩) := by
  refine shapeCast_apply (s := S4x4096) (t := S32x1x512) (m (c.tc.loc main_arg1)) shapeCasts_S4x4096_S32x1x512 _ _ ?_
  rw [Shape.rowMajor_val_two, Shape.rowMajor_val_three]
  show i.val / 8 * 4096 + (i.val % 8 * 512 + r.val) = (i.val * 1 + 0) * 512 + r.val
  omega

/-- The frequencies, as the host computes them. -/
def freqs : FVec Ideal S16 .f32 :=
  Host.powf (F := Ideal) (broadcastInDim S16 ![] bcast_S_S16 (constant (F := Ideal) S_ .f32 0x461C4000#32)) (Host.divf (Host.negf (sitofp (F := Ideal) .f32 (iotaInDim S16 32 0))) (broadcastInDim S16 ![] bcast_S_S16 (constant (F := Ideal) S_ .f32 0x41800000#32)))

/-- A frequency. -/
theorem freqs_at (j : Fin 16) : freqs (ix1 j) = freq j := by
  pointwise [freqs, freq]

/-- A column of sixteen. -/
theorem col_at (w : FVec Ideal S16 .f32) (j : Fin 16) : (shapeCast S16x1 w shapeCasts_S16_S16x1 : FVec Ideal S16x1 .f32) (ix2 j 0) = w (ix1 j) := by
  pointwise

/-- The frequencies the call is given. -/
theorem freq_at (j : Fin 16) : @Eq EReal (V m c main_v7 (ix2 j 0)) (freq j) :=
  (show @Eq EReal (V m c main_v7 (ix2 j 0)) ((shapeCast S16x1 freqs shapeCasts_S16_S16x1 : FVec Ideal S16x1 .f32) (ix2 j 0)) from rfl).trans ((col_at freqs j).trans (freqs_at j))

/-- The gain of the queries' latents. -/
theorem gq_at (n : Fin 256) : @Eq EReal (V m c main_v8 (ix2 0 n)) (m (c.tc.loc main_arg2) (ix1 n)) := by
  show (shapeCast S1x256 (m (c.tc.loc main_arg2)) shapeCasts_S256_S1x256 : Vec Ideal S1x256 .f32) (ix2 0 n) = _
  pointwise

/-- The gain of the latents of keys and values. -/
theorem gkv_at (n : Fin 256) : @Eq EReal (V m c main_v11 (ix2 0 n)) (m (c.tc.loc main_arg4) (ix1 n)) := by
  show (shapeCast S1x256 (m (c.tc.loc main_arg4)) shapeCasts_S256_S1x256 : Vec Ideal S1x256 .f32) (ix2 0 n) = _
  pointwise

/-- The queries' weight, transposed. -/
theorem wq_at (n : Fin 768) (e : Fin 256) : @Eq EReal (V m c main_v10 (ix2 n e)) (m (c.tc.loc main_arg3) (ix2 e n)) := by
  show (truncf (F := Ideal) .bf16 (transpose S768x256 [1, 0] (m (c.tc.loc main_arg3)) transposes_S256x768_S768x256_1_0) bitsLt_bf16_f32 : FVec Ideal S768x256 .bf16) (ix2 n e) = _
  pointwise

/-- The weight of keys and values, transposed. -/
theorem wkv_at (n : Fin 1024) (e : Fin 256) : @Eq EReal (V m c main_v13 (ix2 n e)) (m (c.tc.loc main_arg5) (ix2 e n)) := by
  show (truncf (F := Ideal) .bf16 (transpose S1024x256 [1, 0] (m (c.tc.loc main_arg5)) transposes_S256x1024_S1024x256_1_0) bitsLt_bf16_f32 : FVec Ideal S1024x256 .bf16) (ix2 n e) = _
  pointwise

/-- The gain of the query heads. -/
theorem hq_at (n : Fin 96) : @Eq EReal (V m c main_v14 (ix2 n 0)) (m (c.tc.loc main_arg6) (ix1 n)) := by
  show (shapeCast S96x1 (m (c.tc.loc main_arg6)) shapeCasts_S96_S96x1 : Vec Ideal S96x1 .f32) (ix2 n 0) = _
  pointwise

/-- The gain of the key heads. -/
theorem hk_at (n : Fin 96) : @Eq EReal (V m c main_v15 (ix2 n 0)) (m (c.tc.loc main_arg7) (ix1 n)) := by
  show (shapeCast S96x1 (m (c.tc.loc main_arg7)) shapeCasts_S96_S96x1 : Vec Ideal S96x1 .f32) (ix2 n 0) = _
  pointwise

/-- The block of positions. -/
theorem blk_pos (t : Fin grid0.N) (r : Fin 512) : iblk m c 0 t (ix3 0 0 r) = m (c.tc.loc main_arg1) (ix2 (bAt t) (rAt t r)) := by
  have e : V m c main_v0 (ix3 ⟨t.val, (idx t).2.2.2.2.2.2.2.2.2.2.2.2.2.2⟩ 0 r) = m (c.tc.loc main_arg1) (ix2 (bAt t) (rAt t r)) := pos_at m c _ r
  rw [← e]
  blk_ext [iblk, idx t]

/-- The block of the queries' latents. -/
theorem blk_cq (t : Fin grid0.N) (r : Fin 512) (d : Fin 256) :
    @Eq EReal (X0_1 m c t (ix3 0 r d)) (m (c.tc.loc main_arg0) (ix3 (bAt t) (rAt t r) ⟨3072 + d.val, by omega⟩)) := by
  rw [← V_main_arg0 m c]
  unfold bAt rAt
  unfold X0_1 Pipeline.Window.fill
  rw [dif_pos (moved0_1 t _)]
  blk_ext [iblk, idx t]

/-- The block of the latents of keys and values. -/
theorem blk_ckv (t : Fin grid0.N) (r : Fin 512) (d : Fin 256) :
    @Eq EReal (X0_2 m c t (ix3 0 r d)) (m (c.tc.loc main_arg0) (ix3 (bAt t) (rAt t r) ⟨3328 + d.val, by omega⟩)) := by
  rw [← V_main_arg0 m c]
  unfold bAt rAt
  unfold X0_2 Pipeline.Window.fill
  rw [dif_pos (moved0_2 t _)]
  blk_ext [iblk, idx t]

/-- The block of the shared rotary keys. -/
theorem blk_kr (t : Fin grid0.N) (r : Fin 512) (d : Fin 128) :
    @Eq EReal (iblk m c 3 t (ix3 0 r d)) (m (c.tc.loc main_arg0) (ix3 (bAt t) (rAt t r) ⟨5632 + d.val, by omega⟩)) := by
  rw [← V_main_arg0 m c]
  unfold bAt rAt
  blk_ext [iblk, idx t]

/-- The gain of the queries' latents, as a point reads it. -/
theorem blk_gq (t : Fin grid0.N) (n : Fin 256) : @Eq EReal (iblk m c 4 t (ix2 0 n)) (m (c.tc.loc main_arg2) (ix1 n)) := by
  rw [← gq_at m c n]
  blk_ext [iblk, idx t]

/-- The queries' weight, as a point reads it. -/
theorem blk_wq (t : Fin grid0.N) (n : Fin 768) (e : Fin 256) : @Eq EReal (iblk m c 5 t (ix2 n e)) (m (c.tc.loc main_arg3) (ix2 e n)) := by
  rw [← wq_at m c n e]
  blk_ext [iblk, idx t]

/-- The gain of the latents of keys and values, as a point reads it. -/
theorem blk_gkv (t : Fin grid0.N) (n : Fin 256) : @Eq EReal (iblk m c 6 t (ix2 0 n)) (m (c.tc.loc main_arg4) (ix1 n)) := by
  rw [← gkv_at m c n]
  blk_ext [iblk, idx t]

/-- The weight of keys and values, as a point reads it. -/
theorem blk_wkv (t : Fin grid0.N) (n : Fin 1024) (e : Fin 256) : @Eq EReal (iblk m c 7 t (ix2 n e)) (m (c.tc.loc main_arg5) (ix2 e n)) := by
  rw [← wkv_at m c n e]
  blk_ext [iblk, idx t]

/-- The gain of the query heads, as a point reads it. -/
theorem blk_hq (t : Fin grid0.N) (n : Fin 96) : @Eq EReal (iblk m c 8 t (ix2 n 0)) (m (c.tc.loc main_arg6) (ix1 n)) := by
  rw [← hq_at m c n]
  blk_ext [iblk, idx t]

/-- The gain of the key heads, as a point reads it. -/
theorem blk_hk (t : Fin grid0.N) (n : Fin 96) : @Eq EReal (iblk m c 9 t (ix2 n 0)) (m (c.tc.loc main_arg7) (ix1 n)) := by
  rw [← hk_at m c n]
  blk_ext [iblk, idx t]

/-- The frequencies, as a point reads them. -/
theorem blk_freq (t : Fin grid0.N) (j : Fin 16) : @Eq EReal (iblk m c 10 t (ix2 j 0)) (freq j) := by
  rw [← freq_at m c j]
  blk_ext [iblk, idx t]

end Cert.PrepIdeal.Math

end
-- ==== Proof.PrepArray.lean ====
/- What the preparing call leaves in its result arrays. -/
module

public import proofs.«01_k».proof.Proof.PrepReads

@[expose] public section

set_option maxRecDepth 16384

noncomputable section

open Idealize.ShloMosaic Idealize.ShloMosaic.TcCoe Idealize.SL.Sem
open Idealize.ShloMosaic.Pipeline (Dat)

namespace Cert.PrepIdeal.Math

open Cert.PrepIdeal Cert.PrepIdeal.Gen Cert.Layer

/-- A feature of a query, from what a point reads. -/
theorem qfeat_at (x : Vec Ideal S1x512x256 .bf16) (g : Vec Ideal S1x256 .f32) (w : Vec Ideal S768x256 .bf16) (n : Fin 768) (r : Fin 512) :
    k0_pay9 (F := Ideal) (k0_pay6 (F := Ideal) x g) w (ix2 n r) = feature (fun k => x (ix3 0 r k)) (fun k => g (ix2 0 k)) (fun k => w (ix2 n k)) := by
  rw [pay9_at]
  exact Finset.sum_congr rfl fun k _ => congrArg (fun z : EReal => _ * z) (pay6_at x g r k)

section entries

variable (x0 : FVec Ideal S4x4096x5760 .bf16) (x1 : IVec S4x4096 32) (x2 : FVec Ideal S256 .f32) (x3 : FVec Ideal S256x768 .f32)
  (x4 : FVec Ideal S256 .f32) (x5 : FVec Ideal S256x1024 .f32) (x6 x7 : FVec Ideal S96 .f32) (b : Fin 4) (h : Fin 8) (p : Fin 4096)

/-- A query's feature, from the arguments. -/
def featQ (k : Fin 96) : EReal :=
  feature (fun k => x0 (ix3 b p ⟨3072 + k.val, by omega⟩)) (fun k => x2 (ix1 k)) (fun e => x3 (ix2 e ⟨h.val * 96 + k.val, by omega⟩))

/-- A feature of a key or a value, from the arguments. -/
def featKV (k : Fin 128) : EReal :=
  feature (fun k => x0 (ix3 b p ⟨3328 + k.val, by omega⟩)) (fun k => x4 (ix1 k)) (fun e => x5 (ix2 e ⟨h.val * 128 + k.val, by omega⟩))

/-- The cosines of a token. -/
def cosAt (j : Fin 16) : EReal := Ideal.cos (freq j * FloatOps.sitofp (F := Ideal) FTy.f32 (x1 (ix2 b p)))

/-- The sines of a token. -/
def sinAt (j : Fin 16) : EReal := Ideal.sin (freq j * FloatOps.sitofp (F := Ideal) FTy.f32 (x1 (ix2 b p)))

/-- A stored query, from the arguments. -/
def entryQ (d : Fin 128) : EReal := query (featQ x0 x2 x3 b h p) (fun k => x6 (ix1 k)) (cosAt x1 b p) (sinAt x1 b p) d

/-- A stored key, from the arguments. -/
def entryK (d : Fin 128) : EReal :=
  key (fun k => featKV x0 x4 x5 b h p ⟨k.val, by omega⟩) (fun k => x0 (ix3 b p ⟨5632 + k.val, by omega⟩)) (fun k => x7 (ix1 k)) (cosAt x1 b p) (sinAt x1 b p) d

/-- A stored value, from the arguments. -/
def entryV (d : Fin 80) : EReal := valued (fun k => featKV x0 x4 x5 b h p ⟨64 + k.val, by omega⟩) d

end entries

variable (m : (ℓ : Loc nD τ sig) → Buf (Elt Ideal) ℓ) (c : Dev nD)

/-- The queries' array. -/
def arrayQ : S4x8x128x4096.Idx → EReal := fun i => entryQ (m (c.tc.loc main_arg0)) (m (c.tc.loc main_arg1)) (m (c.tc.loc main_arg2)) (m (c.tc.loc main_arg3)) (m (c.tc.loc main_arg6)) (i 0) (i 1) (i 3) (i 2)

/-- The keys' array. -/
def arrayK : S4x8x4096x128.Idx → EReal := fun i => entryK (m (c.tc.loc main_arg0)) (m (c.tc.loc main_arg1)) (m (c.tc.loc main_arg4)) (m (c.tc.loc main_arg5)) (m (c.tc.loc main_arg7)) (i 0) (i 1) (i 2) (i 3)

/-- The values' array. -/
def arrayV : S4x8x8x80x512.Idx → EReal := fun i => entryV (m (c.tc.loc main_arg0)) (m (c.tc.loc main_arg4)) (m (c.tc.loc main_arg5)) (i 0) (i 1) ⟨(i 2).val * 512 + (i 4).val, by
    have h2 : (i 2).val < 8 := (i 2).isLt
    have h4 : (i 4).val < 512 := (i 4).isLt
    omega⟩ (i 3)

/-- A point's features of the queries. -/
theorem pfeatQ (t : Fin grid0.N) (h : Fin 8) (k : Fin 96) (r : Fin 512) :
    @Eq EReal (k0_pay9 (F := Ideal) (k0_pay6 (F := Ideal) (X0_1 m c t) (iblk m c 4 t)) (iblk m c 5 t) (ix2 ⟨h.val * 96 + k.val, by omega⟩ r)) (featQ (m (c.tc.loc main_arg0)) (m (c.tc.loc main_arg2)) (m (c.tc.loc main_arg3)) (bAt t) h (rAt t r) k) := by
  refine (qfeat_at _ _ _ _ _).trans ?_
  unfold featQ
  rw [funext fun k => blk_cq m c t r k, funext fun k => blk_gq m c t k, funext fun e => blk_wq m c t _ e]

/-- A point's features of keys and values. -/
theorem pfeatKV (t : Fin grid0.N) (h : Fin 8) (k : Fin 128) (r : Fin 512) :
    @Eq EReal (k0_pay10 (F := Ideal) (k0_pay7 (X0_2 m c t)) (k0_pay8 (X0_2 m c t)) (iblk m c 6 t) (iblk m c 7 t) (ix2 ⟨h.val * 128 + k.val, by omega⟩ r)) (featKV (m (c.tc.loc main_arg0)) (m (c.tc.loc main_arg4)) (m (c.tc.loc main_arg5)) (bAt t) h (rAt t r) k) := by
  refine (pay10_at _ _ _ _ _).trans ?_
  unfold featKV
  rw [funext fun k => blk_ckv m c t r k, funext fun k => blk_gkv m c t k, funext fun e => blk_wkv m c t _ e]

/-- A point's cosines. -/
theorem pcos (t : Fin grid0.N) (r : Fin 512) (j : Fin 16) :
    @Eq EReal (k0_pay4 (F := Ideal) (iblk m c 10 t) (iblk m c 0 t) (ix2 j r)) (cosAt (m (c.tc.loc main_arg1)) (bAt t) (rAt t r) j) := by
  refine (pay4_at _ _ _ _).trans ?_
  unfold cosAt
  rw [blk_freq m c t j, blk_pos m c t r]

/-- A point's sines. -/
theorem psin (t : Fin grid0.N) (r : Fin 512) (j : Fin 16) :
    @Eq EReal (k0_pay5 (F := Ideal) (iblk m c 10 t) (iblk m c 0 t) (ix2 j r)) (sinAt (m (c.tc.loc main_arg1)) (bAt t) (rAt t r) j) := by
  refine (pay5_at _ _ _ _).trans ?_
  unfold sinAt
  rw [blk_freq m c t j, blk_pos m c t r]

/-- What a point stores for the queries, from the arguments. -/
theorem point_q (t : Fin grid0.N) (h : Fin 8) (d : Fin 128) (r : Fin 512) :
    @Eq EReal ((outsAt0 m c t).1 (ix4 0 h d r)) (entryQ (m (c.tc.loc main_arg0)) (m (c.tc.loc main_arg1)) (m (c.tc.loc main_arg2)) (m (c.tc.loc main_arg3)) (m (c.tc.loc main_arg6)) (bAt t) h (rAt t r) d) := by
  rw [show (outsAt0 m c t).1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (X0_2 m c t) (iblk m c 3 t) (iblk m c 4 t) (iblk m c 5 t) (iblk m c 6 t) (iblk m c 7 t) (iblk m c 8 t) (iblk m c 9 t) (iblk m c 10 t) from by dsimp only [outsAt0]]
  refine (out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (X0_2 m c t) (iblk m c 3 t) (iblk m c 4 t) (iblk m c 5 t) (iblk m c 6 t) (iblk m c 7 t) (iblk m c 8 t) (iblk m c 9 t) (iblk m c 10 t) h d r).trans ?_
  unfold entryQ
  rw [funext fun k => pfeatQ m c t h k r, funext fun j => pcos m c t r j, funext fun j => psin m c t r j,
    funext fun k => (pay13_at (iblk m c 8 t) k).trans (blk_hq m c t k)]

/-- What a point stores for the keys, from the arguments. -/
theorem point_k (t : Fin grid0.N) (h : Fin 8) (r : Fin 512) (d : Fin 128) :
    @Eq EReal ((outsAt0 m c t).2.1 (ix4 0 h r d)) (entryK (m (c.tc.loc main_arg0)) (m (c.tc.loc main_arg1)) (m (c.tc.loc main_arg4)) (m (c.tc.loc main_arg5)) (m (c.tc.loc main_arg7)) (bAt t) h (rAt t r) d) := by
  rw [show (outsAt0 m c t).2.1 = out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (X0_2 m c t) (iblk m c 3 t) (iblk m c 4 t) (iblk m c 5 t) (iblk m c 6 t) (iblk m c 7 t) (iblk m c 8 t) (iblk m c 9 t) (iblk m c 10 t) from by dsimp only [outsAt0]]
  refine (out_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (X0_2 m c t) (iblk m c 3 t) (iblk m c 4 t) (iblk m c 5 t) (iblk m c 6 t) (iblk m c 7 t) (iblk m c 8 t) (iblk m c 9 t) (iblk m c 10 t) h r d).trans ?_
  unfold entryK
  rw [funext fun k : Fin 64 => pfeatKV m c t h ⟨k.val, by omega⟩ r, funext fun j => pcos m c t r j, funext fun j => psin m c t r j,
    funext fun k => (pay14_at (iblk m c 9 t) k).trans (blk_hk m c t k), funext fun k : Fin 32 => blk_kr m c t r ⟨k.val, by omega⟩]

/-- What a point stores for the values, from the arguments. -/
theorem point_v (t : Fin grid0.N) (h : Fin 8) (d : Fin 80) (r : Fin 512) :
    @Eq EReal ((outsAt0 m c t).2.2 (ix5 0 h 0 d r)) (entryV (m (c.tc.loc main_arg0)) (m (c.tc.loc main_arg4)) (m (c.tc.loc main_arg5)) (bAt t) h (rAt t r) d) := by
  rw [show (outsAt0 m c t).2.2 = out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (X0_2 m c t) (iblk m c 3 t) (iblk m c 4 t) (iblk m c 5 t) (iblk m c 6 t) (iblk m c 7 t) (iblk m c 8 t) (iblk m c 9 t) (iblk m c 10 t) from by dsimp only [outsAt0]]
  refine (out_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (X0_1 m c t) (X0_2 m c t) (iblk m c 3 t) (iblk m c 4 t) (iblk m c 5 t) (iblk m c 6 t) (iblk m c 7 t) (iblk m c 8 t) (iblk m c 9 t) (iblk m c 10 t) h d r).trans ?_
  unfold entryV
  rw [funext fun k : Fin 64 => pfeatKV m c t h ⟨64 + k.val, by omega⟩ r]

/-- THE QUERIES' ARRAY. -/
theorem final_q : (dats m 0 c).arrAt 11 (cfgs 0).N = arrayQ m c := by
  refine (dats m 0 c).arrAt_eq_of_covers 11 _ (by decide +kernel) fun t _ y => ?_
  blk_simp
  rw [after0_11]
  show (outsAt0 m c t).1 y = _
  obtain ⟨z, h, d, r, rfl⟩ : ∃ z h d r, y = ix4 z h d r := ⟨y 0, y 1, y 2, y 3, by idx_vars y⟩
  obtain rfl : z = 0 := Subsingleton.elim _ _
  refine (point_q m c t h d r).trans ?_
  have e0 : (win0_11.blk t).view.emb (ix4 0 h d r) 0 = bAt t := Fin.ext (by blk_simp [bAt, idx t] <;> rfl)
  have e1 : (win0_11.blk t).view.emb (ix4 0 h d r) 1 = h := Fin.ext (by blk_simp [idx t] <;> try omega)
  have e2 : (win0_11.blk t).view.emb (ix4 0 h d r) 2 = d := Fin.ext (by blk_simp [idx t] <;> try omega)
  have e3 : (win0_11.blk t).view.emb (ix4 0 h d r) 3 = rAt t r := Fin.ext (by blk_simp [rAt, idx t] <;> try omega)
  unfold arrayQ
  rw [e0, e1, e2, e3]

/-- THE KEYS' ARRAY. -/
theorem final_k : (dats m 0 c).arrAt 12 (cfgs 0).N = arrayK m c := by
  refine (dats m 0 c).arrAt_eq_of_covers 12 _ (by decide +kernel) fun t _ y => ?_
  blk_simp
  rw [after0_12]
  show (outsAt0 m c t).2.1 y = _
  obtain ⟨z, h, r, d, rfl⟩ : ∃ z h r d, y = ix4 z h r d := ⟨y 0, y 1, y 2, y 3, by idx_vars y⟩
  obtain rfl : z = 0 := Subsingleton.elim _ _
  refine (point_k m c t h r d).trans ?_
  have e0 : (win0_12.blk t).view.emb (ix4 0 h r d) 0 = bAt t := Fin.ext (by blk_simp [bAt, idx t] <;> rfl)
  have e1 : (win0_12.blk t).view.emb (ix4 0 h r d) 1 = h := Fin.ext (by blk_simp [idx t] <;> try omega)
  have e2 : (win0_12.blk t).view.emb (ix4 0 h r d) 2 = rAt t r := Fin.ext (by blk_simp [rAt, idx t] <;> try omega)
  have e3 : (win0_12.blk t).view.emb (ix4 0 h r d) 3 = d := Fin.ext (by blk_simp [idx t] <;> try omega)
  unfold arrayK
  rw [e0, e1, e2, e3]

/-- THE VALUES' ARRAY. -/
theorem final_v : (dats m 0 c).arrAt 13 (cfgs 0).N = arrayV m c := by
  refine (dats m 0 c).arrAt_eq_of_covers 13 _ (by decide +kernel) fun t _ y => ?_
  blk_simp
  rw [after0_13]
  show (outsAt0 m c t).2.2 y = _
  obtain ⟨z, h, z', d, r, rfl⟩ : ∃ z h z' d r, y = ix5 z h z' d r := ⟨y 0, y 1, y 2, y 3, y 4, by idx_vars y⟩
  obtain rfl : z = 0 := Subsingleton.elim _ _
  obtain rfl : z' = 0 := Subsingleton.elim _ _
  refine (point_v m c t h d r).trans ?_
  have e0 : (win0_13.blk t).view.emb (ix5 0 h 0 d r) 0 = bAt t := Fin.ext (by blk_simp [bAt, idx t] <;> rfl)
  have e1 : (win0_13.blk t).view.emb (ix5 0 h 0 d r) 1 = h := Fin.ext (by blk_simp [idx t] <;> try omega)
  have e2 : (win0_13.blk t).view.emb (ix5 0 h 0 d r) 2 = zAt t := Fin.ext (by blk_simp [zAt, idx t] <;> rfl)
  have e3 : (win0_13.blk t).view.emb (ix5 0 h 0 d r) 3 = d := Fin.ext (by blk_simp [idx t] <;> try omega)
  have e4 : (win0_13.blk t).view.emb (ix5 0 h 0 d r) 4 = r := Fin.ext (by blk_simp [idx t] <;> try omega)
  unfold arrayV
  simp only [e0, e1, e2, e3, e4]
  rfl

end Cert.PrepIdeal.Math

end
-- ==== Proof.PrepReference.lean ====
/- The reference of the preparing call, read at an index. -/
module

public import proofs.«01_k».proof.Proof.Gen.PreparedIdeal.Run
public import Idealize.ShloMosaic.Lib.Pipeline.ValueKit
public import Idealize.ShloMosaic.Lib.Pointwise
public import proofs.«01_k».proof.Proof.PrepSpec

@[expose] public section

set_option maxRecDepth 16384

noncomputable section

open Idealize.ShloMosaic Idealize.ShloMosaic.TcCoe Idealize.SL.Sem

namespace Cert.PreparedIdeal.Math

open Cert.PreparedIdeal Cert.PreparedIdeal.Gen Cert.PreparedIdeal.Value Cert.Layer

variable (x0 : FVec Ideal S4x4096x5760 .bf16) (x1 : IVec S4x4096 32) (x2 : FVec Ideal S256 .f32) (x3 : FVec Ideal S256x768 .f32)
  (x4 : FVec Ideal S256 .f32) (x5 : FVec Ideal S256x1024 .f32) (x6 x7 : FVec Ideal S96 .f32) (b : Fin 4) (p : Fin 4096) (h : Fin 8)

/-- The queries' normalised latents. -/
def latQ : FVec Ideal S4x4096x256 .f32 :=
  (mulf (mulf (extf .f32 (extractStridedSlice S4x4096x256 ![0, 0, 3072] x0 slices_S4x4096x5760_S4x4096x256_0_0_3072) bitsLt_bf16_f32) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extf .f32 (extractStridedSlice S4x4096x256 ![0, 0, 3072] x0 slices_S4x4096x5760_S4x4096x256_0_0_3072) bitsLt_bf16_f32) (extf .f32 (extractStridedSlice S4x4096x256 ![0, 0, 3072] x0 slices_S4x4096x5760_S4x4096x256_0_0_3072) bitsLt_bf16_f32)) (constant (F := Ideal) S_ .f32 0x00000000#32) reducesTo_S4x4096x256_S4x4096_d2 h_S_)) (broadcastInDim S4x4096x1 ![] bcast_S_S4x4096x1 (constant (F := Ideal) S_ .f32 0x43800000#32))) (broadcastInDim S4x4096x1 ![] bcast_S_S4x4096x1 (constant (F := Ideal) S_ .f32 0x358637BD#32)))))) (broadcastInDim S4x4096x256 ![0, 1, 2] bcast_S1x1x256_S4x4096x256_0_1_2 (broadcastInDim S1x1x256 ![2] bcast_S256_S1x1x256_2 x2)))

/-- A normalised latent of the queries. -/
theorem latQ_at (d : Fin 256) : latQ x0 x2 (ix3 b p d) = latent (fun k => x0 (ix3 b p ⟨3072 + k.val, by omega⟩)) (fun k => x2 (ix1 k)) d := by
  pointwise [latQ, latent]

/-- The normalised latents of keys and values. -/
def latKV : FVec Ideal S4x4096x256 .f32 :=
  (mulf (mulf (extf .f32 (extractStridedSlice S4x4096x256 ![0, 0, 3328] x0 slices_S4x4096x5760_S4x4096x256_0_0_3328) bitsLt_bf16_f32) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extf .f32 (extractStridedSlice S4x4096x256 ![0, 0, 3328] x0 slices_S4x4096x5760_S4x4096x256_0_0_3328) bitsLt_bf16_f32) (extf .f32 (extractStridedSlice S4x4096x256 ![0, 0, 3328] x0 slices_S4x4096x5760_S4x4096x256_0_0_3328) bitsLt_bf16_f32)) (constant (F := Ideal) S_ .f32 0x00000000#32) reducesTo_S4x4096x256_S4x4096_d2 h_S_)) (broadcastInDim S4x4096x1 ![] bcast_S_S4x4096x1 (constant (F := Ideal) S_ .f32 0x43800000#32))) (broadcastInDim S4x4096x1 ![] bcast_S_S4x4096x1 (constant (F := Ideal) S_ .f32 0x358637BD#32)))))) (broadcastInDim S4x4096x256 ![0, 1, 2] bcast_S1x1x256_S4x4096x256_0_1_2 (broadcastInDim S1x1x256 ![2] bcast_S256_S1x1x256_2 x4)))

/-- A normalised latent of keys and values. -/
theorem latKV_at (d : Fin 256) : latKV x0 x4 (ix3 b p d) = latent (fun k => x0 (ix3 b p ⟨3328 + k.val, by omega⟩)) (fun k => x4 (ix1 k)) d := by
  pointwise [latKV, latent]

/-- The queries' features, by head. -/
def qs : FVec Ideal S4x4096x8x96 .f32 :=
  (shapeCast S4x4096x8x96 (Host.dotGeneral dot_S4x4096x256_S256x768_S4x4096x768_2_0_01_1_n_n none (latQ x0 x2) x3) shapeCasts_S4x4096x768_S4x4096x8x96)

/-- A feature of a query. -/
theorem qs_at (k : Fin 96) : qs x0 x2 x3 (ix4 b p h k) = feature (fun k => x0 (ix3 b p ⟨3072 + k.val, by omega⟩)) (fun k => x2 (ix1 k))
    (fun e => x3 (ix2 e ⟨h.val * 96 + k.val, by omega⟩)) := by
  pointwise [qs, feature]
  exact Finset.sum_congr rfl fun e _ => (mul_comm _ _).trans (congrArg (fun z : EReal => _ * z) (latQ_at x0 x2 b p e))

/-- The features of keys and values, by head. -/
def kvs : FVec Ideal S4x4096x8x128 .f32 :=
  (shapeCast S4x4096x8x128 (Host.dotGeneral dot_S4x4096x256_S256x1024_S4x4096x1024_2_0_01_1_n_n none (latKV x0 x4) x5) shapeCasts_S4x4096x1024_S4x4096x8x128)

/-- A feature of a key or a value. -/
theorem kvs_at (k : Fin 128) : kvs x0 x4 x5 (ix4 b p h k) = feature (fun k => x0 (ix3 b p ⟨3328 + k.val, by omega⟩)) (fun k => x4 (ix1 k))
    (fun e => x5 (ix2 e ⟨h.val * 128 + k.val, by omega⟩)) := by
  pointwise [kvs, feature]
  exact Finset.sum_congr rfl fun e _ => (mul_comm _ _).trans (congrArg (fun z : EReal => _ * z) (latKV_at x0 x4 b p e))

/-- The keys: a head's own features, then the shared ones. -/
def keys (kv : FVec Ideal S4x4096x8x128 .f32) : FVec Ideal S4x4096x8x96 .f32 :=
  (concatenate S4x4096x8x96 3 [⟨S4x4096x8x64, (extractStridedSlice S4x4096x8x64 ![0, 0, 0, 0] kv slices_S4x4096x8x128_S4x4096x8x64_0_0_0_0)⟩, ⟨S4x4096x8x32, (broadcastInDim S4x4096x8x32 ![0, 1, 2, 3] bcast_S4x4096x1x32_S4x4096x8x32_0_1_2_3 (extf .f32 (broadcastInDim S4x4096x1x32 ![0, 1, 3] bcast_S4x4096x32_S4x4096x1x32_0_1_3 (extractStridedSlice S4x4096x32 ![0, 0, 5632] x0 slices_S4x4096x5760_S4x4096x32_0_0_5632)) bitsLt_bf16_f32))⟩] concatenates_S4x4096x8x64_S4x4096x8x32_S4x4096x8x96_d3)

/-- A feature of a key. -/
theorem keys_at (kv : FVec Ideal S4x4096x8x128 .f32) (k : Fin 96) : keys x0 kv (ix4 b p h k)
    = if h' : k.val < 64 then kv (ix4 b p h ⟨k.val, by omega⟩) else x0 (ix3 b p ⟨5632 + (k.val - 64), by omega⟩) := by
  pointwise [keys]

/-- Heads divided by their root mean square, times the gain. -/
def headed (q : FVec Ideal S4x4096x8x96 .f32) (g : FVec Ideal S96 .f32) : FVec Ideal S4x4096x8x96 .f32 :=
  (mulf (mulf q (broadcastInDim S4x4096x8x96 ![0, 1, 2, 3] bcast_S4x4096x8x1_S4x4096x8x96_0_1_2_3 (Host.rsqrt (addf (Host.divf (broadcastInDim S4x4096x8x1 ![0, 1, 2] bcast_S4x4096x8_S4x4096x8x1_0_1_2 (Host.reduceAdd (mulf q q) (constant (F := Ideal) S_ .f32 0x00000000#32) reducesTo_S4x4096x8x96_S4x4096x8_d3 h_S_)) (broadcastInDim S4x4096x8x1 ![] bcast_S_S4x4096x8x1 (constant (F := Ideal) S_ .f32 0x42C00000#32))) (broadcastInDim S4x4096x8x1 ![] bcast_S_S4x4096x8x1 (constant (F := Ideal) S_ .f32 0x358637BD#32)))))) (broadcastInDim S4x4096x8x96 ![0, 1, 2, 3] bcast_S1x1x1x96_S4x4096x8x96_0_1_2_3 (broadcastInDim S1x1x1x96 ![3] bcast_S96_S1x1x1x96_3 g)))

/-- A normalised feature. -/
theorem headed_at (q : FVec Ideal S4x4096x8x96 .f32) (g : FVec Ideal S96 .f32) (k : Fin 96) :
    headed q g (ix4 b p h k) = q (ix4 b p h k) * headRms (fun k => q (ix4 b p h k)) * g (ix1 k) := by
  pointwise [headed, headRms]

/-- Queries divided by the root of their length and by the natural logarithm of two. -/
def scaled (q : FVec Ideal S4x4096x8x96 .f32) : FVec Ideal S4x4096x8x96 .f32 :=
  (Host.divf q (broadcastInDim S4x4096x8x96 ![] bcast_S_S4x4096x8x96 (mulf (Host.sqrt (constant (F := Ideal) S_ .f32 0x42C00000#32)) (Host.log (constant (F := Ideal) S_ .f32 0x40000000#32)))))

/-- A scaled feature. -/
theorem scaled_at (q : FVec Ideal S4x4096x8x96 .f32) (k : Fin 96) : scaled q (ix4 b p h k)
    = Ideal.div (q (ix4 b p h k)) (Ideal.sqrt (Ideal.ofBits .f32 0x42C00000#32) * Ideal.log (Ideal.ofBits .f32 0x40000000#32)) := by
  pointwise [scaled]

/-- The angles of the positions. -/
def angles : FVec Ideal S4x4096x16 .f32 :=
  (mulf (broadcastInDim S4x4096x16 ![0, 1, 2] bcast_S4x4096x1_S4x4096x16_0_1_2 (broadcastInDim S4x4096x1 ![0, 1] bcast_S4x4096_S4x4096x1_0_1 (sitofp (F := Ideal) .f32 x1))) (broadcastInDim S4x4096x16 ![0, 1, 2] bcast_S1x1x16_S4x4096x16_0_1_2 (broadcastInDim S1x1x16 ![2] bcast_S16_S1x1x16_2 (Host.powf (broadcastInDim S16 ![] bcast_S_S16 (constant (F := Ideal) S_ .f32 0x461C4000#32)) (Host.divf (Host.negf (sitofp (F := Ideal) .f32 (iotaInDim S16 32 0))) (broadcastInDim S16 ![] bcast_S_S16 (constant (F := Ideal) S_ .f32 0x41800000#32)))))))

/-- The angle of a position for a frequency. -/
theorem angles_at (j : Fin 16) : angles x1 (ix3 b p j) = angle (x1 (ix2 b p)) j := by
  pointwise [angles, angle, freq]

/-- The angles' cosines, for every head. -/
def cosines : FVec Ideal S4x4096x8x16 .f32 :=
  (broadcastInDim S4x4096x8x16 ![0, 1, 2, 3] bcast_S4x4096x1x16_S4x4096x8x16_0_1_2_3 (broadcastInDim S4x4096x1x16 ![0, 1, 3] bcast_S4x4096x16_S4x4096x1x16_0_1_3 (Host.cos (angles x1))))

/-- A cosine. -/
theorem cosines_at (j : Fin 16) : cosines x1 (ix4 b p h j) = Ideal.cos (angles x1 (ix3 b p j)) := by
  pointwise [cosines]

/-- The angles' sines, for every head. -/
def sines : FVec Ideal S4x4096x8x16 .f32 :=
  (broadcastInDim S4x4096x8x16 ![0, 1, 2, 3] bcast_S4x4096x1x16_S4x4096x8x16_0_1_2_3 (broadcastInDim S4x4096x1x16 ![0, 1, 3] bcast_S4x4096x16_S4x4096x1x16_0_1_3 (Host.sin (angles x1))))

/-- A sine. -/
theorem sines_at (j : Fin 16) : sines x1 (ix4 b p h j) = Ideal.sin (angles x1 (ix3 b p j)) := by
  pointwise [sines]

/-- Heads with the last thirty-two features rotated, then zeros. -/
def turned (n : FVec Ideal S4x4096x8x96 .f32) (c s : FVec Ideal S4x4096x8x16 .f32) : FVec Ideal S4x4096x8x128 .f32 :=
  ((concatenate S4x4096x8x128 3 [⟨S4x4096x8x64, ((extractStridedSlice S4x4096x8x64 ![0, 0, 0, 0] n slices_S4x4096x8x96_S4x4096x8x64_0_0_0_0) : (⟨S4x4096x8x64, .f32⟩ : BufTy).Contents (Elt Ideal))⟩, ⟨S4x4096x8x16, ((subf (mulf (extractStridedSlice S4x4096x8x16 ![0, 0, 0, 64] n slices_S4x4096x8x96_S4x4096x8x16_0_0_0_64) c) (mulf (extractStridedSlice S4x4096x8x16 ![0, 0, 0, 80] n slices_S4x4096x8x96_S4x4096x8x16_0_0_0_80) s)) : (⟨S4x4096x8x16, .f32⟩ : BufTy).Contents (Elt Ideal))⟩, ⟨S4x4096x8x16, ((addf (mulf (extractStridedSlice S4x4096x8x16 ![0, 0, 0, 80] n slices_S4x4096x8x96_S4x4096x8x16_0_0_0_80) c) (mulf (extractStridedSlice S4x4096x8x16 ![0, 0, 0, 64] n slices_S4x4096x8x96_S4x4096x8x16_0_0_0_64) s)) : (⟨S4x4096x8x16, .f32⟩ : BufTy).Contents (Elt Ideal))⟩, ⟨S4x4096x8x32, ((broadcastInDim S4x4096x8x32 ![] bcast_S_S4x4096x8x32 (constant (F := Ideal) S_ .f32 0x00000000#32)) : (⟨S4x4096x8x32, .f32⟩ : BufTy).Contents (Elt Ideal))⟩] concatenates_S4x4096x8x64_S4x4096x8x16_S4x4096x8x16_S4x4096x8x32_S4x4096x8x128_d3 : (⟨S4x4096x8x128, .f32⟩ : BufTy).Contents (Elt Ideal)))

/-- A stored feature. -/
theorem turned_at (n : FVec Ideal S4x4096x8x96 .f32) (c s : FVec Ideal S4x4096x8x16 .f32) (d : Fin 128) :
    turned n c s (ix4 b p h d) = rotated (fun k => n (ix4 b p h k)) (fun j => c (ix4 b p h j)) (fun j => s (ix4 b p h j)) d := by
  have e : ∀ x, 64 + (16 + x) = 80 + x := fun x => by omega
  pointwise [turned, rotated]
  simp only [e]

/-- The queries' array. -/
def queries : FVec Ideal S4x8x128x4096 .bf16 :=
  truncf .bf16 (transpose S4x8x128x4096 [0, 2, 3, 1] (turned (scaled (headed (qs x0 x2 x3) x6)) (cosines x1) (sines x1)) transposes_S4x4096x8x128_S4x8x128x4096_0_2_3_1) bitsLt_bf16_f32

/-- The keys' array. -/
def keyed : FVec Ideal S4x8x4096x128 .bf16 :=
  truncf .bf16 (transpose S4x8x4096x128 [0, 2, 1, 3] (turned (headed (keys x0 (kvs x0 x4 x5)) x7) (cosines x1) (sines x1)) transposes_S4x4096x8x128_S4x8x4096x128_0_2_1_3) bitsLt_bf16_f32

/-- The values' array. -/
def values (kv : FVec Ideal S4x4096x8x128 .f32) : FVec Ideal S4x8x8x80x512 .bf16 :=
  truncf .bf16 (concatenate S4x8x8x80x512 3 [⟨S4x8x8x64x512, (transpose S4x8x8x64x512 [0, 3, 1, 4, 2] (shapeCast S4x8x512x8x64 (extractStridedSlice S4x4096x8x64 ![0, 0, 0, 64] kv slices_S4x4096x8x128_S4x4096x8x64_0_0_0_64) shapeCasts_S4x4096x8x64_S4x8x512x8x64) transposes_S4x8x512x8x64_S4x8x8x64x512_0_3_1_4_2)⟩, ⟨S4x8x8x16x512, (pad S4x8x8x16x512 ![0, 0, 0, 0, 0] ![0, 0, 0, 15, 0] ![0, 0, 0, 0, 0] (broadcastInDim S4x8x8x1x512 ![] bcast_S_S4x8x8x1x512 (constant (F := Ideal) S_ .f32 0x3F800000#32)) (sitofp (F := Ideal) .f32 (constantI S_ 32 0#32)) pads_S4x8x8x1x512_S4x8x8x16x512_000_000_000_0150_000 h_S_)⟩] concatenates_S4x8x8x64x512_S4x8x8x16x512_S4x8x8x80x512_d3) bitsLt_bf16_f32

/-- A stored query. -/
theorem queries_at (d : Fin 128) : queries x0 x1 x2 x3 x6 (ix4 b h d p) = turned (scaled (headed (qs x0 x2 x3) x6)) (cosines x1) (sines x1) (ix4 b p h d) := by
  pointwise [queries]

/-- A stored key. -/
theorem keyed_at (d : Fin 128) : keyed x0 x1 x4 x5 x7 (ix4 b h p d) = turned (headed (keys x0 (kvs x0 x4 x5)) x7) (cosines x1) (sines x1) (ix4 b p h d) := by
  pointwise [keyed]

/-- A stored value. -/
theorem values_at (kv : FVec Ideal S4x4096x8x128 .f32) (z : Fin 8) (r : Fin 512) (d : Fin 80) :
    values kv (ix5 b h z d r) = valued (fun k => kv (ix4 b ⟨z.val * 512 + r.val, by omega⟩ h ⟨64 + k.val, by omega⟩)) d := by
  pointwise [values, valued]
  have hd := d.isLt
  by_cases h' : d.val < 64
  · rw [dif_pos h', dif_pos h']
  · rw [dif_neg h', dif_neg h']
    by_cases h0 : d.val = 64
    · rw [if_pos h0, dif_pos (by omega)]
    · rw [if_neg h0, dif_neg (by omega)]
      show (((0#32 : BitVec 32).toInt : ℝ) : EReal) = 0
      norm_num

variable (m : (ℓ : Loc nD τ sig) → Buf (Elt Ideal) ℓ) (c : Dev nD)

/-- The run's queries are these. -/
theorem res_queries : res_main_v108 m c = queries (m (c.tc.loc main_arg0)) (m (c.tc.loc main_arg1)) (m (c.tc.loc main_arg2)) (m (c.tc.loc main_arg3)) (m (c.tc.loc main_arg6)) := rfl

/-- The run's keys are these. -/
theorem res_keys : res_main_v124 m c = keyed (m (c.tc.loc main_arg0)) (m (c.tc.loc main_arg1)) (m (c.tc.loc main_arg4)) (m (c.tc.loc main_arg5)) (m (c.tc.loc main_arg7)) := rfl

end Cert.PreparedIdeal.Math

end
-- ==== Proof.Prep.lean ====
/- The preparing call's claims: the reference's frame, and equal results. -/
module

public import proofs.«01_k».proof.Defs
public import proofs.«01_k».proof.Proof.PrepArray
public import proofs.«01_k».proof.Proof.PrepReference
public import Idealize.ShloMosaic.Lib.Pointwise
public import Idealize.ShloMosaic.Adequacy

@[expose] public section

set_option maxRecDepth 16384

noncomputable section

open Idealize.ShloMosaic Idealize.ShloMosaic.TcCoe Idealize.SL.Sem

namespace Cert.Prep.Math

open Cert.Layer

/-- The word of ninety-six. -/
theorem ninetysix : Ideal.ofBits .f32 0x42C00000#32 = ((96 : ℝ) : EReal) := by
  simp [Ideal.ofBits, Ideal.ieee, -EReal.coe_mul]; norm_num

/-- The word of two. -/
theorem two : Ideal.ofBits .f32 0x40000000#32 = ((2 : ℝ) : EReal) := by
  simp [Ideal.ofBits, Ideal.ieee, -EReal.coe_mul]; norm_num

/-- The named scale. -/
theorem scale_val : Named.named (F := Ideal) Cert.PrepIdeal.κ "scale" (φ := .f32) 0x3E16C740#32 = (((Real.sqrt 96)⁻¹ * (Real.log 2)⁻¹ : ℝ) : EReal) :=
  IdealRules.named_const.ideal_named_scalar _ _ _ _ rfl

/-- The named reciprocal of ninety-six. -/
theorem inv_val : Named.named (F := Ideal) Cert.PrepIdeal.κ "inv_features" (φ := .f32) 0x3C2AAAAB#32 = ((1 / 96 : ℝ) : EReal) :=
  IdealRules.named_const.ideal_named_scalar _ _ _ _ rfl

/-- Dividing by the root of ninety-six and the logarithm of two is the product with the named scale. -/
theorem scale_eq (x : EReal) : Ideal.div x (Ideal.sqrt (Ideal.ofBits .f32 0x42C00000#32) * Ideal.log (Ideal.ofBits .f32 0x40000000#32))
    = x * Named.named (F := Ideal) Cert.PrepIdeal.κ "scale" (φ := .f32) 0x3E16C740#32 := by
  have h1 : Real.sqrt 96 ≠ 0 := (Real.sqrt_pos.mpr (by norm_num)).ne'
  have h2 : Real.log 2 ≠ 0 := (Real.log_pos (by norm_num)).ne'
  rw [ninetysix, two, Ideal.sqrt_coe, Ideal.log_coe, if_neg (by norm_num), if_neg (by norm_num), ← EReal.coe_mul, Ideal.div_coe (mul_ne_zero h1 h2), scale_val,
    one_div, mul_inv]

/-- Dividing by ninety-six is the product with the named reciprocal. -/
theorem inv_eq (x : EReal) : Ideal.div x (Ideal.ofBits .f32 0x42C00000#32) = x * Named.named (F := Ideal) Cert.PrepIdeal.κ "inv_features" (φ := .f32) 0x3C2AAAAB#32 := by
  rw [ninetysix, Ideal.div_coe (by norm_num), inv_val]

/-- The reciprocal root mean square of a key, from its own features and the shared ones. -/
theorem headRms_key (kn : Fin 64 → EReal) (kr : Fin 32 → EReal) :
    headRms (fun k => if h : k.val < 64 then kn ⟨k.val, h⟩ else kr ⟨k.val - 64, by omega⟩)
      = Ideal.rsqrt (((∑ k : Fin 64, kn k * kn k) + ∑ k : Fin 32, kr k * kr k) * Named.named (F := Ideal) Cert.PrepIdeal.κ "inv_features" (φ := .f32) 0x3C2AAAAB#32 + Ideal.ofBits .f32 0x358637BD#32) := by
  unfold headRms
  rw [inv_eq]
  refine congrArg (fun z : EReal => Ideal.rsqrt (z * _ + _)) ?_
  refine (Fin.sum_univ_add (a := 64) (b := 32) _).trans ?_
  refine congrArg₂ (fun x y : EReal => x + y) (Finset.sum_congr rfl fun k _ => ?_) (Finset.sum_congr rfl fun k _ => ?_)
  · have e : (Fin.castAdd 32 k).val < 64 := k.isLt
    simp only [dif_pos e]
    rfl
  · have e : ¬ (Fin.natAdd 64 k).val < 64 := by simp
    have e2 : (⟨(Fin.natAdd 64 k).val - 64, by omega⟩ : Fin 32) = k := Fin.ext (by simp)
    simp only [dif_neg e, e2]

section entries

open Cert.PrepIdeal.Math Cert.PreparedIdeal.Math

variable (x0 : FVec Ideal Cert.PreparedIdeal.S4x4096x5760 .bf16) (x1 : IVec Cert.PreparedIdeal.S4x4096 32) (x2 : FVec Ideal Cert.PreparedIdeal.S256 .f32) (x3 : FVec Ideal Cert.PreparedIdeal.S256x768 .f32)
  (x4 : FVec Ideal Cert.PreparedIdeal.S256 .f32) (x5 : FVec Ideal Cert.PreparedIdeal.S256x1024 .f32) (x6 x7 : FVec Ideal Cert.PreparedIdeal.S96 .f32) (b : Fin 4) (h : Fin 8) (p : Fin 4096)

/-- The reference's cosine. -/
theorem cos_eq (j : Fin 16) : cosines x1 (ix4 b p h j) = cosAt x1 b p j := by
  rw [cosines_at, angles_at]
  exact congrArg Ideal.cos (mul_comm _ _)

/-- The reference's sine. -/
theorem sin_eq (j : Fin 16) : sines x1 (ix4 b p h j) = sinAt x1 b p j := by
  rw [sines_at, angles_at]
  exact congrArg Ideal.sin (mul_comm _ _)

/-- The reference's query. -/
theorem query_eq (d : Fin 128) : queries x0 x1 x2 x3 x6 (ix4 b h d p) = entryQ x0 x1 x2 x3 x6 b h p d := by
  rw [queries_at, turned_at]
  unfold entryQ query
  have e : ∀ k, scaled (headed (qs x0 x2 x3) x6) (ix4 b p h k) = featQ x0 x2 x3 b h p k * headRms (featQ x0 x2 x3 b h p) * (x6 (ix1 k) *
      Named.named (F := Ideal) Cert.PrepIdeal.κ "scale" (φ := .f32) 0x3E16C740#32) := by
    intro k
    rw [scaled_at, headed_at, scale_eq, mul_assoc]
    have e1 : ∀ k, qs x0 x2 x3 (ix4 b p h k) = featQ x0 x2 x3 b h p k := fun k => qs_at x0 x2 x3 b p h k
    rw [funext e1, e1]
  rw [funext e, funext (cos_eq x1 b h p), funext (sin_eq x1 b h p)]

/-- The reference's key. -/
theorem key_eq (d : Fin 128) : keyed x0 x1 x4 x5 x7 (ix4 b h p d) = entryK x0 x1 x4 x5 x7 b h p d := by
  rw [keyed_at, turned_at]
  unfold entryK key
  have e1 : ∀ k, keys x0 (kvs x0 x4 x5) (ix4 b p h k) = if h' : k.val < 64 then featKV x0 x4 x5 b h p ⟨k.val, by omega⟩ else x0 (ix3 b p ⟨5632 + (k.val - 64), by omega⟩) := by
    intro k
    rw [keys_at]
    refine dite_congr rfl (fun h' => ?_) (fun h' => rfl)
    exact kvs_at x0 x4 x5 b p h _
  have e : ∀ k, headed (keys x0 (kvs x0 x4 x5)) x7 (ix4 b p h k) = (if h' : k.val < 64 then featKV x0 x4 x5 b h p ⟨k.val, by omega⟩ else x0 (ix3 b p ⟨5632 + (k.val - 64), by omega⟩)) *
      Ideal.rsqrt (((∑ k : Fin 64, featKV x0 x4 x5 b h p ⟨k.val, by omega⟩ * featKV x0 x4 x5 b h p ⟨k.val, by omega⟩) + ∑ k : Fin 32, x0 (ix3 b p ⟨5632 + k.val, by omega⟩) * x0 (ix3 b p ⟨5632 + k.val, by omega⟩)) *
        Named.named (F := Ideal) Cert.PrepIdeal.κ "inv_features" (φ := .f32) 0x3C2AAAAB#32 + Ideal.ofBits .f32 0x358637BD#32) * x7 (ix1 k) := by
    intro k
    rw [headed_at, funext e1, e1]
    exact congrArg (fun z : EReal => _ * z * _) (headRms_key (fun k => featKV x0 x4 x5 b h p ⟨k.val, by omega⟩) (fun k => x0 (ix3 b p ⟨5632 + k.val, by omega⟩)))
  rw [funext e, funext (cos_eq x1 b h p), funext (sin_eq x1 b h p)]

/-- The reference's value. -/
theorem value_eq (z : Fin 8) (d : Fin 80) (r : Fin 512) :
    values (kvs x0 x4 x5) (ix5 b h z d r) = entryV x0 x4 x5 b h ⟨z.val * 512 + r.val, by omega⟩ d := by
  rw [values_at]
  unfold entryV
  exact congrArg (fun f => valued f d) (funext fun k => kvs_at x0 x4 x5 b _ h _)

end entries

/-- The reference of the preparing call runs, keeps its arguments, and holds no semaphore. -/
theorem reference_frame (m : (ℓ : Loc Cert.PreparedIdeal.nD Cert.PreparedIdeal.τ Cert.PreparedIdeal.sig) → Buf (Elt Ideal) ℓ)
    (g : Dev Cert.PreparedIdeal.nD → PrngReg) :
    θ_run (Cert.PreparedIdeal.defs (F := Ideal)) (onTc (τ := Cert.PreparedIdeal.τ) (Cert.PreparedIdeal.main (F := Ideal)))
      ⟨m, fun _ => 0, g⟩ (fun r => (∀ c : Dev Cert.PreparedIdeal.nD,
        r.2.mem (c.tc.loc Cert.PreparedIdeal.main_arg0) = m (c.tc.loc Cert.PreparedIdeal.main_arg0)
        ∧ r.2.mem (c.tc.loc Cert.PreparedIdeal.main_arg1) = m (c.tc.loc Cert.PreparedIdeal.main_arg1)
        ∧ r.2.mem (c.tc.loc Cert.PreparedIdeal.main_arg2) = m (c.tc.loc Cert.PreparedIdeal.main_arg2)
        ∧ r.2.mem (c.tc.loc Cert.PreparedIdeal.main_arg3) = m (c.tc.loc Cert.PreparedIdeal.main_arg3)
        ∧ r.2.mem (c.tc.loc Cert.PreparedIdeal.main_arg4) = m (c.tc.loc Cert.PreparedIdeal.main_arg4)
        ∧ r.2.mem (c.tc.loc Cert.PreparedIdeal.main_arg5) = m (c.tc.loc Cert.PreparedIdeal.main_arg5)
        ∧ r.2.mem (c.tc.loc Cert.PreparedIdeal.main_arg6) = m (c.tc.loc Cert.PreparedIdeal.main_arg6)
        ∧ r.2.mem (c.tc.loc Cert.PreparedIdeal.main_arg7) = m (c.tc.loc Cert.PreparedIdeal.main_arg7)) ∧ r.2.sem = fun _ => 0) :=
  (θ_run Cert.PreparedIdeal.defs _ _).mono
    (fun r h => ⟨fun c => (h c).2.2.2, Idealize.ShloMosaic.sem_eq_zero_of_no_sems (by decide) r.2⟩)
    (Cert.PreparedIdeal.Value.run (F := Ideal) m g)

/-- The preparing call and its reference leave equal results. -/
theorem algebraic : Cert.algebraic_PrepIdeal_PreparedIdeal (hPrepIdeal := Cert.PrepIdeal.Gen.facts)
    (hPreparedIdeal := Cert.PreparedIdeal.Gen.facts) := by
  intro m g m' g' _ hargs
  refine ⟨fun c => Cert.PrepIdeal.Math.arrayQ m c, fun c => Cert.PrepIdeal.Math.arrayK m c, fun c => Cert.PrepIdeal.Math.arrayV m c, ?_, ?_⟩
  · exact (θ_run Cert.PrepIdeal.defs _ _).mono (fun r h c => ⟨(h c).1.trans (Cert.PrepIdeal.Math.final_q m c), (h c).2.1.trans (Cert.PrepIdeal.Math.final_k m c),
      (h c).2.2.1.trans (Cert.PrepIdeal.Math.final_v m c), (h c).2.2.2⟩) (Cert.PrepIdeal.Value.run_blocks m g)
  · refine (θ_run Cert.PreparedIdeal.defs _ _).mono (fun r h c => ⟨(h c).1.trans ?_, (h c).2.1.trans ?_, (h c).2.2.1.trans ?_, (h c).2.2.2⟩) (Cert.PreparedIdeal.Value.run (F := Ideal) m' g')
    · obtain ⟨a0, a1, a2, a3, a4, a5, a6, a7⟩ := hargs c
      rw [Cert.PreparedIdeal.Math.res_queries]
      funext i
      obtain ⟨b, h, d, p, rfl⟩ : ∃ b h d p, i = ix4 b h d p := ⟨i 0, i 1, i 2, i 3, by idx_vars i⟩
      refine (query_eq (m' (c.tc.loc Cert.PreparedIdeal.main_arg0)) (m' (c.tc.loc Cert.PreparedIdeal.main_arg1)) (m' (c.tc.loc Cert.PreparedIdeal.main_arg2)) (m' (c.tc.loc Cert.PreparedIdeal.main_arg3)) (m' (c.tc.loc Cert.PreparedIdeal.main_arg6)) b h p d).trans ?_
      rw [a0, a1, a2, a3, a6]
      rfl
    · obtain ⟨a0, a1, a2, a3, a4, a5, a6, a7⟩ := hargs c
      rw [Cert.PreparedIdeal.Math.res_keys]
      funext i
      obtain ⟨b, h, p, d, rfl⟩ : ∃ b h p d, i = ix4 b h p d := ⟨i 0, i 1, i 2, i 3, by idx_vars i⟩
      refine (key_eq (m' (c.tc.loc Cert.PreparedIdeal.main_arg0)) (m' (c.tc.loc Cert.PreparedIdeal.main_arg1)) (m' (c.tc.loc Cert.PreparedIdeal.main_arg4)) (m' (c.tc.loc Cert.PreparedIdeal.main_arg5)) (m' (c.tc.loc Cert.PreparedIdeal.main_arg7)) b h p d).trans ?_
      rw [a0, a1, a4, a5, a7]
      rfl
    · obtain ⟨a0, a1, a2, a3, a4, a5, a6, a7⟩ := hargs c
      funext i
      obtain ⟨b, h, z, d, r, rfl⟩ : ∃ b h z d r, i = ix5 b h z d r := ⟨i 0, i 1, i 2, i 3, i 4, by idx_vars i⟩
      refine (value_eq (m' (c.tc.loc Cert.PreparedIdeal.main_arg0)) (m' (c.tc.loc Cert.PreparedIdeal.main_arg4)) (m' (c.tc.loc Cert.PreparedIdeal.main_arg5)) b h z d r).trans ?_
      rw [a0, a4, a5]
      rfl

end Cert.Prep.Math

end
-- ==== Proof.RouteSort.lean ====
/- The two greatest of eight logits and their positions: as a stable sort gives them, and as repeated maxima find them. -/
module

public import Idealize.ShloMosaic.Lib.Pointwise
public import Idealize.ShloMosaic.Lib.SortFacts
public import Idealize.ShloMosaic.Lib.WordArith

@[expose] public section

set_option maxRecDepth 16384

noncomputable section

open Idealize.ShloMosaic Idealize.ShloMosaic.TcCoe Idealize.SL.Sem

namespace Cert.Layer

/-- The position of the `k`-th greatest of eight logits, of equal ones the lower position first. -/
def best (f : Fin 8 → EReal) (k : Fin 8) : Fin 8 := sortedFrom (fun a b => decide (f b < f a)) k

/-- One position comes before another: its logit is greater, or the logits are equal and it is the lower position. -/
def before (f : Fin 8 → EReal) (a b : Fin 8) : Bool := decide (f b < f a ∨ (f a = f b ∧ a < b))

theorem before_iff {f : Fin 8 → EReal} {a b : Fin 8} : before f a b = true ↔ f b < f a ∨ (f a = f b ∧ a < b) := by
  unfold before; exact decide_eq_true_iff

theorem not_before_iff {f : Fin 8 → EReal} {a b : Fin 8} : before f a b = false ↔ f a ≤ f b ∧ (f a = f b → b ≤ a) := by
  unfold before
  rw [decide_eq_false_iff_not]
  constructor
  · intro h
    exact ⟨not_lt.mp fun c => h (Or.inl c), fun e => not_lt.mp fun c => h (Or.inr ⟨e, c⟩)⟩
  · rintro ⟨h1, h2⟩ (c | ⟨e, c⟩)
    · exact absurd c (not_lt.mpr h1)
    · exact absurd c (not_lt.mpr (h2 e))

/-- Two relations that agree wherever the second element stands before the first in the list sort it alike. -/
theorem stableSort_pair {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorting by the logits alone, stably, sorts by logit and position. -/
theorem best_eq (f : Fin 8 → EReal) : best f = sortedFrom (before f) := by
  have e : sortPositions 8 (fun a b => decide (f b < f a)) = sortPositions 8 (before f) := by
    refine stableSort_pair _ _ _ ((List.pairwise_lt_finRange 8).imp ?_)
    intro a b hab
    unfold before
    refine decide_eq_decide.mpr ⟨Or.inl, ?_⟩
    rintro (h | ⟨_, h⟩)
    · exact h
    · exact absurd h (not_lt.mpr hab.le)
  funext k
  unfold best sortedFrom
  rw [List.get_of_eq e]
  rfl

theorem best_injective (f : Fin 8 → EReal) : Function.Injective (best f) := sortedFrom_injective _

theorem best_surjective (f : Fin 8 → EReal) : Function.Surjective (best f) := sortedFrom_surjective _

/-- No later position comes before an earlier one. -/
theorem best_ordered (f : Fin 8 → EReal) (i j : Fin 8) (hij : i < j) : before f (best f j) (best f i) = false := by
  rw [best_eq]
  refine sortedFrom_noInversion (before f) (before f) ?_ (fun _ _ h => h) ?_ i j hij
  · intro a b h
    rw [not_before_iff]
    rcases before_iff.mp h with h | ⟨e, h⟩
    · exact ⟨h.le, fun e => absurd e h.ne⟩
    · exact ⟨e.symm.le, fun _ => h.le⟩
  · intro a b c h1 h2
    rw [not_before_iff] at h1 h2 ⊢
    refine ⟨h1.1.trans h2.1, fun e => ?_⟩
    have e1 : f a = f b := le_antisymm h1.1 (e ▸ h2.1)
    exact (h2.2 (e1.symm.trans e)).trans (h1.2 e1)

/-- Every logit is at most the greatest. -/
theorem top_max (f : Fin 8 → EReal) (l : Fin 8) : f l ≤ f (best f 0) := by
  obtain ⟨k, rfl⟩ := best_surjective f l
  rcases eq_or_ne k 0 with rfl | hk
  · exact le_rfl
  · exact (not_before_iff.mp (best_ordered f 0 k (Fin.pos_iff_ne_zero.mpr hk))).1

/-- Of the positions of the greatest logit, the chosen one is the lowest. -/
theorem top_least (f : Fin 8 → EReal) (l : Fin 8) (h : f l = f (best f 0)) : best f 0 ≤ l := by
  obtain ⟨k, rfl⟩ := best_surjective f l
  rcases eq_or_ne k 0 with rfl | hk
  · exact le_rfl
  · exact (not_before_iff.mp (best_ordered f 0 k (Fin.pos_iff_ne_zero.mpr hk))).2 h

theorem second_ne (f : Fin 8 → EReal) : best f 1 ≠ best f 0 := fun h => absurd (best_injective f h) (by decide)

/-- Every other logit is at most the second. -/
theorem second_max (f : Fin 8 → EReal) (l : Fin 8) (hl : l ≠ best f 0) : f l ≤ f (best f 1) := by
  obtain ⟨k, rfl⟩ := best_surjective f l
  have hk : k ≠ 0 := fun e => hl (e ▸ rfl)
  rcases eq_or_ne k 1 with rfl | hk1
  · exact le_rfl
  · exact (not_before_iff.mp (best_ordered f 1 k (by omega))).1

/-- Of the other positions of the second logit, the chosen one is the lowest. -/
theorem second_least (f : Fin 8 → EReal) (l : Fin 8) (hl : l ≠ best f 0) (h : f l = f (best f 1)) : best f 1 ≤ l := by
  obtain ⟨k, rfl⟩ := best_surjective f l
  have hk : k ≠ 0 := fun e => hl (e ▸ rfl)
  rcases eq_or_ne k 1 with rfl | hk1
  · exact le_rfl
  · exact (not_before_iff.mp (best_ordered f 1 k (by omega))).2 h

/-- The maximum of eight numbers, folded from the least one. -/
theorem fold_max {f : Fin 8 → EReal} (i : Fin 8) (h : ∀ l, f l ≤ f i) : (Finset.univ : Finset (Fin 8)).fold max ⊥ f = f i :=
  le_antisymm ((Finset.fold_max_le _).mpr ⟨bot_le, fun l _ => h l⟩) ((Finset.le_fold_max _).mpr (Or.inr ⟨i, Finset.mem_univ _, le_rfl⟩))

/-- The greatest logit, as a fold. -/
theorem fold_top (f : Fin 8 → EReal) : (Finset.univ : Finset (Fin 8)).fold max ⊥ f = f (best f 0) := fold_max _ (top_max f)

/-- The logits with the greatest one's taken out. -/
def rest (f : Fin 8 → EReal) (l : Fin 8) : EReal := if l = best f 0 then ⊥ else f l

theorem rest_second (f : Fin 8 → EReal) : rest f (best f 1) = f (best f 1) := if_neg (second_ne f)

/-- The second logit, as a fold. -/
theorem fold_second (f : Fin 8 → EReal) : (Finset.univ : Finset (Fin 8)).fold max ⊥ (rest f) = f (best f 1) := by
  rw [fold_max (f := rest f) (best f 1) fun l => ?_, rest_second]
  rw [rest_second]
  unfold rest
  split
  · exact bot_le
  · exact second_max f l ‹_›

/-- The least position of those that qualify, among words: positions that do not qualify count as eight. -/
theorem fold_least {p : Fin 8 → Prop} [DecidablePred p] (i : Fin 8) (hi : p i) (hl : ∀ l, p l → i ≤ l) :
    (Finset.univ : Finset (Fin 8)).fold IntOp.minsi 2147483647#32 (fun l => if p l then BitVec.ofNat 32 l.val else 8#32) = BitVec.ofNat 32 i.val := by
  have step : ∀ a b : ℕ, a < 2 ^ 31 → b < 2 ^ 31 → IntOp.minsi (BitVec.ofNat 32 a) (BitVec.ofNat 32 b) = BitVec.ofNat 32 (min a b) := by
    intro a b ha hb
    apply BitVec.eq_of_toNat_eq
    rw [WordArith.toNat_minsi_of_lt _ _ (by rw [BitVec.toNat_ofNat]; omega) (by rw [BitVec.toNat_ofNat]; omega)]
    simp only [BitVec.toNat_ofNat]
    omega
  have key : ∀ s : Finset (Fin 8), s.fold IntOp.minsi 2147483647#32 (fun l => if p l then BitVec.ofNat 32 l.val else 8#32)
      = BitVec.ofNat 32 (s.fold min 2147483647 (fun l => if p l then l.val else 8)) ∧ s.fold min 2147483647 (fun l => if p l then l.val else 8) < 2 ^ 31 := by
    intro s
    induction s using Finset.induction_on with
    | empty => exact ⟨rfl, by simp⟩
    | insert a s ha ih =>
      rw [Finset.fold_insert ha, Finset.fold_insert ha, ih.1]
      have e : (if p a then BitVec.ofNat 32 a.val else 8#32) = BitVec.ofNat 32 (if p a then a.val else 8) := by split <;> rfl
      have hlt : (if p a then a.val else 8) < 2 ^ 31 := by split <;> omega
      rw [e, step _ _ hlt ih.2]
      exact ⟨rfl, by have := ih.2; omega⟩
  rw [(key _).1]
  congr 1
  refine le_antisymm ((Finset.fold_min_le _).mpr (Or.inr ⟨i, Finset.mem_univ _, by rw [if_pos hi]⟩)) ((Finset.le_fold_min _).mpr ⟨by omega, fun l _ => ?_⟩)
  split
  · exact hl l ‹_›
  · omega

/-- The position of the greatest logit, as the call finds it. -/
theorem fold_top_pos (f : Fin 8 → EReal) :
    (Finset.univ : Finset (Fin 8)).fold IntOp.minsi 2147483647#32 (fun l => if f l = f (best f 0) then BitVec.ofNat 32 l.val else 8#32) = BitVec.ofNat 32 (best f 0).val :=
  fold_least _ rfl (top_least f)

/-- The position of the second logit, as the call finds it; the second logit is not the least number. -/
theorem fold_second_pos (f : Fin 8 → EReal) (h : f (best f 1) ≠ ⊥) :
    (Finset.univ : Finset (Fin 8)).fold IntOp.minsi 2147483647#32 (fun l => if rest f l = f (best f 1) then BitVec.ofNat 32 l.val else 8#32) = BitVec.ofNat 32 (best f 1).val := by
  refine fold_least _ (rest_second f) fun l hl => ?_
  have hne : l ≠ best f 0 := by
    rintro rfl
    rw [show rest f (best f 0) = ⊥ from if_pos rfl] at hl
    exact h hl.symm
  exact second_least f l hne (by rw [← hl]; exact (if_neg hne).symm)

end Cert.Layer

end
-- ==== Proof.RouteReal.lean ====
/- Real tokens have real logits, and the softmax of a pair of real logits. -/
module

public import proofs.«01_k».proof.Proof.Norm
public import proofs.«01_k».proof.Proof.RouteSort

@[expose] public section

set_option maxRecDepth 16384

noncomputable section

open Idealize.ShloMosaic Idealize.ShloMosaic.TcCoe Idealize.SL.Sem

namespace Cert.Layer

/-- The pattern of the negative infinity. -/
theorem bot : Ideal.ofBits .f32 0xFF800000#32 = ⊥ := by simp [Ideal.ofBits, Ideal.ieee]

theorem width : Ideal.ofBits .f32 0x44800000#32 = ((1024 : ℝ) : EReal) := by
  simp [Ideal.ofBits, Ideal.ieee, -EReal.coe_mul]; norm_num

theorem one : Ideal.ofBits .f32 0x3F800000#32 = ((1 : ℝ) : EReal) := by
  simp [Ideal.ofBits, Ideal.ieee, -EReal.coe_mul]; norm_num

theorem eps : ∃ e : ℝ, 0 < e ∧ Ideal.ofBits .f32 0x358637BD#32 = (e : EReal) := by
  refine ⟨(8796093 : ℝ) * 2 ^ (-43 : ℤ), by positivity, ?_⟩
  simp [Ideal.ofBits, Ideal.ieee, -EReal.coe_mul]

theorem real_sum {n : ℕ} (f : Fin n → ℝ) : ∑ k : Fin n, (f k : EReal) = ((∑ k : Fin n, f k : ℝ) : EReal) := by
  induction n with
  | zero => simp
  | succ n ih => rw [Fin.sum_univ_succ, Fin.sum_univ_succ, ih, EReal.coe_add]

/-- A real token, normalised with a real gain, is real. -/
theorem normed_real (x g : Fin 1024 → ℝ) (d : Fin 1024) : ∃ y : ℝ, normed (fun k => (x k : EReal)) (fun k => (g k : EReal)) d = (y : EReal) := by
  obtain ⟨e, he, h⟩ := eps
  have hs : (0 : ℝ) < (∑ k : Fin 1024, x k * x k) * (1 / 1024) + e :=
    add_pos_of_nonneg_of_pos (mul_nonneg (Finset.sum_nonneg fun k _ => mul_self_nonneg _) (by norm_num)) he
  refine ⟨x d * (Real.sqrt ((∑ k : Fin 1024, x k * x k) * (1 / 1024) + e))⁻¹ * g d, ?_⟩
  unfold normed
  rw [h, width, Ideal.div_coe (by norm_num)]
  simp only [← EReal.coe_mul]
  rw [real_sum, ← EReal.coe_mul, ← EReal.coe_add, Ideal.rsqrt_coe, if_neg hs.le.not_gt, if_neg hs.ne', ← EReal.coe_mul, ← EReal.coe_mul]

/-- A sum of products of reals is real. -/
theorem dot_real {n : ℕ} (f g : Fin n → EReal) (hf : ∀ k, ∃ y : ℝ, f k = (y : EReal)) (hg : ∀ k, ∃ y : ℝ, g k = (y : EReal)) :
    ∃ y : ℝ, ∑ k : Fin n, f k * g k = (y : EReal) := by
  choose a ha using hf
  choose b hb using hg
  refine ⟨∑ k, a k * b k, ?_⟩
  rw [← real_sum]
  exact Finset.sum_congr rfl fun k _ => by rw [ha, hb, EReal.coe_mul]

/-- The softmax of the pair `t`. -/
def pair (t : Fin 2 → EReal) (j : Fin 2) : EReal :=
  Ideal.div (Ideal.exp (t j - max ⊥ (Finset.univ.fold max ⊥ t))) (∑ k : Fin 2, Ideal.exp (t k - max ⊥ (Finset.univ.fold max ⊥ t)))

theorem fold_two (t : Fin 2 → EReal) (h : t 1 ≤ t 0) : max ⊥ ((Finset.univ : Finset (Fin 2)).fold max ⊥ t) = t 0 := by
  have e : (Finset.univ : Finset (Fin 2)).fold max ⊥ t = t 0 := by
    rw [Fin.univ_succ]
    simp [h]
  rw [e]
  exact max_eq_right bot_le

/-- THE WEIGHTS: of two real logits, the greater first, the softmax is the quotient of one by one plus the exponential of the
    difference, and that exponential times the quotient. -/
theorem pair_eq (t : Fin 2 → EReal) (a b : ℝ) (ha : t 0 = (a : EReal)) (hb : t 1 = (b : EReal)) (h : t 1 ≤ t 0) (j : Fin 2) :
    pair t j = if j = 0 then Ideal.div (Ideal.ofBits .f32 0x3F800000#32) (Ideal.ofBits .f32 0x3F800000#32 + Ideal.exp (t 1 - t 0))
      else Ideal.exp (t 1 - t 0) * Ideal.div (Ideal.ofBits .f32 0x3F800000#32) (Ideal.ofBits .f32 0x3F800000#32 + Ideal.exp (t 1 - t 0)) := by
  have hp : (1 : ℝ) + Real.exp (b - a) ≠ 0 := by positivity
  unfold pair
  rw [fold_two t h, Fin.sum_univ_two, ha, hb, one, ← EReal.coe_sub, ← EReal.coe_sub, Ideal.exp_coe, Ideal.exp_coe, sub_self, Real.exp_zero, ← EReal.coe_add,
    Ideal.div_coe hp, Ideal.div_coe hp, ← EReal.coe_mul, ← EReal.coe_mul]
  match j with
  | 0 => rw [if_pos rfl, ha, ← EReal.coe_sub, Ideal.exp_coe, sub_self, Real.exp_zero, ← EReal.coe_mul]
  | 1 => rw [if_neg (by decide), hb, ← EReal.coe_sub, Ideal.exp_coe, ← EReal.coe_mul, one_mul]

end Cert.Layer

end
-- ==== Proof.RouteBlock.lean ====
/- What one grid point of the routing call computes from its block of tokens. -/
module

public import proofs.«01_k».proof.Proof.Gen.RouteIdeal.Value
public import Idealize.ShloMosaic.Lib.Pipeline.ValueKit
public import Idealize.ShloMosaic.Lib.Pointwise
public import proofs.«01_k».proof.Proof.Norm
public import proofs.«01_k».proof.Proof.RouteReal

@[expose] public section

set_option maxRecDepth 16384

noncomputable section

open Idealize.ShloMosaic Idealize.ShloMosaic.TcCoe Idealize.SL.Sem

namespace Cert.RouteIdeal.Math

open Cert.RouteIdeal Cert.RouteIdeal.Gen Cert.Layer

theorem sel {α : Type} (a b : BitVec 32) (x y : α) : Scalar.select (IntOp.cmpi CmpIPredicate.eq a b) x y = if a = b then x else y := by
  by_cases h : a = b
  · subst h
    simp [Scalar.select, IntOp.cmpi]
  · rw [if_neg h]
    have e : (a == b) = false := by simpa using h
    simp [Scalar.select, IntOp.cmpi, e]

/-- A normalised entry of the block. -/
theorem pay4_at (x : Vec Ideal S1024x1024 .f32) (g : Vec Ideal S1x1024 .f32) (r d : Fin 1024) :
    k0_pay4 (F := Ideal) x g (ix2 r d) = normed (fun k => x (ix2 r k)) (fun k => g (ix2 0 k)) d := by
  pointwise [k0_pay4]
  rfl

/-- A token's logits. -/
def lg (h : FVec Ideal S1024x1024 .f32) (w : Vec Ideal S1024x8 .f32) (r : Fin 1024) (e : Fin 8) : EReal :=
  ∑ k : Fin 1024, h (ix2 r k) * w (ix2 k e)

theorem pay14_at (h : FVec Ideal S1024x1024 .f32) (w : Vec Ideal S1024x8 .f32) (r : Fin 1024) (e : Fin 8) :
    k0_pay14 (F := Ideal) h w (ix2 r e) = lg h w r e := by
  pointwise [k0_pay14, lg]

/-- The greatest logit. -/
theorem pay15_at (h : FVec Ideal S1024x1024 .f32) (w : Vec Ideal S1024x8 .f32) (r : Fin 1024) :
    k0_pay15 (F := Ideal) h w (ix2 r 0) = lg h w r (best (lg h w r) 0) := by
  rw [← fold_top (lg h w r), ← bot]
  pointwise [k0_pay15]
  simp only [pay14_at]

/-- Its expert. -/
theorem pay16_at (h : FVec Ideal S1024x1024 .f32) (w : Vec Ideal S1024x8 .f32) (r : Fin 1024) :
    k0_pay16 (F := Ideal) h w (ix2 r 0) = BitVec.ofNat 32 (best (lg h w r) 0).val := by
  rw [← fold_top_pos]
  pointwise [k0_pay16]
  simp only [pay14_at, pay15_at]

/-- The logits without the greatest. -/
theorem pay17_at (h : FVec Ideal S1024x1024 .f32) (w : Vec Ideal S1024x8 .f32) (r : Fin 1024) (e : Fin 8) :
    k0_pay17 (F := Ideal) h w (ix2 r e) = rest (lg h w r) e := by
  unfold rest
  rw [← bot]
  pointwise [k0_pay17]
  simp only [pay14_at, pay16_at]
  rw [sel]
  refine if_congr ⟨fun h => Fin.ext ?_, fun h => by rw [h]⟩ rfl rfl
  have := congrArg BitVec.toNat h
  rwa [BitVec.toNat_ofNat, BitVec.toNat_ofNat, Nat.mod_eq_of_lt (by omega), Nat.mod_eq_of_lt (by omega)] at this

/-- The second logit. -/
theorem pay18_at (h : FVec Ideal S1024x1024 .f32) (w : Vec Ideal S1024x8 .f32) (r : Fin 1024) :
    k0_pay18 (F := Ideal) h w (ix2 r 0) = lg h w r (best (lg h w r) 1) := by
  rw [← fold_second (lg h w r), ← bot]
  pointwise [k0_pay18]
  simp only [pay17_at]

/-- Its expert. -/
theorem pay19_at (h : FVec Ideal S1024x1024 .f32) (w : Vec Ideal S1024x8 .f32) (r : Fin 1024) (hr : lg h w r (best (lg h w r) 1) ≠ ⊥) :
    k0_pay19 (F := Ideal) h w (ix2 r 0) = BitVec.ofNat 32 (best (lg h w r) 1).val := by
  rw [← fold_second_pos _ hr]
  pointwise [k0_pay19]
  simp only [pay17_at, pay18_at]

/-- The stored experts. -/
theorem pay2_at (a b : IVec S1024x1 32) (r : Fin 1024) (j : Fin 2) :
    k0_pay2 a b (ix2 r j) = if j = 0 then a (ix2 r 0) else b (ix2 r 0) := by
  match j with
  | 0 => pointwise [k0_pay2, k0_pay1]
  | 1 =>
    pointwise [k0_pay2, k0_pay1]
    rw [sel, if_neg (by decide)]

/-- The stored weights. -/
theorem pay3_at (a b : FVec Ideal S1024x1 .f32) (r : Fin 1024) (j : Fin 2) :
    k0_pay3 (F := Ideal) a b (ix2 r j) = if j = 0 then Ideal.div (Ideal.ofBits .f32 0x3F800000#32) (Ideal.ofBits .f32 0x3F800000#32 + Ideal.exp (b (ix2 r 0) - a (ix2 r 0)))
      else Ideal.exp (b (ix2 r 0) - a (ix2 r 0)) * Ideal.div (Ideal.ofBits .f32 0x3F800000#32) (Ideal.ofBits .f32 0x3F800000#32 + Ideal.exp (b (ix2 r 0) - a (ix2 r 0))) := by
  match j with
  | 0 => pointwise [k0_pay3, k0_pay1]
  | 1 =>
    pointwise [k0_pay3, k0_pay1]
    rw [sel, if_neg (by decide)]

/-- A stretch of 128 normalised columns, as stored. -/
theorem cut (h : FVec Ideal S1024x1024 .f32) (o : ℕ) (hs : S1024x1024.Slices ![0, o] S1024x128) (r : Fin 1024) (b : Fin 128) (d : Fin 1024) (hd : d.val = o + b.val) :
    shapeCast S1024x1x128 (extractStridedSlice S1024x128 ![0, o] h hs) shapeCasts_S1024x128_S1024x1x128 (ix3 r 0 b) = h (ix2 r d) := by
  pointwise
  exact congrArg (fun e => h (ix2 r e)) (Fin.ext hd.symm)

end Cert.RouteIdeal.Math

end
-- ==== Proof.RouteStored.lean ====
/- What one grid point of the routing call stores. -/
module

public import proofs.«01_k».proof.Proof.RouteBlock

@[expose] public section

set_option maxRecDepth 16384

noncomputable section

open Idealize.ShloMosaic Idealize.ShloMosaic.TcCoe Idealize.SL.Sem

namespace Cert.RouteIdeal.Math

open Cert.RouteIdeal Cert.RouteIdeal.Gen Cert.Layer

/-- A token's logits, from a block of tokens, the gain and the weight. -/
def logit (x : Fin 1024 → EReal) (g : Fin 1024 → EReal) (w : Fin 1024 → Fin 8 → EReal) (e : Fin 8) : EReal :=
  ∑ k : Fin 1024, normed x g k * w k e

theorem lg_eq (x0 : Vec Ideal S1024x1024 .f32) (x1 : Vec Ideal S1x1024 .f32) (x2 : Vec Ideal S1024x8 .f32) (r : Fin 1024) :
    lg (k0_pay4 (F := Ideal) x0 x1) x2 r = logit (fun k => x0 (ix2 r k)) (fun k => x1 (ix2 0 k)) (fun k e => x2 (ix2 k e)) :=
  funext fun e => Finset.sum_congr rfl fun k _ => congrArg (fun z : EReal => z * x2 (ix2 k e)) (pay4_at x0 x1 r k)

/-- The normalised block, as the stores name it. -/
theorem pay20_eq (x0 : Vec Ideal S1024x1024 .f32) (x1 : Vec Ideal S1x1024 .f32) (x2 : Vec Ideal S1024x8 .f32) :
    k0_pay20 (F := Ideal) x0 x1 x2 = k0_pay4 x0 x1 := by
  unfold k0_pay20
  frame_out

/-- WHAT A POINT STORES of the normalised tokens. -/
theorem out_h (x0 : Vec Ideal S1024x1024 .f32) (x1 : Vec Ideal S1x1024 .f32) (x2 : Vec Ideal S1024x8 .f32) (r : Fin 1024) (a : Fin 8) (b : Fin 128) :
    out0_3 (F := Ideal) x0 x1 x2 (ix3 r a b) = normed (fun k => x0 (ix2 r k)) (fun k => x1 (ix2 0 k)) ⟨a.val * 128 + b.val, by omega⟩ := by
  rw [← pay4_at]
  generalize hy : (ix3 r a b : S1024x8x128.Idx) = y
  frame_out
  canon_tiles x h'
  all_goals obtain ⟨r', z, b', rfl⟩ : ∃ r' z b', x = ix3 r' z b' := ⟨x 0, x 1, x 2, by idx_vars x⟩
  all_goals subst hy
  all_goals obtain rfl : z = 0 := Subsingleton.elim _ _
  all_goals obtain rfl : r = r' := Fin.ext (by simpa using h'0)
  all_goals obtain rfl : b = b' := Fin.ext (by simpa using h'2)
  · rw [pay20_eq]
    exact cut _ _ _ r b ⟨a.val * 128 + b.val, by omega⟩ (by have e : a.val = 7 := h'1; show a.val * 128 + b.val = _; omega)
  · rw [pay20_eq]
    exact cut _ _ _ r b ⟨a.val * 128 + b.val, by omega⟩ (by have e : a.val = 6 := h'1; show a.val * 128 + b.val = _; omega)
  · rw [pay20_eq]
    exact cut _ _ _ r b ⟨a.val * 128 + b.val, by omega⟩ (by have e : a.val = 5 := h'1; show a.val * 128 + b.val = _; omega)
  · exact cut (k0_pay4 x0 x1) 512 slices_S1024x1024_o0_512_S1024x128 r b ⟨a.val * 128 + b.val, by omega⟩ (by have e : a.val = 4 := h'1; show a.val * 128 + b.val = _; omega)
  · exact cut _ _ _ r b ⟨a.val * 128 + b.val, by omega⟩ (by have e : a.val = 3 := h'1; show a.val * 128 + b.val = _; omega)
  · exact cut _ _ _ r b ⟨a.val * 128 + b.val, by omega⟩ (by have e : a.val = 2 := h'1; show a.val * 128 + b.val = _; omega)
  · exact cut _ _ _ r b ⟨a.val * 128 + b.val, by omega⟩ (by have e : a.val = 1 := h'1; show a.val * 128 + b.val = _; omega)
  · exact cut _ _ _ r b ⟨a.val * 128 + b.val, by omega⟩ (by have e : a.val = 0 := h'1; show a.val * 128 + b.val = _; omega)

/-- WHAT A POINT STORES of the experts. -/
theorem out_i (x0 : Vec Ideal S1024x1024 .f32) (x1 : Vec Ideal S1x1024 .f32) (x2 : Vec Ideal S1024x8 .f32) (r : Fin 1024) (j : Fin 2)
    (L : Fin 8 → EReal) (hL : L = logit (fun k => x0 (ix2 r k)) (fun k => x1 (ix2 0 k)) (fun k e => x2 (ix2 k e))) (hr : L (best L 1) ≠ ⊥) :
    out0_4 (F := Ideal) x0 x1 x2 (ix2 r j) = BitVec.ofNat 32 (best L ⟨j.val, by omega⟩).val := by
  rw [← lg_eq] at hL
  subst hL
  frame_out
  rw [pay20_eq, pay2_at, pay16_at, pay19_at _ _ _ hr]
  match j with
  | 0 => rfl
  | 1 => rfl

/-- WHAT A POINT STORES of the weights. -/
theorem out_w (x0 : Vec Ideal S1024x1024 .f32) (x1 : Vec Ideal S1x1024 .f32) (x2 : Vec Ideal S1024x8 .f32) (r : Fin 1024) (j : Fin 2)
    (L : Fin 8 → EReal) (hL : L = logit (fun k => x0 (ix2 r k)) (fun k => x1 (ix2 0 k)) (fun k e => x2 (ix2 k e))) (hr : ∀ e, ∃ y : ℝ, L e = (y : EReal)) :
    out0_5 (F := Ideal) x0 x1 x2 (ix2 r j) = pair (fun k => L (best L ⟨k.val, by omega⟩)) j := by
  obtain ⟨a, ha⟩ := hr (best L 0)
  obtain ⟨b, hb⟩ := hr (best L 1)
  rw [pair_eq (fun k : Fin 2 => L (best L ⟨k.val, by omega⟩)) a b ha hb (top_max L _) j]
  rw [← lg_eq] at hL
  subst hL
  frame_out
  rw [pay20_eq, pay3_at, pay15_at, pay18_at]
  rfl

end Cert.RouteIdeal.Math

end
-- ==== Proof.RouteArray.lean ====
/- What the routing call leaves in its result arrays. -/
module

public import proofs.«01_k».proof.Proof.RouteStored

@[expose] public section

set_option maxRecDepth 16384

noncomputable section

open Idealize.ShloMosaic Idealize.ShloMosaic.TcCoe Idealize.SL.Sem
open Idealize.ShloMosaic.Pipeline (Dat)

namespace Cert.RouteIdeal.Math

open Cert.RouteIdeal Cert.RouteIdeal.Gen Cert.Layer

variable (m : (ℓ : Loc nD τ sig) → Buf (Elt Ideal) ℓ) (c : Dev nD)

/-- The gain the call reads. -/
theorem g_at (k : Fin 1024) : @Eq EReal (V m c main_v0 (ix2 0 k)) (m (c.tc.loc main_arg1) (ix1 k)) := by
  show (shapeCast S1x1024 (m (c.tc.loc main_arg1)) shapeCasts_S1024_S1x1024 : Vec Ideal S1x1024 .f32) (ix2 0 k) = _
  pointwise

/-- Which block of every array a grid point works on. -/
theorem idx : ∀ t : Fin grid0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = t.val ∧ win0_3.index t 1 = 0 ∧ win0_3.index t 2 = 0) ∧
    (win0_4.index t 0 = t.val ∧ win0_4.index t 1 = 0) ∧ (win0_5.index t 0 = t.val ∧ win0_5.index t 1 = 0) ∧ t.val < 16 := by
  decide +kernel

/-- A row of a point's block, among all tokens. -/
def rAt (t : Fin grid0.N) (r : Fin 1024) : Fin 16384 := ⟨t.val * 1024 + r.val, by have := (idx t).2.2.2.2.2.2; omega⟩

/-- The block of tokens. -/
theorem blk_x (t : Fin grid0.N) (r k : Fin 1024) :
    @Eq EReal (iblk m c 0 t (ix2 r k)) (m (c.tc.loc main_arg0) (ix2 (rAt t r) k)) := by
  rw [← V_main_arg0 m c]
  unfold rAt
  blk_ext [iblk, idx t]

/-- The block of the gain. -/
theorem blk_g (t : Fin grid0.N) (k : Fin 1024) : @Eq EReal (iblk m c 1 t (ix2 0 k)) (m (c.tc.loc main_arg1) (ix1 k)) := by
  rw [← g_at m c]
  blk_ext [iblk, idx t]

/-- The block of the weight. -/
theorem blk_w (t : Fin grid0.N) (k : Fin 1024) (e : Fin 8) : @Eq EReal (iblk m c 2 t (ix2 k e)) (m (c.tc.loc main_arg2) (ix2 k e)) := by
  rw [← V_main_arg2 m c]
  blk_ext [iblk, idx t]

/-- A token's normalised entry. -/
def token (r : Fin 16384) (d : Fin 1024) : EReal :=
  normed (fun k => m (c.tc.loc main_arg0) (ix2 r k)) (fun k => m (c.tc.loc main_arg1) (ix1 k)) d

/-- A token's logits. -/
def tokenLogit (r : Fin 16384) : Fin 8 → EReal :=
  logit (fun k => m (c.tc.loc main_arg0) (ix2 r k)) (fun k => m (c.tc.loc main_arg1) (ix1 k)) (fun k e => m (c.tc.loc main_arg2) (ix2 k e))

/-- The normalised tokens. -/
def arrayH : S16384x8x128.Idx → EReal := fun i => token m c (i 0) ⟨(i 1).val * 128 + (i 2).val, by
  have h1 : (i 1).val < 8 := (i 1).isLt
  have h2 : (i 2).val < 128 := (i 2).isLt
  omega⟩

/-- The chosen experts: those of the two greatest logits, the smaller expert first among equal logits. -/
def arrayI : S16384x2.Idx → BitVec 32 := fun i => BitVec.ofNat 32 (best (tokenLogit m c (i 0)) ⟨(i 1).val, by
  have h1 : (i 1).val < 2 := (i 1).isLt
  omega⟩).val

/-- The weights: the softmax of the two greatest logits. -/
def arrayW : S16384x2.Idx → EReal := fun i => pair (fun k => tokenLogit m c (i 0) (best (tokenLogit m c (i 0)) ⟨k.val, by omega⟩)) (i 1)

/-- A point's logits. -/
theorem point_logit (t : Fin grid0.N) (r : Fin 1024) :
    tokenLogit m c (rAt t r) = logit (fun k => iblk m c 0 t (ix2 r k)) (fun k => iblk m c 1 t (ix2 0 k)) (fun k e => iblk m c 2 t (ix2 k e)) := by
  unfold tokenLogit
  rw [funext fun k => blk_x m c t r k, funext fun k => blk_g m c t k, funext fun k => funext fun e => blk_w m c t k e]

/-- THE ARRAY of normalised tokens. -/
theorem final_h : (dats m 0 c).arrAt 3 (cfgs 0).N = arrayH m c := by
  refine (dats m 0 c).arrAt_eq_of_covers 3 _ (by decide +kernel) fun t _ y => ?_
  blk_simp
  rw [after0_3]
  obtain ⟨r, a, b, rfl⟩ : ∃ r a b, y = ix3 r a b := ⟨y 0, y 1, y 2, by idx_vars y⟩
  refine (out_h (iblk m c 0 t) (iblk m c 1 t) (iblk m c 2 t) r a b).trans ?_
  have e0 : (win0_3.blk t).view.emb (ix3 r a b) 0 = rAt t r := Fin.ext (by blk_simp [rAt, idx t] <;> try omega)
  have e1 : (win0_3.blk t).view.emb (ix3 r a b) 1 = a := Fin.ext (by blk_simp [idx t] <;> try omega)
  have e2 : (win0_3.blk t).view.emb (ix3 r a b) 2 = b := Fin.ext (by blk_simp [idx t] <;> try omega)
  unfold arrayH token
  simp only [e0, e1, e2]
  rw [funext fun k => blk_x m c t r k, funext fun k => blk_g m c t k]

/-- THE ARRAY of chosen experts. -/
theorem final_i (hr : ∀ r e, ∃ y : ℝ, tokenLogit m c r e = (y : EReal)) : (dats m 0 c).arrAt 4 (cfgs 0).N = arrayI m c := by
  refine (dats m 0 c).arrAt_eq_of_covers 4 _ (by decide +kernel) fun t _ y => ?_
  blk_simp
  rw [after0_4]
  obtain ⟨r, j, rfl⟩ : ∃ r j, y = ix2 r j := ⟨y 0, y 1, by idx_vars y⟩
  refine (out_i (iblk m c 0 t) (iblk m c 1 t) (iblk m c 2 t) r j (tokenLogit m c (rAt t r)) (point_logit m c t r) ?_).trans ?_
  · obtain ⟨y, hy⟩ := hr (rAt t r) (best (tokenLogit m c (rAt t r)) 1)
    rw [hy]
    exact EReal.coe_ne_bot y
  · have e0 : (win0_4.blk t).view.emb (ix2 r j) 0 = rAt t r := Fin.ext (by blk_simp [rAt, idx t] <;> try omega)
    have e1 : (win0_4.blk t).view.emb (ix2 r j) 1 = j := Fin.ext (by blk_simp [idx t] <;> try omega)
    unfold arrayI
    simp only [e0, e1]

/-- THE ARRAY of weights. -/
theorem final_w (hr : ∀ r e, ∃ y : ℝ, tokenLogit m c r e = (y : EReal)) : (dats m 0 c).arrAt 5 (cfgs 0).N = arrayW m c := by
  refine (dats m 0 c).arrAt_eq_of_covers 5 _ (by decide +kernel) fun t _ y => ?_
  blk_simp
  rw [after0_5]
  obtain ⟨r, j, rfl⟩ : ∃ r j, y = ix2 r j := ⟨y 0, y 1, by idx_vars y⟩
  refine (out_w (iblk m c 0 t) (iblk m c 1 t) (iblk m c 2 t) r j (tokenLogit m c (rAt t r)) (point_logit m c t r) (hr _)).trans ?_
  have e0 : (win0_5.blk t).view.emb (ix2 r j) 0 = rAt t r := Fin.ext (by blk_simp [rAt, idx t] <;> try omega)
  have e1 : (win0_5.blk t).view.emb (ix2 r j) 1 = j := Fin.ext (by blk_simp [idx t] <;> try omega)
  unfold arrayW
  simp only [e0, e1]

/-- Real arguments have real logits. -/
theorem logits_real (hx : ∀ i, @Eq EReal (m (c.tc.loc main_arg0) i) (((m (c.tc.loc main_arg0) i : EReal).toReal : ℝ) : EReal))
    (hg : ∀ i, @Eq EReal (m (c.tc.loc main_arg1) i) (((m (c.tc.loc main_arg1) i : EReal).toReal : ℝ) : EReal))
    (hw : ∀ i, @Eq EReal (m (c.tc.loc main_arg2) i) (((m (c.tc.loc main_arg2) i : EReal).toReal : ℝ) : EReal))
    (r : Fin 16384) (e : Fin 8) : ∃ y : ℝ, tokenLogit m c r e = (y : EReal) := by
  refine dot_real _ _ (fun k => ?_) (fun k => ⟨_, hw (ix2 k e)⟩)
  rw [funext fun k => hx (ix2 r k), funext fun k => hg (ix1 k)]
  exact normed_real _ _ k

end Cert.RouteIdeal.Math

end
-- ==== Proof.RouteReference.lean ====
/- The routing reference, read at an index. -/
module

public import proofs.«01_k».proof.Proof.Gen.RoutedIdeal.Run
public import Idealize.ShloMosaic.Lib.Pipeline.ValueKit
public import Idealize.ShloMosaic.Lib.Pointwise
public import proofs.«01_k».proof.Proof.Norm
public import proofs.«01_k».proof.Proof.RouteReal

@[expose] public section

set_option maxRecDepth 16384

noncomputable section

open Idealize.ShloMosaic Idealize.ShloMosaic.TcCoe Idealize.SL.Sem

namespace Cert.RoutedIdeal.Math

open Cert.RoutedIdeal Cert.RoutedIdeal.Gen Cert.Layer

/-- The normalised tokens. -/
def h (x : FVec Ideal S16384x1024 .f32) (g : FVec Ideal S1024 .f32) : FVec Ideal S16384x1024 .f32 := (mulf (mulf x (broadcastInDim S16384x1024 ![0, 1] bcast_S16384x1_S16384x1024_0_1 (Host.rsqrt (addf (Host.divf (broadcastInDim S16384x1 ![0] bcast_S16384_S16384x1_0 (Host.reduceAdd (mulf x x) (constant (F := Ideal) S_ .f32 0x00000000#32) reducesTo_S16384x1024_S16384_d1 h_S_)) (broadcastInDim S16384x1 ![] bcast_S_S16384x1 (constant (F := Ideal) S_ .f32 0x44800000#32))) (broadcastInDim S16384x1 ![] bcast_S_S16384x1 (constant (F := Ideal) S_ .f32 0x358637BD#32)))))) (broadcastInDim S16384x1024 ![0, 1] bcast_S1x1024_S16384x1024_0_1 (broadcastInDim S1x1024 ![1] bcast_S1024_S1x1024_1 g)))

/-- A normalised entry. -/
theorem h_at (x : FVec Ideal S16384x1024 .f32) (g : FVec Ideal S1024 .f32) (r : Fin 16384) (d : Fin 1024) :
    h x g (ix2 r d) = normed (fun k => x (ix2 r k)) (fun k => g (ix1 k)) d := by
  pointwise [h]
  rfl

/-- The normalised tokens as the reference lays them out. -/
def hT (x : FVec Ideal S16384x1024 .f32) (g : FVec Ideal S1024 .f32) : FVec Ideal S16384x8x128 .f32 :=
  shapeCast S16384x8x128 (h x g) shapeCasts_S16384x1024_S16384x8x128

/-- An entry of that layout. -/
theorem hT_at (x : FVec Ideal S16384x1024 .f32) (g : FVec Ideal S1024 .f32) (r : Fin 16384) (a : Fin 8) (b : Fin 128) :
    hT x g (ix3 r a b) = h x g (ix2 r ⟨a.val * 128 + b.val, by omega⟩) := by
  pointwise [hT]

/-- The logits. -/
def logits (y : FVec Ideal S16384x1024 .f32) (w : FVec Ideal S1024x8 .f32) : FVec Ideal S16384x8 .f32 :=
  Host.dotGeneral dot_S16384x1024_S1024x8_S16384x8_1_0_0_1_n_n none y w

/-- A logit. -/
theorem logits_at (y : FVec Ideal S16384x1024 .f32) (w : FVec Ideal S1024x8 .f32) (r : Fin 16384) (e : Fin 8) :
    logits y w (ix2 r e) = ∑ k : Fin 1024, y (ix2 r k) * w (ix2 k e) := by
  pointwise [logits]

/-- The two greatest logits. -/
def tops (l : FVec Ideal S16384x8 .f32) : FVec Ideal S16384x2 .f32 :=
  (Host.topK S16384x2 1 (FloatOps.cmpfTotal (F := Ideal) (φ := .f32) .gt) l sliceFits_S16384x8_S16384x2).1

/-- Their experts. -/
def picks (l : FVec Ideal S16384x8 .f32) : IVec S16384x2 32 :=
  (Host.topK S16384x2 1 (FloatOps.cmpfTotal (F := Ideal) (φ := .f32) .gt) l sliceFits_S16384x8_S16384x2).2

/-- The position a stable sort of a token's logits puts `k`-th. -/
theorem sorted_at (l : FVec Ideal S16384x8 .f32) (i : S16384x8.Idx) (r : Fin 16384) (hr : i 0 = r) (k : Fin 8) :
    sortedFrom (n := 8) (fun a b => FloatOps.cmpfTotal (F := Ideal) (φ := .f32) .gt (l (Shape.Idx.along i (1 : Fin 2) a)) (l (Shape.Idx.along i (1 : Fin 2) b)) == 1#1) k
      = best (fun e => l (ix2 r e)) k := by
  have hi : ∀ e : Fin 8, Shape.Idx.along i (1 : Fin 2) e = ix2 r e := by
    intro e
    subst hr
    funext a
    match a with
    | 0 => rfl
    | 1 => rfl
  have e : (fun a b : Fin 8 => FloatOps.cmpfTotal (F := Ideal) (φ := .f32) .gt (l (Shape.Idx.along i (1 : Fin 2) a)) (l (Shape.Idx.along i (1 : Fin 2) b)) == 1#1)
      = fun a b => decide (l (ix2 r b) < l (ix2 r a)) := by
    funext a b
    rw [hi a, hi b, Ideal.cmpfTotal_def]
    show (Ideal.cmp .ogt (l (ix2 r a)) (l (ix2 r b)) == 1#1) = _
    by_cases c : l (ix2 r b) < l (ix2 r a) <;> simp [Ideal.cmp, c]
  rw [e]
  rfl

theorem along_at (r : Fin 16384) (a e : Fin 8) : Shape.Idx.along (ix2 r a : S16384x8.Idx) (1 : Fin 2) e = ix2 r e := by
  funext a
  match a with
  | 0 => rfl
  | 1 => rfl

/-- The sort's order, over the row an index lies in. -/
def row (l : FVec Ideal S16384x8 .f32) (i : S16384x8.Idx) : Fin 8 → Fin 8 :=
  sortedFrom (n := 8) (fun a b => FloatOps.cmpfTotal (F := Ideal) (φ := .f32) .gt (l (Shape.Idx.along i (1 : Fin 2) a)) (l (Shape.Idx.along i (1 : Fin 2) b)) == 1#1)

theorem tops_eq (l : FVec Ideal S16384x8 .f32) :
    tops l = extractStridedSlice S16384x2 (fun _ => 0) (fun i : S16384x8.Idx => l (Shape.Idx.along i (1 : Fin 2) (row l i (i 1)))) sliceFits_S16384x8_S16384x2 := rfl

theorem picks_eq (l : FVec Ideal S16384x8 .f32) :
    picks l = extractStridedSlice S16384x2 (fun _ => 0) (fun i : S16384x8.Idx => iotaInDim S16384x8 32 1 (Shape.Idx.along i (1 : Fin 2) (row l i (i 1)))) sliceFits_S16384x8_S16384x2 := rfl

/-- The index a result is cut from. -/
theorem cut (r : Fin 16384) (j : Fin 2) (a : Fin 2) : ((ix2 r (⟨j.val, by omega⟩ : Fin 8) : S16384x8.Idx) a).val = 0 + ((ix2 r j : S16384x2.Idx) a).val := by
  match a with
  | 0 => exact (Nat.zero_add _).symm
  | 1 => exact (Nat.zero_add _).symm

/-- One of the two greatest logits. -/
theorem tops_at (l : FVec Ideal S16384x8 .f32) (r : Fin 16384) (j : Fin 2) :
    tops l (ix2 r j) = l (ix2 r (best (fun e => l (ix2 r e)) ⟨j.val, by omega⟩)) := by
  rw [tops_eq, extractStridedSlice_apply _ _ _ _ (ix2 r (⟨j.val, by omega⟩ : Fin 8)) (cut r j), along_at]
  exact congrArg (fun e => l (ix2 r e)) (sorted_at l _ r rfl _)

/-- Its expert. -/
theorem picks_at (l : FVec Ideal S16384x8 .f32) (r : Fin 16384) (j : Fin 2) :
    picks l (ix2 r j) = BitVec.ofNat 32 (best (fun e => l (ix2 r e)) ⟨j.val, by omega⟩).val := by
  rw [picks_eq, extractStridedSlice_apply _ _ _ _ (ix2 r (⟨j.val, by omega⟩ : Fin 8)) (cut r j), along_at]
  exact congrArg (fun e : Fin 8 => BitVec.ofNat 32 e.val) (sorted_at l _ r rfl _)

/-- The softmax of the two greatest logits. -/
def shares (t : FVec Ideal S16384x2 .f32) : FVec Ideal S16384x2 .f32 :=
  Host.divf (Host.exp (subf t (broadcastInDim S16384x2 ![0, 1] bcast_S16384x1_S16384x2_0_1 (broadcastInDim S16384x1 ![0] bcast_S16384_S16384x1_0 (maximumf (broadcastInDim S16384 ![] bcast_S_S16384 (constant (F := Ideal) S_ .f32 0xFF800000#32)) (Host.reduce (FloatOps.maximumf (F := Ideal) (φ := .f32)) t (constant (F := Ideal) S_ .f32 0xFF800000#32) reducesTo_S16384x2_S16384_d1 h_S_)))))) (broadcastInDim S16384x2 ![0, 1] bcast_S16384x1_S16384x2_0_1 (broadcastInDim S16384x1 ![0] bcast_S16384_S16384x1_0 (Host.reduceAdd (Host.exp (subf t (broadcastInDim S16384x2 ![0, 1] bcast_S16384x1_S16384x2_0_1 (broadcastInDim S16384x1 ![0] bcast_S16384_S16384x1_0 (maximumf (broadcastInDim S16384 ![] bcast_S_S16384 (constant (F := Ideal) S_ .f32 0xFF800000#32)) (Host.reduce (FloatOps.maximumf (F := Ideal) (φ := .f32)) t (constant (F := Ideal) S_ .f32 0xFF800000#32) reducesTo_S16384x2_S16384_d1 h_S_)))))) (constant (F := Ideal) S_ .f32 0x00000000#32) reducesTo_S16384x2_S16384_d1 h_S_)))

/-- An entry of it. -/
theorem shares_at (t : FVec Ideal S16384x2 .f32) (r : Fin 16384) (j : Fin 2) :
    shares t (ix2 r j) = Ideal.div (Ideal.exp (t (ix2 r j) - max ⊥ (Finset.univ.fold max ⊥ fun k : Fin 2 => t (ix2 r k))))
      (∑ k : Fin 2, Ideal.exp (t (ix2 r k) - max ⊥ (Finset.univ.fold max ⊥ fun k : Fin 2 => t (ix2 r k)))) := by
  pointwise [shares]
  simp only [bot]

end Cert.RoutedIdeal.Math

end
-- ==== Proof.RouteFinite.lean ====
/- What the routing call's precondition gives: every argument is a real number. -/
module

public import proofs.«01_k».proof.Proof.Finite
public import proofs.«01_k».proof.Proof.Gen.Pre_real_tokens

@[expose] public section

set_option maxRecDepth 16384

noncomputable section

open Idealize.ShloMosaic Idealize.ShloMosaic.TcCoe Idealize.SL.Sem

namespace Cert.Pre_real_tokens.Math

open Cert.Pre_real_tokens Cert.Pre_finite.Attn

instance : Cert.Pre_real_tokens.Facts := Cert.Pre_real_tokens.Gen.facts

instance : Subsingleton S_.Idx := ⟨fun a b => funext fun i => i.elim0⟩

/-- THE PRECONDITION, read: every entry of the three arguments is real. -/
theorem reals {x0 : FVec Ideal S16384x1024 .f32} {x1 : FVec Ideal S1024 .f32} {x2 : FVec Ideal S1024x8 .f32} (h : fn (F := Ideal) x0 x1 x2 = fun _ => 1#1) :
    (∀ i, @Eq EReal (x0 i) (((x0 i : EReal).toReal : ℝ) : EReal)) ∧ (∀ i, @Eq EReal (x1 i) (((x1 i : EReal).toReal : ℝ) : EReal))
      ∧ ∀ i, @Eq EReal (x2 i) (((x2 i : EReal).toReal : ℝ) : EReal) := by
  have h0 := congrFun h (fun a => a.elim0)
  dsimp only [fn] at h0
  obtain ⟨h01, h2⟩ := split h0
  obtain ⟨h0, h1⟩ := split h01
  exact ⟨fun i => real_of_lt (Host.reduce_andi_all _ _ _ _ _ h0 i), fun i => real_of_lt (Host.reduce_andi_all _ _ _ _ _ h1 i),
    fun i => real_of_lt (Host.reduce_andi_all _ _ _ _ _ h2 i)⟩

end Cert.Pre_real_tokens.Math

end
-- ==== Proof.Route.lean ====
/- The routing call's claims: the reference's frame, and equal results. -/
module

public import proofs.«01_k».proof.Defs
public import proofs.«01_k».proof.Proof.RouteArray
public import proofs.«01_k».proof.Proof.RouteReference
public import proofs.«01_k».proof.Proof.RouteFinite
public import Idealize.ShloMosaic.Adequacy

@[expose] public section

set_option maxRecDepth 16384

noncomputable section

open Idealize.ShloMosaic Idealize.ShloMosaic.TcCoe Idealize.SL.Sem

namespace Cert.Route.Math

open Cert.Layer

/-- The reference of the routing call runs, keeps its arguments, and holds no semaphore. -/
theorem reference_frame (m : (ℓ : Loc Cert.RoutedIdeal.nD Cert.RoutedIdeal.τ Cert.RoutedIdeal.sig) → Buf (Elt Ideal) ℓ)
    (g : Dev Cert.RoutedIdeal.nD → PrngReg) :
    θ_run (Cert.RoutedIdeal.defs (F := Ideal)) (onTc (τ := Cert.RoutedIdeal.τ) (Cert.RoutedIdeal.main (F := Ideal)))
      ⟨m, fun _ => 0, g⟩ (fun r => (∀ c : Dev Cert.RoutedIdeal.nD,
        r.2.mem (c.tc.loc Cert.RoutedIdeal.main_arg0) = m (c.tc.loc Cert.RoutedIdeal.main_arg0)
        ∧ r.2.mem (c.tc.loc Cert.RoutedIdeal.main_arg1) = m (c.tc.loc Cert.RoutedIdeal.main_arg1)
        ∧ r.2.mem (c.tc.loc Cert.RoutedIdeal.main_arg2) = m (c.tc.loc Cert.RoutedIdeal.main_arg2)) ∧ r.2.sem = fun _ => 0) :=
  (θ_run Cert.RoutedIdeal.defs _ _).mono
    (fun r h => ⟨fun c => (h c).2.2.2, Idealize.ShloMosaic.sem_eq_zero_of_no_sems (by decide) r.2⟩)
    (Cert.RoutedIdeal.Value.run (F := Ideal) m g)

section entries

variable (x : FVec Ideal Cert.RoutedIdeal.S16384x1024 .f32) (g : FVec Ideal Cert.RoutedIdeal.S1024 .f32) (w : FVec Ideal Cert.RoutedIdeal.S1024x8 .f32) (r : Fin 16384)

/-- The reference's logits. -/
theorem logits_eq : (fun e => Cert.RoutedIdeal.Math.logits (Cert.RoutedIdeal.Math.h x g) w (ix2 r e))
    = Cert.RouteIdeal.Math.logit (fun k => x (ix2 r k)) (fun k => g (ix1 k)) (fun k e => w (ix2 k e)) := by
  funext e
  rw [Cert.RoutedIdeal.Math.logits_at]
  exact Finset.sum_congr rfl fun k _ => congrArg (fun z : EReal => z * w (ix2 k e)) (Cert.RoutedIdeal.Math.h_at x g r k)

/-- The reference's weights. -/
theorem shares_eq (j : Fin 2) : Cert.RoutedIdeal.Math.shares (Cert.RoutedIdeal.Math.tops (Cert.RoutedIdeal.Math.logits (Cert.RoutedIdeal.Math.h x g) w)) (ix2 r j)
    = pair (fun k => Cert.RoutedIdeal.Math.logits (Cert.RoutedIdeal.Math.h x g) w (ix2 r (best (fun e => Cert.RoutedIdeal.Math.logits (Cert.RoutedIdeal.Math.h x g) w (ix2 r e)) ⟨k.val, by omega⟩))) j := by
  rw [Cert.RoutedIdeal.Math.shares_at]
  simp only [Cert.RoutedIdeal.Math.tops_at]
  rfl

end entries

/-- On real arguments the routing call and its reference leave equal results. -/
theorem algebraic : Cert.algebraic_RouteIdeal_RoutedIdeal_pre_real_tokens (hRouteIdeal := Cert.RouteIdeal.Gen.facts)
    (hRoutedIdeal := Cert.RoutedIdeal.Gen.facts) (hPre_real_tokens := Cert.Pre_real_tokens.Gen.facts) := by
  intro m g m' g' hpre hargs
  have hr : ∀ c r e, ∃ y : ℝ, Cert.RouteIdeal.Math.tokenLogit m c r e = (y : EReal) := fun c => by
    obtain ⟨hx, hg, hw⟩ := Cert.Pre_real_tokens.Math.reals (hpre c)
    exact Cert.RouteIdeal.Math.logits_real m c hx hg hw
  refine ⟨fun c => Cert.RouteIdeal.Math.arrayH m c, fun c => Cert.RouteIdeal.Math.arrayI m c, fun c => Cert.RouteIdeal.Math.arrayW m c, ?_, ?_⟩
  · exact (θ_run Cert.RouteIdeal.defs _ _).mono (fun r h c => ⟨(h c).1.trans (Cert.RouteIdeal.Math.final_h m c),
      (h c).2.1.trans (Cert.RouteIdeal.Math.final_i m c (hr c)), (h c).2.2.1.trans (Cert.RouteIdeal.Math.final_w m c (hr c)), (h c).2.2.2⟩)
      (Cert.RouteIdeal.Value.run_blocks m g)
  · refine (θ_run Cert.RoutedIdeal.defs _ _).mono (fun r h c => ⟨(h c).1.trans ?_, (h c).2.1.trans ?_, (h c).2.2.1.trans ?_, (h c).2.2.2⟩) (Cert.RoutedIdeal.Value.run (F := Ideal) m' g')
    · obtain ⟨a0, a1, a2⟩ := hargs c
      funext i
      obtain ⟨r, a, b, rfl⟩ : ∃ r a b, i = ix3 r a b := ⟨i 0, i 1, i 2, by idx_vars i⟩
      refine (Cert.RoutedIdeal.Math.hT_at (m' (c.tc.loc Cert.RoutedIdeal.main_arg0)) (m' (c.tc.loc Cert.RoutedIdeal.main_arg1)) r a b).trans ((Cert.RoutedIdeal.Math.h_at (m' (c.tc.loc Cert.RoutedIdeal.main_arg0)) (m' (c.tc.loc Cert.RoutedIdeal.main_arg1)) r _).trans ?_)
      rw [a0, a1]
      rfl
    · obtain ⟨a0, a1, a2⟩ := hargs c
      funext i
      obtain ⟨r, j, rfl⟩ : ∃ r j, i = ix2 r j := ⟨i 0, i 1, by idx_vars i⟩
      refine (Cert.RoutedIdeal.Math.picks_at (Cert.RoutedIdeal.Math.logits (Cert.RoutedIdeal.Math.h (m' (c.tc.loc Cert.RoutedIdeal.main_arg0)) (m' (c.tc.loc Cert.RoutedIdeal.main_arg1))) (m' (c.tc.loc Cert.RoutedIdeal.main_arg2))) r j).trans ?_
      rw [logits_eq, a0, a1, a2]
      rfl
    · obtain ⟨a0, a1, a2⟩ := hargs c
      funext i
      obtain ⟨r, j, rfl⟩ : ∃ r j, i = ix2 r j := ⟨i 0, i 1, by idx_vars i⟩
      refine (congrFun (show Cert.RoutedIdeal.Value.res_main_v25 m' c = Cert.RoutedIdeal.Math.shares (Cert.RoutedIdeal.Math.tops (Cert.RoutedIdeal.Math.logits (Cert.RoutedIdeal.Math.h (m' (c.tc.loc Cert.RoutedIdeal.main_arg0)) (m' (c.tc.loc Cert.RoutedIdeal.main_arg1))) (m' (c.tc.loc Cert.RoutedIdeal.main_arg2)))) from rfl) (ix2 r j)).trans ?_
      refine (shares_eq (m' (c.tc.loc Cert.RoutedIdeal.main_arg0)) (m' (c.tc.loc Cert.RoutedIdeal.main_arg1)) (m' (c.tc.loc Cert.RoutedIdeal.main_arg2)) r j).trans ?_
      have e := logits_eq (m' (c.tc.loc Cert.RoutedIdeal.main_arg0)) (m' (c.tc.loc Cert.RoutedIdeal.main_arg1)) (m' (c.tc.loc Cert.RoutedIdeal.main_arg2)) r
      refine (congrArg (fun L : Fin 8 → EReal => pair (fun k : Fin 2 => L (best L ⟨k.val, by omega⟩)) j) e).trans ?_
      rw [a0, a1, a2]
      rfl

end Cert.Route.Math

end
-- ==== Proof.lean ====
/- The certificate of the six calls: of each the runs, the idealization, and the equation with its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Project.Frame
public import proofs.«01_k».proof.Proof.Gen.ProjectIdeal.Frame
public import proofs.«01_k».proof.Proof.Gen.ProjectIdeal.Value
public import proofs.«01_k».proof.Proof.Gen.ProjectedIdeal.Run
public import proofs.«01_k».proof.Proof.Gen.Dense.Frame
public import proofs.«01_k».proof.Proof.Gen.DenseIdeal.Frame
public import proofs.«01_k».proof.Proof.Gen.DenseIdeal.Value
public import proofs.«01_k».proof.Proof.Gen.MixedIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergedIdeal.Run
public import proofs.«01_k».proof.Proof.Attention
public import proofs.«01_k».proof.Proof.Project
public import proofs.«01_k».proof.Proof.Dense
public import proofs.«01_k».proof.Proof.Merge
public import proofs.«01_k».proof.Proof.Prep
public import proofs.«01_k».proof.Proof.Route
public import proofs.«01_k».proof.Proof.Gen.Route.Frame
public import proofs.«01_k».proof.Proof.Gen.RouteIdeal.Frame
public import proofs.«01_k».proof.Proof.Gen.RouteIdeal.Value
public import proofs.«01_k».proof.Proof.Gen.RoutedIdeal.Run
public import proofs.«01_k».proof.Proof.Gen.Pre_real_tokens
public import proofs.«01_k».proof.Proof.Gen.Prep.Frame
public import proofs.«01_k».proof.Proof.Gen.PrepIdeal.Value
public import proofs.«01_k».proof.Proof.Gen.PreparedIdeal.Run
public import Idealize.ShloMosaic.Adequacy
public import Idealize.ShloMosaic.Init

@[expose] public section

noncomputable section

namespace Cert.Proof

open Idealize.ShloMosaic Idealize.SL.Sem Cert.Kernel

/-- Everything the certificate states: the programs' facts, the runs of the six calls, their idealizations and references, the
    idealizations, and that the idealized calls compute what their references do. -/
theorem claim : Cert.Claim :=
  ⟨Cert.Kernel.Gen.facts, Cert.KernelIdeal.Gen.facts, Cert.ReferenceIdeal.Gen.facts, Cert.Project.Gen.facts, Cert.ProjectIdeal.Gen.facts, Cert.ProjectedIdeal.Gen.facts, Cert.Dense.Gen.facts, Cert.DenseIdeal.Gen.facts, Cert.MixedIdeal.Gen.facts, Cert.Merge.Gen.facts, Cert.MergeIdeal.Gen.facts, Cert.MergedIdeal.Gen.facts, Cert.Prep.Gen.facts, Cert.PrepIdeal.Gen.facts, Cert.PreparedIdeal.Gen.facts, Cert.Route.Gen.facts, Cert.RouteIdeal.Gen.facts, Cert.RoutedIdeal.Gen.facts, Cert.Pre_finite.Gen.facts, Cert.Pre_real_tokens.Gen.facts,
    fun m g _ => Cert.Kernel.Gen.frame m g,
    fun m g _ => Cert.KernelIdeal.Gen.frame m g,
    fun m g _ => Cert.KernelIdeal.Gen.frame m g,
    fun m g _ => Cert.Attn.reference_frame m g,
    fun m g _ => Cert.Attn.reference_frame m g,
    fun m g _ => Cert.Project.Gen.frame m g,
    fun m g _ => Cert.ProjectIdeal.Gen.frame m g,
    fun m g _ => Cert.Project.Math.reference_frame m g,
    fun m g _ => Cert.Dense.Gen.frame m g,
    fun m g _ => Cert.DenseIdeal.Gen.frame m g,
    fun m g _ => Cert.Dense.Math.reference_frame m g,
    fun m g _ => Cert.Merge.Gen.frame m g,
    fun m g _ => Cert.MergeIdeal.Gen.frame m g,
    fun m g _ => Cert.Merge.Math.reference_frame m g,
    fun m g _ => Cert.Prep.Gen.frame m g,
    fun m g _ => Cert.PrepIdeal.Gen.frame m g,
    fun m g _ => Cert.Prep.Math.reference_frame m g,
    fun m g _ => Cert.Route.Gen.frame m g,
    fun m g _ => Cert.RouteIdeal.Gen.frame m g,
    fun m g _ => Cert.RouteIdeal.Gen.frame m g,
    fun m g _ => Cert.Route.Math.reference_frame m g,
    fun m g _ => Cert.Route.Math.reference_frame m g,
    trivial, Cert.Attn.algebraic,
    trivial, Cert.Project.Math.algebraic,
    trivial, Cert.Dense.Math.algebraic,
    trivial, Cert.Merge.Math.algebraic,
    ⟨IdealRules.named_const.statement Cert.PrepIdeal.κ "scale" .f32 0x3E16C740#32 (((Real.sqrt 96)⁻¹ * (Real.log 2)⁻¹ : ℝ) : EReal) rfl,
      IdealRules.named_const.statement Cert.PrepIdeal.κ "inv_features" .f32 0x3C2AAAAB#32 ((1 / 96 : ℝ) : EReal) rfl⟩,
    Cert.Prep.Math.algebraic,
    trivial, Cert.Route.Math.algebraic⟩

end Cert.Proof

end
